-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_on_cache_entries [hKernelIdeal : Cert.KernelIdeal.Facts] [hReferenceIdeal : Cert.ReferenceIdeal.Facts] [hOn_cache_entries : Cert.On_cache_entries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12288, 1024]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v4_0) i = v0 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v4_1) i = v1 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.KernelIdeal.nD Cert.KernelIdeal.τ).loc Cert.KernelIdeal.main_v4_2) i = v2 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.KernelIdeal.nD Cert.KernelIdeal.τ).loc Cert.KernelIdeal.main_v4_3) i = v3 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.KernelIdeal.nD Cert.KernelIdeal.τ).loc Cert.KernelIdeal.main_v4_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12288, 1024]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v89) i = v0 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v90) i = v1 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.ReferenceIdeal.nD Cert.ReferenceIdeal.τ).loc Cert.ReferenceIdeal.main_v91) i = v2 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.ReferenceIdeal.nD Cert.ReferenceIdeal.τ).loc Cert.ReferenceIdeal.main_v92) i = v3 c i)
          ∧ (∀ i : (⟨3, ![16, 256, 256]⟩ : Shape).Idx, (Cert.On_cache_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.ReferenceIdeal.nD Cert.ReferenceIdeal.τ).loc Cert.ReferenceIdeal.main_v93) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_on_context_rows_pre_finite_inputs [hKernelIdeal : Cert.KernelIdeal.Facts] [hReferenceIdeal : Cert.ReferenceIdeal.Facts] [hPre_finite_inputs : Cert.Pre_finite_inputs.Facts] [hOn_context_rows : Cert.On_context_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12288, 1024]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v4_0) i = v0 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v4_1) i = v1 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.KernelIdeal.nD Cert.KernelIdeal.τ).loc Cert.KernelIdeal.main_v4_2) i = v2 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.KernelIdeal.nD Cert.KernelIdeal.τ).loc Cert.KernelIdeal.main_v4_3) i = v3 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.KernelIdeal.nD Cert.KernelIdeal.τ).loc Cert.KernelIdeal.main_v4_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12288, 1024]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v89) i = v0 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v90) i = v1 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.ReferenceIdeal.nD Cert.ReferenceIdeal.τ).loc Cert.ReferenceIdeal.main_v91) i = v2 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.ReferenceIdeal.nD Cert.ReferenceIdeal.τ).loc Cert.ReferenceIdeal.main_v92) i = v3 c i)
          ∧ (∀ i : (⟨3, ![16, 256, 256]⟩ : Shape).Idx, (Cert.On_context_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 i = 1#1 → r.2.mem ((c.tc : Thread Cert.ReferenceIdeal.nD Cert.ReferenceIdeal.τ).loc Cert.ReferenceIdeal.main_v93) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v174) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v149) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v148) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts) (hOn_cache_entries : Cert.On_cache_entries.Facts) (hOn_context_rows : Cert.On_context_rows.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_cache_entries (hKernelIdeal := hKernelIdeal) (hReferenceIdeal := hReferenceIdeal) (hOn_cache_entries := hOn_cache_entries)
    ∧ algebraic_KernelIdeal_ReferenceIdeal_on_context_rows_pre_finite_inputs (hKernelIdeal := hKernelIdeal) (hReferenceIdeal := hReferenceIdeal) (hPre_finite_inputs := hPre_finite_inputs) (hOn_context_rows := hOn_context_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_cache_entries.lean ====
abbrev S12288x2048 : Shape := ⟨2, ![12288, 2048]⟩
abbrev S128 : Shape := ⟨1, ![128]⟩
abbrev S4 : Shape := ⟨1, ![4]⟩
abbrev S12288x1024 : Shape := ⟨2, ![12288, 1024]⟩
abbrev S16x256x256 : Shape := ⟨3, ![16, 256, 256]⟩
abbrev S_ : Shape := ⟨0, ![]⟩

class Facts : Prop where
  bcast_S_S16x256x256 : S_.BroadcastsInDim S16x256x256 (![] : Fin 0 → Fin S16x256x256.rank)
  bcast_S_S12288x1024 : S_.BroadcastsInDim S12288x1024 (![] : Fin 0 → Fin S12288x1024.rank)

variable [Facts]

def fn {F : FTy → Type} [FloatOps F] (main_arg0 : FVec F S12288x2048 .f32) (main_arg1 : FVec F S128 .f32) (main_arg2 : FVec F S128 .f32) (main_arg3 : FVec F S4 .f32) : IVec S12288x1024 1 × IVec S16x256x256 1 × IVec S16x256x256 1 × IVec S16x256x256 1 × IVec S16x256x256 1 :=
  let main_v0 : IVec S12288x1024 32 := iotaInDim S12288x1024 32 0
  let main_v1 : IVec S16x256x256 32 := iotaInDim S16x256x256 32 0
  let main_c : IVec S_ 32 := constantI S_ 32 0#32
  let main_v2 : IVec S16x256x256 32 := broadcastInDim S16x256x256 ![] bcast_S_S16x256x256 main_c
  let main_v3 : IVec S16x256x256 1 := cmpi .sge main_v1 main_v2
  let main_c_0 : IVec S_ 32 := constantI S_ 32 0#32
  let main_v4 : IVec S12288x1024 32 := broadcastInDim S12288x1024 ![] bcast_S_S12288x1024 main_c_0
  let main_v5 : IVec S12288x1024 1 := cmpi .slt main_v0 main_v4
  (main_v5, main_v3, main_v3, main_v3, main_v3)
-- ==== On_context_rows.lean ====
abbrev S12288x2048 : Shape := ⟨2, ![12288, 2048]⟩
abbrev S128 : Shape := ⟨1, ![128]⟩
abbrev S4 : Shape := ⟨1, ![4]⟩
abbrev S12288x1024 : Shape := ⟨2, ![12288, 1024]⟩
abbrev S16x256x256 : Shape := ⟨3, ![16, 256, 256]⟩
abbrev S_ : Shape := ⟨0, ![]⟩

class Facts : Prop where
  bcast_S_S16x256x256 : S_.BroadcastsInDim S16x256x256 (![] : Fin 0 → Fin S16x256x256.rank)
  bcast_S_S12288x1024 : S_.BroadcastsInDim S12288x1024 (![] : Fin 0 → Fin S12288x1024.rank)

variable [Facts]

def fn {F : FTy → Type} [FloatOps F] (main_arg0 : FVec F S12288x2048 .f32) (main_arg1 : FVec F S128 .f32) (main_arg2 : FVec F S128 .f32) (main_arg3 : FVec F S4 .f32) : IVec S12288x1024 1 × IVec S16x256x256 1 × IVec S16x256x256 1 × IVec S16x256x256 1 × IVec S16x256x256 1 :=
  let main_v0 : IVec S12288x1024 32 := iotaInDim S12288x1024 32 0
  let main_v1 : IVec S16x256x256 32 := iotaInDim S16x256x256 32 0
  let main_c : IVec S_ 32 := constantI S_ 32 0#32
  let main_v2 : IVec S16x256x256 32 := broadcastInDim S16x256x256 ![] bcast_S_S16x256x256 main_c
  let main_v3 : IVec S16x256x256 1 := cmpi .sge main_v1 main_v2
  let main_c_0 : IVec S_ 32 := constantI S_ 32 4096#32
  let main_v4 : IVec S12288x1024 32 := broadcastInDim S12288x1024 ![] bcast_S_S12288x1024 main_c_0
  let main_v5 : IVec S12288x1024 1 := cmpi .slt main_v0 main_v4
  (main_v5, main_v3, main_v3, main_v3, main_v3)
-- ==== Pre_finite_inputs.lean ====
abbrev S12288x2048 : Shape := ⟨2, ![12288, 2048]⟩
abbrev S128 : Shape := ⟨1, ![128]⟩
abbrev S4 : Shape := ⟨1, ![4]⟩
abbrev S_ : Shape := ⟨0, ![]⟩

class Facts : Prop where
  bcast_S_S12288x2048 : S_.BroadcastsInDim S12288x2048 (![] : Fin 0 → Fin S12288x2048.rank)
  bcast_S_S128 : S_.BroadcastsInDim S128 (![] : Fin 0 → Fin S128.rank)
  bcast_S_S4 : S_.BroadcastsInDim S4 (![] : Fin 0 → Fin S4.rank)

variable [Facts]

def fn {F : FTy → Type} [FloatOps F] (main_arg0 : FVec F S12288x2048 .f32) (main_arg1 : FVec F S128 .f32) (main_arg2 : FVec F S128 .f32) (main_arg3 : FVec F S4 .f32) : IVec S12288x2048 1 × IVec S128 1 × IVec S128 1 × IVec S4 1 :=
  let main_v0 : FVec F S12288x2048 .f32 := Host.absf main_arg0
  let main_cst : FVec F S_ .f32 := constant S_ .f32 0x7F800000#32
  let main_v1 : FVec F S12288x2048 .f32 := broadcastInDim S12288x2048 ![] bcast_S_S12288x2048 main_cst
  let main_v2 : IVec S12288x2048 1 := cmpf .olt main_v0 main_v1
  let main_v3 : FVec F S128 .f32 := Host.absf main_arg1
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  (main_v2, main_v5, main_v8, main_v11)
-- ==== Kernel.lean ====
abbrev S12288x2048 : Shape := ⟨2, ![12288, 2048]⟩
abbrev S128 : Shape := ⟨1, ![128]⟩
abbrev S4 : Shape := ⟨1, ![4]⟩
abbrev S1x4 : Shape := ⟨2, ![1, 4]⟩
abbrev S_ : Shape := ⟨0, ![]⟩
abbrev S1x128 : Shape := ⟨2, ![1, 128]⟩
abbrev S12288x1024 : Shape := ⟨2, ![12288, 1024]⟩
abbrev S16x256x256 : Shape := ⟨3, ![16, 256, 256]⟩
abbrev S256x2048 : Shape := ⟨2, ![256, 2048]⟩
abbrev S256x1024 : Shape := ⟨2, ![256, 1024]⟩
abbrev S1x256x256 : Shape := ⟨3, ![1, 256, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x1 : Shape := ⟨2, ![1, 1]⟩

abbrev nBuf : Space → Nat
  | .hbm => 15
  | .vmem => 15
  | .smem => 0
  | _ => 0

abbrev bufTy : (tb : Table) → Fin (tcTables nBuf tb) → BufTy
  | .hbm, ⟨0, _⟩ => ⟨S12288x2048, .f32⟩
  | .hbm, ⟨1, _⟩ => ⟨S128, .f32⟩
  | .hbm, ⟨2, _⟩ => ⟨S128, .f32⟩
  | .hbm, ⟨3, _⟩ => ⟨S4, .f32⟩
  | .hbm, ⟨4, _⟩ => ⟨S1x4, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S12288x1024, .f32⟩
  | .hbm, ⟨11, _⟩ => ⟨S16x256x256, .f32⟩
  | .hbm, ⟨12, _⟩ => ⟨S16x256x256, .f32⟩
  | .hbm, ⟨13, _⟩ => ⟨S16x256x256, .f32⟩
  | .hbm, ⟨14, _⟩ => ⟨S16x256x256, .f32⟩
  | .local _ .vmem, ⟨0, _⟩ => ⟨S256x2048, .f32⟩
  | .local _ .vmem, ⟨1, _⟩ => ⟨S256x2048, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S12288x2048 : Shape := ⟨2, ![12288, 2048]⟩
abbrev S128 : Shape := ⟨1, ![128]⟩
abbrev S4 : Shape := ⟨1, ![4]⟩
abbrev S4096x2048 : Shape := ⟨2, ![4096, 2048]⟩
abbrev S16x256x2048 : Shape := ⟨3, ![16, 256, 2048]⟩
abbrev S16x256x512 : Shape := ⟨3, ![16, 256, 512]⟩
abbrev S16x256x256 : Shape := ⟨3, ![16, 256, 256]⟩
abbrev S16x256x4x128 : Shape := ⟨4, ![16, 256, 4, 128]⟩
abbrev S_ : Shape := ⟨0, ![]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S16x256x2x2x128 : Shape := ⟨5, ![16, 256, 2, 2, 128]⟩
abbrev S16x2x256x256x2 : Shape := ⟨5, ![16, 2, 256, 256, 2]⟩
abbrev S16x2x2x256x256 : Shape := ⟨5, ![16, 2, 2, 256, 256]⟩
abbrev S16x2x2x256 : Shape := ⟨4, ![16, 2, 2, 256]⟩
abbrev S16x2x2x256x1 : Shape := ⟨5, ![16, 2, 2, 256, 1]⟩
abbrev S16x2x128x2x256 : Shape := ⟨5, ![16, 2, 128, 2, 256]⟩
abbrev S2x2x1x1 : Shape := ⟨4, ![2, 2, 1, 1]⟩
abbrev S1x2x2x1x1 : Shape := ⟨5, ![1, 2, 2, 1, 1]⟩
abbrev S16x256x1024 : Shape := ⟨3, ![16, 256, 1024]⟩
abbrev S4096x1024 : Shape := ⟨2, ![4096, 1024]⟩
abbrev S12288x1024 : Shape := ⟨2, ![12288, 1024]⟩

abbrev nBuf : Space → Nat
  | .hbm => 113
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S128, .f32⟩
  | .hbm, ⟨2, _⟩ => ⟨S128, .f32⟩
  | .hbm, ⟨3, _⟩ => ⟨S4, .f32⟩
  | .hbm, ⟨4, _⟩ => ⟨S4096x2048, .f32⟩
  | .hbm, ⟨5, _⟩ => ⟨S16x256x2048, .f32⟩
  | .hbm, ⟨6, _⟩ => ⟨S16x256x512, .f32⟩
  | .hbm, ⟨7, _⟩ => ⟨S16x256x256, .f32⟩
  | .hbm, ⟨8, _⟩ => ⟨S16x256x256, .f32⟩
  | .hbm, ⟨9, _⟩ => ⟨S16x256x512, .f32⟩
  | .hbm, ⟨10, _⟩ => ⟨S16x256x256, .f32⟩
  | .hbm, ⟨11, _⟩ => ⟨S16x256x256, .f32⟩
  | .hbm, ⟨12, _⟩ => ⟨S16x256x4x128, .f32⟩
  | .hbm, ⟨13, _⟩ => ⟨S16x256x4x128, .f32⟩
  | .hbm, ⟨14, _⟩ => ⟨S_, .f32⟩
  | .hbm, ⟨15, _⟩ => ⟨S16x256x4, .f32⟩
  | .hbm, ⟨16, _⟩ => ⟨S16x256x4x1, .f32⟩
  | .hbm, ⟨17, _⟩ => ⟨S_, .f32⟩
  | .hbm, ⟨18, _⟩ => ⟨S16x256x4x1, .f32⟩
  | .hbm, ⟨19, _⟩ => ⟨S16x256x4x1, .f32⟩
  | .hbm, ⟨20, _⟩ => ⟨S_, .f32⟩
  | .hbm, ⟨21, _⟩ => ⟨S16x256x4x1, .f32⟩
  | .hbm, ⟨22, _⟩ => ⟨S16x256x4x1, .f32⟩
  | .hbm, ⟨23, _⟩ => ⟨S16x256x4x1, .f32⟩
  | .hbm, ⟨24, _⟩ => ⟨S16x256x4x128, .f32⟩
  | .hbm, ⟨25, _⟩ => ⟨S16x256x4x128, .f32⟩
  | .hbm, ⟨26, _⟩ => ⟨S1x1x1x128, .f32⟩
  | .hbm, ⟨27, _⟩ => ⟨S16x256x4x128, .f32⟩
  | .hbm, ⟨28, _⟩ => ⟨S16x256x4x128, .f32⟩
  | .hbm, ⟨29, _⟩ => ⟨S16x256x2x128, .f32⟩
  | .hbm, ⟨30, _⟩ => ⟨S16x256x2x128, .f32⟩
  | .hbm, ⟨31, _⟩ => ⟨S_, .f32⟩
  | .hbm, ⟨32, _⟩ => ⟨S16x256x2, .f32⟩
  | .hbm, ⟨33, _⟩ => ⟨S16x256x2x1, .f32⟩
  | .hbm, ⟨34, _⟩ => ⟨S_, .f32⟩
  | .hbm, ⟨35, _⟩ => ⟨S16x256x2x1, .f32⟩
  | .hbm, ⟨36, _⟩ => ⟨S16x256x2x1, .f32⟩
  | .hbm, ⟨37, _⟩ => ⟨S_, .f32⟩
  | .hbm, ⟨38, _⟩ => ⟨S16x256x2x1, .f32⟩
  | .hbm, ⟨39, _⟩ => ⟨S16x256x2x1, .f32⟩
  | .hbm, ⟨40, _⟩ => ⟨S16x256x2x1, .f32⟩
  | .hbm, ⟨41, _⟩ => ⟨S16x256x2x128, .f32⟩
  | .hbm, ⟨42, _⟩ => ⟨S16x256x2x128, .f32⟩
  | .hbm, ⟨43, _⟩ => ⟨S1x1x1x128, .f32⟩
  | .hbm, ⟨44, _⟩ => ⟨S16x256x2x128, .f32⟩
  | .hbm, ⟨45, _⟩ => ⟨S16x256x2x128, .f32⟩
  | .hbm, ⟨46, _⟩ => ⟨S16x256x2x128, .f32⟩
  | .hbm, ⟨47, _⟩ => ⟨S16x256x4x128, .f32⟩
  | .hbm, ⟨48, _⟩ => ⟨S16x256x2x128, .f32⟩
  | .hbm, ⟨49, _⟩ => ⟨S16x256x2x128, .f32⟩
  | .hbm, ⟨50, _⟩ => ⟨S16x256x2x2x128, .f32⟩
  | .hbm, ⟨51, _⟩ => ⟨S16x2x256x256x2, .f32⟩
  | .hbm, ⟨52, _⟩ => ⟨S16x2x2x256x256, .f32⟩
  | .hbm, ⟨53, _⟩ => ⟨S_, .f32⟩
  | .hbm, ⟨54, _⟩ => ⟨S16x2x2x256x256, .f32⟩
  | .hbm, ⟨55, _⟩ => ⟨S16x2x2x256x256, .f32⟩
  | .hbm, ⟨56, _⟩ => ⟨S_, .f32⟩
  | .hbm, ⟨57, _⟩ => ⟨S16x2x2x256, .f32⟩
  | .hbm, ⟨58, _⟩ => ⟨S_, .f32⟩
  | .hbm, ⟨59, _⟩ => ⟨S16x2x2x256, .f32⟩
  | .hbm, ⟨60, _⟩ => ⟨S16x2x2x256, .f32⟩
  | .hbm, ⟨61, _⟩ => ⟨S16x2x2x256x1, .f32⟩
  | .hbm, ⟨62, _⟩ => ⟨S16x2x2x256x256, .f32⟩
  | .hbm, ⟨63, _⟩ => ⟨S16x2x2x256x256, .f32⟩
  | .hbm, ⟨64, _⟩ => ⟨S16x2x2x256x256, .f32⟩
  | .hbm, ⟨65, _⟩ => ⟨S_, .f32⟩
  | .hbm, ⟨66, _⟩ => ⟨S16x2x2x256, .f32⟩
  | .hbm, ⟨67, _⟩ => ⟨S16x2x2x256x1, .f32⟩
  | .hbm, ⟨68, _⟩ => ⟨S16x2x2x256x256, .f32⟩
  | .hbm, ⟨69, _⟩ => ⟨S16x2x2x256x256, .f32⟩
  | .hbm, ⟨70, _⟩ => ⟨S16x2x128x2x256, .f32⟩
  | .hbm, ⟨71, _⟩ => ⟨S16x256x2x2x128, .f32⟩
  | .hbm, ⟨72, _⟩ => ⟨S16x256x4x128, .f32⟩
  | .hbm, ⟨73, _⟩ => ⟨S16x256x2x2x128, .f32⟩
  | .hbm, ⟨74, _⟩ => ⟨S16x2x256x256x2, .f32⟩
  | .hbm, ⟨75, _⟩ => ⟨S16x2x2x256x256, .f32⟩
  | .hbm, ⟨76, _⟩ => ⟨S_, .f32⟩
  | .hbm, ⟨77, _⟩ => ⟨S16x2x2x256x256, .f32⟩
  | .hbm, ⟨78, _⟩ => ⟨S16x2x2x256x256, .f32⟩
  | .hbm, ⟨79, _⟩ => ⟨S2x2x1x1, .f32⟩
  | .hbm, ⟨80, _⟩ => ⟨S_, .f32⟩
  | .hbm, ⟨81, _⟩ => ⟨S16x2x2x256, .f32⟩
  | .hbm, ⟨82, _⟩ => ⟨S16x2x2x256x1, .f32⟩
  | .hbm, ⟨83, _⟩ => ⟨S1x2x2x1x1, .f32⟩
  | .hbm, ⟨84, _⟩ => ⟨S16x2x2x256x1, .f32⟩
  | .hbm, ⟨85, _⟩ => ⟨S16x2x2x256x1, .f32⟩
  | .hbm, ⟨86, _⟩ => ⟨S16x2x2x256x256, .f32⟩
  | .hbm, ⟨87, _⟩ => ⟨S16x2x2x256x256, .f32⟩
  | .hbm, ⟨88, _⟩ => ⟨S16x2x2x256x256, .f32⟩
  | .hbm, ⟨89, _⟩ => ⟨S_, .f32⟩
  | .hbm, ⟨90, _⟩ => ⟨S16x2x2x256, .f32⟩
  | .hbm, ⟨91, _⟩ => ⟨S16x2x2x256x1, .f32⟩
  | .hbm, ⟨92, _⟩ => ⟨S1x2x2x1x1, .f32⟩
  | .hbm, ⟨93, _⟩ => ⟨S16x2x2x256x1, .f32⟩
  | .hbm, ⟨94, _⟩ => ⟨S16x2x2x256x1, .f32⟩
  | .hbm, ⟨95, _⟩ => ⟨S16x2x2x256x1, .f32⟩
  | .hbm, ⟨96, _⟩ => ⟨S16x2x2x256x1, .f32⟩
  | .hbm, ⟨97, _⟩ => ⟨S16x2x2x256x256, .f32⟩
  | .hbm, ⟨98, _⟩ => ⟨S16x2x2x256x256, .f32⟩
  | .hbm, ⟨99, _⟩ => ⟨S16x2x128x2x256, .f32⟩
  | .hbm, ⟨100, _⟩ => ⟨S16x256x2x2x128, .f32⟩
  | .hbm, ⟨101, _⟩ => ⟨S16x256x4x128, .f32⟩
  | .hbm, ⟨102, _⟩ => ⟨S16x256x512, .f32⟩
  | .hbm, ⟨103, _⟩ => ⟨S16x256x512, .f32⟩
  | .hbm, ⟨104, _⟩ => ⟨S16x256x1024, .f32⟩
  | .hbm, ⟨105, _⟩ => ⟨S4096x1024, .f32⟩
  | .hbm, ⟨106, _⟩ => ⟨S_, .i32⟩
  | .hbm, ⟨107, _⟩ => ⟨S_, .f32⟩
  | .hbm, ⟨108, _⟩ => ⟨S12288x1024, .f32⟩
  | .hbm, ⟨109, _⟩ => ⟨S16x256x256, .f32⟩
  | .hbm, ⟨110, _⟩ => ⟨S16x256x256, .f32⟩
  | .hbm, ⟨111, _⟩ => ⟨S16x256x256, .f32⟩
  | .hbm, ⟨112, _⟩ => ⟨S16x256x256, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_c : Ref sig .tc := ⟨.hbm, 106, rfl⟩
abbrev main_call0_v0 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩

abbrev nD : Nat := 1
abbrev τ : Topo := Topo.v7x

variable {F : FTy → Type} [FloatOps F]
-- ==== Kernel2.lean ====
abbrev S12288x1024 : Shape := ⟨2, ![12288, 1024]⟩
abbrev S16x6x1024 : Shape := ⟨3, ![16, 6, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S1x1024 : Shape := ⟨2, ![1, 1024]⟩
abbrev S1x6x1024 : Shape := ⟨3, ![1, 6, 1024]⟩
abbrev S6x1024 : Shape := ⟨2, ![6, 1024]⟩
abbrev S1024x1 : Shape := ⟨2, ![1024, 1]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 17
  | .vmem => 17
  | .smem => 0
  | _ => 0

abbrev bufTy : (tb : Table) → Fin (tcTables nBuf tb) → BufTy
  | .hbm, ⟨0, _⟩ => ⟨S12288x1024, .f32⟩
  | .hbm, ⟨1, _⟩ => ⟨S12288x1024, .f32⟩
  | .hbm, ⟨2, _⟩ => ⟨S16x6x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S1024, .f32⟩
  | .hbm, ⟨10, _⟩ => ⟨S1024x1024, .bf16⟩
  | .hbm, ⟨11, _⟩ => ⟨S1024x5632, .bf16⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1024x5632, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S12288x1024 : Shape := ⟨2, ![12288, 1024]⟩
abbrev S16x6x1024 : Shape := ⟨3, ![16, 6, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S16x258x2816 : Shape := ⟨3, ![16, 258, 2816]⟩
abbrev S1x2816 : Shape := ⟨2, ![1, 2816]⟩
abbrev S1x1x2816 : Shape := ⟨3, ![1, 1, 2816]⟩
abbrev S8192x1024 : Shape := ⟨2, ![8192, 1024]⟩
abbrev S8x1024x1024 : Shape := ⟨3, ![8, 1024, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1024x2816 : Shape := ⟨3, ![8, 1024, 2816]⟩
abbrev S8x1026x2816 : Shape := ⟨3, ![8, 1026, 2816]⟩

abbrev nBuf : Space → Nat
  | .hbm => 219
  | .vmem => 0
  | .smem => 0
  | _ => 0

abbrev hbmTy0_0 (i : Nat) : BufTy := match i % 128 with
  | 0 => ⟨S12288x1024, .f32⟩
  | 1 => ⟨S12288x1024, .f32⟩
  | 2 => ⟨S16x6x1024, .f32⟩
  | 3 => ⟨S1024x1024, .f32⟩
  | 4 => ⟨S1024, .f32⟩
  | 5 => ⟨S1024x5632, .f32⟩
  | 6 => ⟨S3x2816, .f32⟩
  | 7 => ⟨S2816, .f32⟩
  | 8 => ⟨S2816x1024, .f32⟩
  | 9 => ⟨S1024, .f32⟩
  | 10 => ⟨S4096x1024, .f32⟩
  | 11 => ⟨S16x256x1024, .f32⟩
  | 12 => ⟨S4096x1024, .f32⟩
  | 13 => ⟨S16x256x1024, .f32⟩
  | 14 => ⟨S1x6x1024, .f32⟩
  | 15 => ⟨S1x1x1024, .f32⟩
  | 16 => ⟨S1x1024, .f32⟩
  | 17 => ⟨S1x1x1024, .f32⟩
  | 18 => ⟨S1x1x1024, .f32⟩
  | 19 => ⟨S1x1024, .f32⟩
  | 20 => ⟨S1x1x1024, .f32⟩
  | 21 => ⟨S1x1x1024, .f32⟩
  | 22 => ⟨S1x1024, .f32⟩
  | 23 => ⟨S1x1x1024, .f32⟩
  | 24 => ⟨S1x1x1024, .f32⟩
  | 25 => ⟨S1x1024, .f32⟩
  | 26 => ⟨S1x1x1024, .f32⟩
  | 27 => ⟨S16x256x1024, .f32⟩
  | 28 => ⟨S16x256x1024, .f32⟩
  | 29 => ⟨S16x256x1024, .f32⟩
  | 30 => ⟨S16x256x1024, .f32⟩
  | 31 => ⟨S16x256x1024, .f32⟩
  | 32 => ⟨S_, .f32⟩
  | 33 => ⟨S16x256, .f32⟩
  | 34 => ⟨S16x256x1, .f32⟩
  | 35 => ⟨S_, .f32⟩
  | 36 => ⟨S16x256x1, .f32⟩
  | 37 => ⟨S16x256x1, .f32⟩
  | 38 => ⟨S_, .f32⟩
  | 39 => ⟨S16x256x1, .f32⟩
  | 40 => ⟨S16x256x1, .f32⟩
  | 41 => ⟨S16x256x1, .f32⟩
  | 42 => ⟨S16x256x1024, .f32⟩
  | 43 => ⟨S16x256x1024, .f32⟩
  | 44 => ⟨S1x1x1024, .f32⟩
  | 45 => ⟨S16x256x1024, .f32⟩
  | 46 => ⟨S16x256x1024, .f32⟩
  | 47 => ⟨S_, .f32⟩
  | 48 => ⟨S1x1x1024, .f32⟩
  | 49 => ⟨S1x1x1024, .f32⟩
  | 50 => ⟨S16x256x1024, .f32⟩
  | 51 => ⟨S16x256x1024, .f32⟩
  | 52 => ⟨S16x256x1024, .f32⟩
  | 53 => ⟨S16x256x1024, .f32⟩
  | 54 => ⟨S16x256x5632, .f32⟩
  | 55 => ⟨S16x256x2816, .f32⟩
  | 56 => ⟨S16x256x2816, .f32⟩
  | 57 => ⟨S_, .i32⟩
  | 58 => ⟨S_, .f32⟩
  | 59 => ⟨S16x258x2816, .f32⟩
  | 60 => ⟨S16x256x2816, .f32⟩
  | 61 => ⟨S1x2816, .f32⟩
  | 62 => ⟨S2816, .f32⟩
  | 63 => ⟨S1x1x2816, .f32⟩
  | 64 => ⟨S16x256x2816, .f32⟩
  | 65 => ⟨S16x256x2816, .f32⟩
  | 66 => ⟨S16x256x2816, .f32⟩
  | 67 => ⟨S1x2816, .f32⟩
  | 68 => ⟨S2816, .f32⟩
  | 69 => ⟨S1x1x2816, .f32⟩
  | 70 => ⟨S16x256x2816, .f32⟩
  | 71 => ⟨S16x256x2816, .f32⟩
  | 72 => ⟨S16x256x2816, .f32⟩
  | 73 => ⟨S16x256x2816, .f32⟩
  | 74 => ⟨S1x2816, .f32⟩
  | 75 => ⟨S2816, .f32⟩
  | 76 => ⟨S1x1x2816, .f32⟩
  | 77 => ⟨S16x256x2816, .f32⟩
  | 78 => ⟨S16x256x2816, .f32⟩
  | 79 => ⟨S16x256x2816, .f32⟩
  | 80 => ⟨S1x1x2816, .f32⟩
  | 81 => ⟨S16x256x2816, .f32⟩
  | 82 => ⟨S16x256x2816, .f32⟩
  | 83 => ⟨S16x256x2816, .f32⟩
  | 84 => ⟨S16x256x2816, .f32⟩
  | 85 => ⟨S_, .f32⟩
  | 86 => ⟨S16x256x2816, .f32⟩
  | 87 => ⟨S16x256x2816, .f32⟩
  | 88 => ⟨S_, .f32⟩
  | 89 => ⟨S16x256x2816, .f32⟩
  | 90 => ⟨S16x256x2816, .f32⟩
  | 91 => ⟨S16x256x2816, .f32⟩
  | 92 => ⟨S16x256x2816, .f32⟩
  | 93 => ⟨S16x256x1024, .f32⟩
  | 94 => ⟨S16x256x1024, .f32⟩
  | 95 => ⟨S16x256x1024, .f32⟩
  | 96 => ⟨S16x256x1024, .f32⟩
  | 97 => ⟨S16x256x1024, .f32⟩
  | 98 => ⟨S_, .f32⟩
  | 99 => ⟨S16x256, .f32⟩
  | 100 => ⟨S16x256x1, .f32⟩
  | 101 => ⟨S_, .f32⟩
  | 102 => ⟨S16x256x1, .f32⟩
  | 103 => ⟨S16x256x1, .f32⟩
  | 104 => ⟨S_, .f32⟩
  | 105 => ⟨S16x256x1, .f32⟩
  | 106 => ⟨S16x256x1, .f32⟩
  | 107 => ⟨S16x256x1, .f32⟩
  | 108 => ⟨S16x256x1024, .f32⟩
  | 109 => ⟨S16x256x1024, .f32⟩
  | 110 => ⟨S1x1x1024, .f32⟩
  | 111 => ⟨S16x256x1024, .f32⟩
  | 112 => ⟨S16x256x1024, .f32⟩
  | 113 => ⟨S8192x1024, .f32⟩
  | 114 => ⟨S8x1024x1024, .f32⟩
  | 115 => ⟨S8192x1024, .f32⟩
  | 116 => ⟨S8x1024x1024, .f32⟩
  | 117 => ⟨S8x6x1024, .f32⟩
  | 118 => ⟨S8x1x1024, .f32⟩
  | 119 => ⟨S8x1024, .f32⟩
  | 120 => ⟨S8x1x1024, .f32⟩
  | 121 => ⟨S8x1x1024, .f32⟩
  | 122 => ⟨S8x1024, .f32⟩
  | 123 => ⟨S8x1x1024, .f32⟩
  | 124 => ⟨S8x1x1024, .f32⟩
  | 125 => ⟨S8x1024, .f32⟩
  | 126 => ⟨S8x1x1024, .f32⟩
  | 127 => ⟨S8x1x1024, .f32⟩
  | _ => ⟨S12288x1024, .f32⟩

abbrev hbmTy0_1 (i : Nat) : BufTy := match i % 128 with
  | 0 => ⟨S8x1024, .f32⟩
  | 1 => ⟨S8x1x1024, .f32⟩
  | 2 => ⟨S8x1024x1024, .f32⟩
  | 3 => ⟨S8x1024x1024, .f32⟩
  | 4 => ⟨S8x1024x1024, .f32⟩
  | 5 => ⟨S8x1024x1024, .f32⟩
  | 6 => ⟨S8x1024x1024, .f32⟩
  | 7 => ⟨S_, .f32⟩
  | 8 => ⟨S8x1024, .f32⟩
  | 9 => ⟨S8x1024x1, .f32⟩
  | 10 => ⟨S_, .f32⟩
  | 11 => ⟨S8x1024x1, .f32⟩
  | 12 => ⟨S8x1024x1, .f32⟩
  | 13 => ⟨S_, .f32⟩
  | 14 => ⟨S8x1024x1, .f32⟩
  | 15 => ⟨S8x1024x1, .f32⟩
  | 16 => ⟨S8x1024x1, .f32⟩
  | 17 => ⟨S8x1024x1024, .f32⟩
  | 18 => ⟨S8x1024x1024, .f32⟩
  | 19 => ⟨S1x1x1024, .f32⟩
  | 20 => ⟨S8x1024x1024, .f32⟩
  | 21 => ⟨S8x1024x1024, .f32⟩
  | 22 => ⟨S_, .f32⟩
  | 23 => ⟨S8x1x1024, .f32⟩
  | 24 => ⟨S8x1x1024, .f32⟩
  | 25 => ⟨S8x1024x1024, .f32⟩
  | 26 => ⟨S8x1024x1024, .f32⟩
  | 27 => ⟨S8x1024x1024, .f32⟩
  | 28 => ⟨S8x1024x1024, .f32⟩
  | 29 => ⟨S8x1024x5632, .f32⟩
  | 30 => ⟨S8x1024x2816, .f32⟩
  | 31 => ⟨S8x1024x2816, .f32⟩
  | 32 => ⟨S_, .i32⟩
  | 33 => ⟨S_, .f32⟩
  | 34 => ⟨S8x1026x2816, .f32⟩
  | 35 => ⟨S8x1024x2816, .f32⟩
  | 36 => ⟨S1x2816, .f32⟩
  | 37 => ⟨S2816, .f32⟩
  | 38 => ⟨S1x1x2816, .f32⟩
  | 39 => ⟨S8x1024x2816, .f32⟩
  | 40 => ⟨S8x1024x2816, .f32⟩
  | 41 => ⟨S8x1024x2816, .f32⟩
  | 42 => ⟨S1x2816, .f32⟩
  | 43 => ⟨S2816, .f32⟩
  | 44 => ⟨S1x1x2816, .f32⟩
  | 45 => ⟨S8x1024x2816, .f32⟩
  | 46 => ⟨S8x1024x2816, .f32⟩
  | 47 => ⟨S8x1024x2816, .f32⟩
  | 48 => ⟨S8x1024x2816, .f32⟩
  | 49 => ⟨S1x2816, .f32⟩
  | 50 => ⟨S2816, .f32⟩
  | 51 => ⟨S1x1x2816, .f32⟩
  | 52 => ⟨S8x1024x2816, .f32⟩
  | 53 => ⟨S8x1024x2816, .f32⟩
  | 54 => ⟨S8x1024x2816, .f32⟩
  | 55 => ⟨S1x1x2816, .f32⟩
  | 56 => ⟨S8x1024x2816, .f32⟩
  | 57 => ⟨S8x1024x2816, .f32⟩
  | 58 => ⟨S8x1024x2816, .f32⟩
  | 59 => ⟨S8x1024x2816, .f32⟩
  | 60 => ⟨S_, .f32⟩
  | 61 => ⟨S8x1024x2816, .f32⟩
  | 62 => ⟨S8x1024x2816, .f32⟩
  | 63 => ⟨S_, .f32⟩
  | 64 => ⟨S8x1024x2816, .f32⟩
  | 65 => ⟨S8x1024x2816, .f32⟩
  | 66 => ⟨S8x1024x2816, .f32⟩
  | 67 => ⟨S8x1024x2816, .f32⟩
  | 68 => ⟨S8x1024x1024, .f32⟩
  | 69 => ⟨S8x1024x1024, .f32⟩
  | 70 => ⟨S8x1024x1024, .f32⟩
  | 71 => ⟨S8x1024x1024, .f32⟩
  | 72 => ⟨S8x1024x1024, .f32⟩
  | 73 => ⟨S_, .f32⟩
  | 74 => ⟨S8x1024, .f32⟩
  | 75 => ⟨S8x1024x1, .f32⟩
  | 76 => ⟨S_, .f32⟩
  | 77 => ⟨S8x1024x1, .f32⟩
  | 78 => ⟨S8x1024x1, .f32⟩
  | 79 => ⟨S_, .f32⟩
  | 80 => ⟨S8x1024x1, .f32⟩
  | 81 => ⟨S8x1024x1, .f32⟩
  | 82 => ⟨S8x1024x1, .f32⟩
  | 83 => ⟨S8x1024x1024, .f32⟩
  | 84 => ⟨S8x1024x1024, .f32⟩
  | 85 => ⟨S1x1x1024, .f32⟩
  | 86 => ⟨S8x1024x1024, .f32⟩
  | 87 => ⟨S8x1024x1024, .f32⟩
  | 88 => ⟨S4096x1024, .f32⟩
  | 89 => ⟨S8192x1024, .f32⟩
  | 90 => ⟨S12288x1024, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_call0_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_3 : Ref sig .tc := ⟨.hbm, 98, rfl⟩
abbrev main_v74 : Ref sig .tc := ⟨.hbm, 99, rfl⟩
abbrev main_v75 : Ref sig .tc := ⟨.hbm, 100, rfl⟩
abbrev main_cst_4 : Ref sig .tc := ⟨.hbm, 101, rfl⟩
abbrev main_v76 : Ref sig .tc := ⟨.hbm, 102, rfl⟩
abbrev main_v77 : Ref sig .tc := ⟨.hbm, 103, rfl⟩
abbrev main_cst_5 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_6 : Ref sig .tc := ⟨.hbm, 135, rfl⟩
abbrev main_v108 : Ref sig .tc := ⟨.hbm, 136, rfl⟩
abbrev main_v109 : Ref sig .tc := ⟨.hbm, 137, rfl⟩
abbrev main_cst_7 : Ref sig .tc := ⟨.hbm, 138, rfl⟩
abbrev main_v110 : Ref sig .tc := ⟨.hbm, 139, rfl⟩
abbrev main_v111 : Ref sig .tc := ⟨.hbm, 140, rfl⟩
abbrev main_cst_8 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_9 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_c_10 : Ref sig .tc := ⟨.hbm, 160, rfl⟩
abbrev main_call2_v0 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_call3_v0 : Ref sig .tc := ⟨.hbm, 186, rfl⟩
abbrev main_call3_v1 : Ref sig .tc := ⟨.hbm, 187, rfl⟩
abbrev main_call3_cst : Ref sig .tc := ⟨.hbm, 188, rfl⟩
abbrev main_call3_v2 : Ref sig .tc := ⟨.hbm, 189, rfl⟩
abbrev main_call3_v3 : Ref sig .tc := ⟨.hbm, 190, rfl⟩
abbrev main_call3_cst_0 : Ref sig .tc := ⟨.hbm, 191, rfl⟩
abbrev main_call3_v4 : Ref sig .tc := ⟨.hbm, 192, rfl⟩
abbrev main_call3_v5 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_11 : Ref sig .tc := ⟨.hbm, 201, rfl⟩
abbrev main_v160 : Ref sig .tc := ⟨.hbm, 202, rfl⟩
abbrev main_v161 : Ref sig .tc := ⟨.hbm, 203, rfl⟩
abbrev main_cst_12 : Ref sig .tc := ⟨.hbm, 204, rfl⟩
abbrev main_v162 : Ref sig .tc := ⟨.hbm, 205, rfl⟩
abbrev main_v163 : Ref sig .tc := ⟨.hbm, 206, rfl⟩
abbrev main_cst_13 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩

abbrev nD : Nat := 1
abbrev τ : Topo := Topo.v7x

variable {F : FTy → Type} [FloatOps F]
-- ==== Kernel3.lean ====
abbrev S12288x1024 : Shape := ⟨2, ![12288, 1024]⟩
abbrev S12288x512 : Shape := ⟨2, ![12288, 512]⟩
abbrev S16x6x1024 : Shape := ⟨3, ![16, 6, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S512x1024 : Shape := ⟨2, ![512, 1024]⟩
abbrev S1x2816 : Shape := ⟨2, ![1, 2816]⟩
abbrev S1x1024 : Shape := ⟨2, ![1, 1024]⟩
abbrev S1024x512 : Shape := ⟨2, ![1024, 512]⟩
abbrev S1x6x1024 : Shape := ⟨3, ![1, 6, 1024]⟩
abbrev S6x1024 : Shape := ⟨2, ![6, 1024]⟩
abbrev S1024x1 : Shape := ⟨2, ![1024, 1]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 18
  | .vmem => 19
  | .smem => 0
  | _ => 0

abbrev bufTy : (tb : Table) → Fin (tcTables nBuf tb) → BufTy
  | .hbm, ⟨0, _⟩ => ⟨S12288x1024, .f32⟩
  | .hbm, ⟨1, _⟩ => ⟨S12288x512, .f32⟩
  | .hbm, ⟨2, _⟩ => ⟨S12288x512, .f32⟩
  | .hbm, ⟨3, _⟩ => ⟨S16x6x1024, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x2816, .f32⟩
  | .hbm, ⟨8, _⟩ => ⟨S2816, .f32⟩
  | .hbm, ⟨9, _⟩ => ⟨S2816x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x5632, .bf16⟩
  | .hbm, ⟨14, _⟩ => ⟨S1x2816, .f32⟩
  | .hbm, ⟨15, _⟩ => ⟨S2816x1024, .bf16⟩
  | .hbm, ⟨16, _⟩ => ⟨S1x1024, .f32⟩
  | .hbm, ⟨17, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x5632, .bf16⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S12288x1024 : Shape := ⟨2, ![12288, 1024]⟩
abbrev S12288x512 : Shape := ⟨2, ![12288, 512]⟩
abbrev S16x6x1024 : Shape := ⟨3, ![16, 6, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S16x258x2816 : Shape := ⟨3, ![16, 258, 2816]⟩
abbrev S1x2816 : Shape := ⟨2, ![1, 2816]⟩
abbrev S1x1x2816 : Shape := ⟨3, ![1, 1, 2816]⟩
abbrev S8192x1024 : Shape := ⟨2, ![8192, 1024]⟩
abbrev S8x1024x1024 : Shape := ⟨3, ![8, 1024, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1024x2816 : Shape := ⟨3, ![8, 1024, 2816]⟩
abbrev S8x1026x2816 : Shape := ⟨3, ![8, 1026, 2816]⟩

abbrev nBuf : Space → Nat
  | .hbm => 188
  | .vmem => 0
  | .smem => 0
  | _ => 0

abbrev hbmTy0_0 (i : Nat) : BufTy := match i % 128 with
  | 0 => ⟨S12288x1024, .f32⟩
  | 1 => ⟨S12288x512, .f32⟩
  | 2 => ⟨S12288x512, .f32⟩
  | 3 => ⟨S16x6x1024, .f32⟩
  | 4 => ⟨S1024x1024, .f32⟩
  | 5 => ⟨S1024, .f32⟩
  | 6 => ⟨S1024x5632, .f32⟩
  | 7 => ⟨S3x2816, .f32⟩
  | 8 => ⟨S2816, .f32⟩
  | 9 => ⟨S2816x1024, .f32⟩
  | 10 => ⟨S12288x1024, .f32⟩
  | 11 => ⟨S4096x1024, .f32⟩
  | 12 => ⟨S16x256x1024, .f32⟩
  | 13 => ⟨S4096x1024, .f32⟩
  | 14 => ⟨S16x256x1024, .f32⟩
  | 15 => ⟨S1x6x1024, .f32⟩
  | 16 => ⟨S1x1x1024, .f32⟩
  | 17 => ⟨S1x1024, .f32⟩
  | 18 => ⟨S1x1x1024, .f32⟩
  | 19 => ⟨S1x1x1024, .f32⟩
  | 20 => ⟨S1x1024, .f32⟩
  | 21 => ⟨S1x1x1024, .f32⟩
  | 22 => ⟨S1x1x1024, .f32⟩
  | 23 => ⟨S1x1024, .f32⟩
  | 24 => ⟨S1x1x1024, .f32⟩
  | 25 => ⟨S1x1x1024, .f32⟩
  | 26 => ⟨S1x1024, .f32⟩
  | 27 => ⟨S1x1x1024, .f32⟩
  | 28 => ⟨S16x256x1024, .f32⟩
  | 29 => ⟨S16x256x1024, .f32⟩
  | 30 => ⟨S16x256x1024, .f32⟩
  | 31 => ⟨S16x256x1024, .f32⟩
  | 32 => ⟨S16x256x1024, .f32⟩
  | 33 => ⟨S_, .f32⟩
  | 34 => ⟨S16x256, .f32⟩
  | 35 => ⟨S16x256x1, .f32⟩
  | 36 => ⟨S_, .f32⟩
  | 37 => ⟨S16x256x1, .f32⟩
  | 38 => ⟨S16x256x1, .f32⟩
  | 39 => ⟨S_, .f32⟩
  | 40 => ⟨S16x256x1, .f32⟩
  | 41 => ⟨S16x256x1, .f32⟩
  | 42 => ⟨S16x256x1, .f32⟩
  | 43 => ⟨S16x256x1024, .f32⟩
  | 44 => ⟨S16x256x1024, .f32⟩
  | 45 => ⟨S1x1x1024, .f32⟩
  | 46 => ⟨S16x256x1024, .f32⟩
  | 47 => ⟨S16x256x1024, .f32⟩
  | 48 => ⟨S_, .f32⟩
  | 49 => ⟨S1x1x1024, .f32⟩
  | 50 => ⟨S1x1x1024, .f32⟩
  | 51 => ⟨S16x256x1024, .f32⟩
  | 52 => ⟨S16x256x1024, .f32⟩
  | 53 => ⟨S16x256x1024, .f32⟩
  | 54 => ⟨S16x256x1024, .f32⟩
  | 55 => ⟨S16x256x5632, .f32⟩
  | 56 => ⟨S16x256x2816, .f32⟩
  | 57 => ⟨S16x256x2816, .f32⟩
  | 58 => ⟨S_, .i32⟩
  | 59 => ⟨S_, .f32⟩
  | 60 => ⟨S16x258x2816, .f32⟩
  | 61 => ⟨S16x256x2816, .f32⟩
  | 62 => ⟨S1x2816, .f32⟩
  | 63 => ⟨S2816, .f32⟩
  | 64 => ⟨S1x1x2816, .f32⟩
  | 65 => ⟨S16x256x2816, .f32⟩
  | 66 => ⟨S16x256x2816, .f32⟩
  | 67 => ⟨S16x256x2816, .f32⟩
  | 68 => ⟨S1x2816, .f32⟩
  | 69 => ⟨S2816, .f32⟩
  | 70 => ⟨S1x1x2816, .f32⟩
  | 71 => ⟨S16x256x2816, .f32⟩
  | 72 => ⟨S16x256x2816, .f32⟩
  | 73 => ⟨S16x256x2816, .f32⟩
  | 74 => ⟨S16x256x2816, .f32⟩
  | 75 => ⟨S1x2816, .f32⟩
  | 76 => ⟨S2816, .f32⟩
  | 77 => ⟨S1x1x2816, .f32⟩
  | 78 => ⟨S16x256x2816, .f32⟩
  | 79 => ⟨S16x256x2816, .f32⟩
  | 80 => ⟨S16x256x2816, .f32⟩
  | 81 => ⟨S1x1x2816, .f32⟩
  | 82 => ⟨S16x256x2816, .f32⟩
  | 83 => ⟨S16x256x2816, .f32⟩
  | 84 => ⟨S16x256x2816, .f32⟩
  | 85 => ⟨S16x256x2816, .f32⟩
  | 86 => ⟨S_, .f32⟩
  | 87 => ⟨S16x256x2816, .f32⟩
  | 88 => ⟨S16x256x2816, .f32⟩
  | 89 => ⟨S_, .f32⟩
  | 90 => ⟨S16x256x2816, .f32⟩
  | 91 => ⟨S16x256x2816, .f32⟩
  | 92 => ⟨S16x256x2816, .f32⟩
  | 93 => ⟨S16x256x2816, .f32⟩
  | 94 => ⟨S16x256x1024, .f32⟩
  | 95 => ⟨S16x256x1024, .f32⟩
  | 96 => ⟨S16x256x1024, .f32⟩
  | 97 => ⟨S16x256x1024, .f32⟩
  | 98 => ⟨S8192x1024, .f32⟩
  | 99 => ⟨S8x1024x1024, .f32⟩
  | 100 => ⟨S8192x1024, .f32⟩
  | 101 => ⟨S8x1024x1024, .f32⟩
  | 102 => ⟨S8x6x1024, .f32⟩
  | 103 => ⟨S8x1x1024, .f32⟩
  | 104 => ⟨S8x1024, .f32⟩
  | 105 => ⟨S8x1x1024, .f32⟩
  | 106 => ⟨S8x1x1024, .f32⟩
  | 107 => ⟨S8x1024, .f32⟩
  | 108 => ⟨S8x1x1024, .f32⟩
  | 109 => ⟨S8x1x1024, .f32⟩
  | 110 => ⟨S8x1024, .f32⟩
  | 111 => ⟨S8x1x1024, .f32⟩
  | 112 => ⟨S8x1x1024, .f32⟩
  | 113 => ⟨S8x1024, .f32⟩
  | 114 => ⟨S8x1x1024, .f32⟩
  | 115 => ⟨S8x1024x1024, .f32⟩
  | 116 => ⟨S8x1024x1024, .f32⟩
  | 117 => ⟨S8x1024x1024, .f32⟩
  | 118 => ⟨S8x1024x1024, .f32⟩
  | 119 => ⟨S8x1024x1024, .f32⟩
  | 120 => ⟨S_, .f32⟩
  | 121 => ⟨S8x1024, .f32⟩
  | 122 => ⟨S8x1024x1, .f32⟩
  | 123 => ⟨S_, .f32⟩
  | 124 => ⟨S8x1024x1, .f32⟩
  | 125 => ⟨S8x1024x1, .f32⟩
  | 126 => ⟨S_, .f32⟩
  | 127 => ⟨S8x1024x1, .f32⟩
  | _ => ⟨S12288x1024, .f32⟩

abbrev hbmTy0_1 (i : Nat) : BufTy := match i % 128 with
  | 0 => ⟨S8x1024x1, .f32⟩
  | 1 => ⟨S8x1024x1, .f32⟩
  | 2 => ⟨S8x1024x1024, .f32⟩
  | 3 => ⟨S8x1024x1024, .f32⟩
  | 4 => ⟨S1x1x1024, .f32⟩
  | 5 => ⟨S8x1024x1024, .f32⟩
  | 6 => ⟨S8x1024x1024, .f32⟩
  | 7 => ⟨S_, .f32⟩
  | 8 => ⟨S8x1x1024, .f32⟩
  | 9 => ⟨S8x1x1024, .f32⟩
  | 10 => ⟨S8x1024x1024, .f32⟩
  | 11 => ⟨S8x1024x1024, .f32⟩
  | 12 => ⟨S8x1024x1024, .f32⟩
  | 13 => ⟨S8x1024x1024, .f32⟩
  | 14 => ⟨S8x1024x5632, .f32⟩
  | 15 => ⟨S8x1024x2816, .f32⟩
  | 16 => ⟨S8x1024x2816, .f32⟩
  | 17 => ⟨S_, .i32⟩
  | 18 => ⟨S_, .f32⟩
  | 19 => ⟨S8x1026x2816, .f32⟩
  | 20 => ⟨S8x1024x2816, .f32⟩
  | 21 => ⟨S1x2816, .f32⟩
  | 22 => ⟨S2816, .f32⟩
  | 23 => ⟨S1x1x2816, .f32⟩
  | 24 => ⟨S8x1024x2816, .f32⟩
  | 25 => ⟨S8x1024x2816, .f32⟩
  | 26 => ⟨S8x1024x2816, .f32⟩
  | 27 => ⟨S1x2816, .f32⟩
  | 28 => ⟨S2816, .f32⟩
  | 29 => ⟨S1x1x2816, .f32⟩
  | 30 => ⟨S8x1024x2816, .f32⟩
  | 31 => ⟨S8x1024x2816, .f32⟩
  | 32 => ⟨S8x1024x2816, .f32⟩
  | 33 => ⟨S8x1024x2816, .f32⟩
  | 34 => ⟨S1x2816, .f32⟩
  | 35 => ⟨S2816, .f32⟩
  | 36 => ⟨S1x1x2816, .f32⟩
  | 37 => ⟨S8x1024x2816, .f32⟩
  | 38 => ⟨S8x1024x2816, .f32⟩
  | 39 => ⟨S8x1024x2816, .f32⟩
  | 40 => ⟨S1x1x2816, .f32⟩
  | 41 => ⟨S8x1024x2816, .f32⟩
  | 42 => ⟨S8x1024x2816, .f32⟩
  | 43 => ⟨S8x1024x2816, .f32⟩
  | 44 => ⟨S8x1024x2816, .f32⟩
  | 45 => ⟨S_, .f32⟩
  | 46 => ⟨S8x1024x2816, .f32⟩
  | 47 => ⟨S8x1024x2816, .f32⟩
  | 48 => ⟨S_, .f32⟩
  | 49 => ⟨S8x1024x2816, .f32⟩
  | 50 => ⟨S8x1024x2816, .f32⟩
  | 51 => ⟨S8x1024x2816, .f32⟩
  | 52 => ⟨S8x1024x2816, .f32⟩
  | 53 => ⟨S8x1024x1024, .f32⟩
  | 54 => ⟨S8x1024x1024, .f32⟩
  | 55 => ⟨S8x1024x1024, .f32⟩
  | 56 => ⟨S8x1024x1024, .f32⟩
  | 57 => ⟨S4096x1024, .f32⟩
  | 58 => ⟨S8192x1024, .f32⟩
  | 59 => ⟨S12288x1024, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_3 : Ref sig .tc := ⟨.hbm, 120, rfl⟩
abbrev main_v96 : Ref sig .tc := ⟨.hbm, 121, rfl⟩
abbrev main_v97 : Ref sig .tc := ⟨.hbm, 122, rfl⟩
abbrev main_cst_4 : Ref sig .tc := ⟨.hbm, 123, rfl⟩
abbrev main_v98 : Ref sig .tc := ⟨.hbm, 124, rfl⟩
abbrev main_v99 : Ref sig .tc := ⟨.hbm, 125, rfl⟩
abbrev main_cst_5 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_6 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_c_7 : Ref sig .tc := ⟨.hbm, 145, rfl⟩
abbrev main_call2_v0 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_call3_v0 : Ref sig .tc := ⟨.hbm, 171, rfl⟩
abbrev main_call3_v1 : Ref sig .tc := ⟨.hbm, 172, rfl⟩
abbrev main_call3_cst : Ref sig .tc := ⟨.hbm, 173, rfl⟩
abbrev main_call3_v2 : Ref sig .tc := ⟨.hbm, 174, rfl⟩
abbrev main_call3_v3 : Ref sig .tc := ⟨.hbm, 175, rfl⟩
abbrev main_call3_cst_0 : Ref sig .tc := ⟨.hbm, 176, rfl⟩
abbrev main_call3_v4 : Ref sig .tc := ⟨.hbm, 177, rfl⟩
abbrev main_call3_v5 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩

abbrev nD : Nat := 1
abbrev τ : Topo := Topo.v7x

variable {F : FTy → Type} [FloatOps F]
-- ==== Kernel4.lean ====
abbrev S12288x1024 : Shape := ⟨2, ![12288, 1024]⟩
abbrev S16x6x1024 : Shape := ⟨3, ![16, 6, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S1x1024 : Shape := ⟨2, ![1, 1024]⟩
abbrev S1x6x1024 : Shape := ⟨3, ![1, 6, 1024]⟩
abbrev S6x1024 : Shape := ⟨2, ![6, 1024]⟩
abbrev S1024x1 : Shape := ⟨2, ![1024, 1]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩

abbrev nBuf : Space → Nat
  | .hbm => 15
  | .vmem => 16
  | .smem => 0
  | _ => 0

abbrev bufTy : (tb : Table) → Fin (tcTables nBuf tb) → BufTy
  | .hbm, ⟨0, _⟩ => ⟨S12288x1024, .f32⟩
  | .hbm, ⟨1, _⟩ => ⟨S12288x1024, .f32⟩
  | .hbm, ⟨2, _⟩ => ⟨S16x6x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x2816, .f32⟩
  | .hbm, ⟨7, _⟩ => ⟨S2816, .f32⟩
  | .hbm, ⟨8, _⟩ => ⟨S2816x1024, .f32⟩
  | .hbm, ⟨9, _⟩ => ⟨S1024x1024, .bf16⟩
  | .hbm, ⟨10, _⟩ => ⟨S1024x5632, .bf16⟩
  | .hbm, ⟨11, _⟩ => ⟨S1x2816, .f32⟩
  | .hbm, ⟨12, _⟩ => ⟨S2816x1024, .bf16⟩
  | .hbm, ⟨13, _⟩ => ⟨S1x1024, .f32⟩
  | .hbm, ⟨14, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1024x5632, .bf16⟩
  | .local _ .vmem, ⟨9, _⟩ => ⟨S3x2816, .f32⟩
  | .local _ .vmem, ⟨10, _⟩ => ⟨S1x2816, .f32⟩
  | .local _ .vmem, ⟨11, _⟩ => ⟨S2816x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi v1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S12288x1024 : Shape := ⟨2, ![12288, 1024]⟩
abbrev S16x6x1024 : Shape := ⟨3, ![16, 6, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S16x258x2816 : Shape := ⟨3, ![16, 258, 2816]⟩
abbrev S1x2816 : Shape := ⟨2, ![1, 2816]⟩
abbrev S1x1x2816 : Shape := ⟨3, ![1, 1, 2816]⟩
abbrev S8192x1024 : Shape := ⟨2, ![8192, 1024]⟩
abbrev S8x1024x1024 : Shape := ⟨3, ![8, 1024, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x1024x1 : Shape := ⟨3, ![8, 1024, 1]⟩
abbrev S8x1024x5632 : Shape := ⟨3, ![8, 1024, 5632]⟩
abbrev S8x1024x2816 : Shape := ⟨3, ![8, 1024, 2816]⟩
abbrev S8x1026x2816 : Shape := ⟨3, ![8, 1026, 2816]⟩

abbrev nBuf : Space → Nat
  | .hbm => 186
  | .vmem => 0
  | .smem => 0
  | _ => 0

abbrev hbmTy0_0 (i : Nat) : BufTy := match i % 128 with
  | 0 => ⟨S12288x1024, .f32⟩
  | 1 => ⟨S12288x1024, .f32⟩
  | 2 => ⟨S16x6x1024, .f32⟩
  | 3 => ⟨S1024x1024, .f32⟩
  | 4 => ⟨S1024, .f32⟩
  | 5 => ⟨S1024x5632, .f32⟩
  | 6 => ⟨S3x2816, .f32⟩
  | 7 => ⟨S2816, .f32⟩
  | 8 => ⟨S2816x1024, .f32⟩
  | 9 => ⟨S4096x1024, .f32⟩
  | 10 => ⟨S16x256x1024, .f32⟩
  | 11 => ⟨S4096x1024, .f32⟩
  | 12 => ⟨S16x256x1024, .f32⟩
  | 13 => ⟨S1x6x1024, .f32⟩
  | 14 => ⟨S1x1x1024, .f32⟩
  | 15 => ⟨S1x1024, .f32⟩
  | 16 => ⟨S1x1x1024, .f32⟩
  | 17 => ⟨S1x1x1024, .f32⟩
  | 18 => ⟨S1x1024, .f32⟩
  | 19 => ⟨S1x1x1024, .f32⟩
  | 20 => ⟨S1x1x1024, .f32⟩
  | 21 => ⟨S1x1024, .f32⟩
  | 22 => ⟨S1x1x1024, .f32⟩
  | 23 => ⟨S1x1x1024, .f32⟩
  | 24 => ⟨S1x1024, .f32⟩
  | 25 => ⟨S1x1x1024, .f32⟩
  | 26 => ⟨S16x256x1024, .f32⟩
  | 27 => ⟨S16x256x1024, .f32⟩
  | 28 => ⟨S16x256x1024, .f32⟩
  | 29 => ⟨S16x256x1024, .f32⟩
  | 30 => ⟨S16x256x1024, .f32⟩
  | 31 => ⟨S_, .f32⟩
  | 32 => ⟨S16x256, .f32⟩
  | 33 => ⟨S16x256x1, .f32⟩
  | 34 => ⟨S_, .f32⟩
  | 35 => ⟨S16x256x1, .f32⟩
  | 36 => ⟨S16x256x1, .f32⟩
  | 37 => ⟨S_, .f32⟩
  | 38 => ⟨S16x256x1, .f32⟩
  | 39 => ⟨S16x256x1, .f32⟩
  | 40 => ⟨S16x256x1, .f32⟩
  | 41 => ⟨S16x256x1024, .f32⟩
  | 42 => ⟨S16x256x1024, .f32⟩
  | 43 => ⟨S1x1x1024, .f32⟩
  | 44 => ⟨S16x256x1024, .f32⟩
  | 45 => ⟨S16x256x1024, .f32⟩
  | 46 => ⟨S_, .f32⟩
  | 47 => ⟨S1x1x1024, .f32⟩
  | 48 => ⟨S1x1x1024, .f32⟩
  | 49 => ⟨S16x256x1024, .f32⟩
  | 50 => ⟨S16x256x1024, .f32⟩
  | 51 => ⟨S16x256x1024, .f32⟩
  | 52 => ⟨S16x256x1024, .f32⟩
  | 53 => ⟨S16x256x5632, .f32⟩
  | 54 => ⟨S16x256x2816, .f32⟩
  | 55 => ⟨S16x256x2816, .f32⟩
  | 56 => ⟨S_, .i32⟩
  | 57 => ⟨S_, .f32⟩
  | 58 => ⟨S16x258x2816, .f32⟩
  | 59 => ⟨S16x256x2816, .f32⟩
  | 60 => ⟨S1x2816, .f32⟩
  | 61 => ⟨S2816, .f32⟩
  | 62 => ⟨S1x1x2816, .f32⟩
  | 63 => ⟨S16x256x2816, .f32⟩
  | 64 => ⟨S16x256x2816, .f32⟩
  | 65 => ⟨S16x256x2816, .f32⟩
  | 66 => ⟨S1x2816, .f32⟩
  | 67 => ⟨S2816, .f32⟩
  | 68 => ⟨S1x1x2816, .f32⟩
  | 69 => ⟨S16x256x2816, .f32⟩
  | 70 => ⟨S16x256x2816, .f32⟩
  | 71 => ⟨S16x256x2816, .f32⟩
  | 72 => ⟨S16x256x2816, .f32⟩
  | 73 => ⟨S1x2816, .f32⟩
  | 74 => ⟨S2816, .f32⟩
  | 75 => ⟨S1x1x2816, .f32⟩
  | 76 => ⟨S16x256x2816, .f32⟩
  | 77 => ⟨S16x256x2816, .f32⟩
  | 78 => ⟨S16x256x2816, .f32⟩
  | 79 => ⟨S1x1x2816, .f32⟩
  | 80 => ⟨S16x256x2816, .f32⟩
  | 81 => ⟨S16x256x2816, .f32⟩
  | 82 => ⟨S16x256x2816, .f32⟩
  | 83 => ⟨S16x256x2816, .f32⟩
  | 84 => ⟨S_, .f32⟩
  | 85 => ⟨S16x256x2816, .f32⟩
  | 86 => ⟨S16x256x2816, .f32⟩
  | 87 => ⟨S_, .f32⟩
  | 88 => ⟨S16x256x2816, .f32⟩
  | 89 => ⟨S16x256x2816, .f32⟩
  | 90 => ⟨S16x256x2816, .f32⟩
  | 91 => ⟨S16x256x2816, .f32⟩
  | 92 => ⟨S16x256x1024, .f32⟩
  | 93 => ⟨S16x256x1024, .f32⟩
  | 94 => ⟨S16x256x1024, .f32⟩
  | 95 => ⟨S16x256x1024, .f32⟩
  | 96 => ⟨S8192x1024, .f32⟩
  | 97 => ⟨S8x1024x1024, .f32⟩
  | 98 => ⟨S8192x1024, .f32⟩
  | 99 => ⟨S8x1024x1024, .f32⟩
  | 100 => ⟨S8x6x1024, .f32⟩
  | 101 => ⟨S8x1x1024, .f32⟩
  | 102 => ⟨S8x1024, .f32⟩
  | 103 => ⟨S8x1x1024, .f32⟩
  | 104 => ⟨S8x1x1024, .f32⟩
  | 105 => ⟨S8x1024, .f32⟩
  | 106 => ⟨S8x1x1024, .f32⟩
  | 107 => ⟨S8x1x1024, .f32⟩
  | 108 => ⟨S8x1024, .f32⟩
  | 109 => ⟨S8x1x1024, .f32⟩
  | 110 => ⟨S8x1x1024, .f32⟩
  | 111 => ⟨S8x1024, .f32⟩
  | 112 => ⟨S8x1x1024, .f32⟩
  | 113 => ⟨S8x1024x1024, .f32⟩
  | 114 => ⟨S8x1024x1024, .f32⟩
  | 115 => ⟨S8x1024x1024, .f32⟩
  | 116 => ⟨S8x1024x1024, .f32⟩
  | 117 => ⟨S8x1024x1024, .f32⟩
  | 118 => ⟨S_, .f32⟩
  | 119 => ⟨S8x1024, .f32⟩
  | 120 => ⟨S8x1024x1, .f32⟩
  | 121 => ⟨S_, .f32⟩
  | 122 => ⟨S8x1024x1, .f32⟩
  | 123 => ⟨S8x1024x1, .f32⟩
  | 124 => ⟨S_, .f32⟩
  | 125 => ⟨S8x1024x1, .f32⟩
  | 126 => ⟨S8x1024x1, .f32⟩
  | 127 => ⟨S8x1024x1, .f32⟩
  | _ => ⟨S12288x1024, .f32⟩

abbrev hbmTy0_1 (i : Nat) : BufTy := match i % 128 with
  | 0 => ⟨S8x1024x1024, .f32⟩
  | 1 => ⟨S8x1024x1024, .f32⟩
  | 2 => ⟨S1x1x1024, .f32⟩
  | 3 => ⟨S8x1024x1024, .f32⟩
  | 4 => ⟨S8x1024x1024, .f32⟩
  | 5 => ⟨S_, .f32⟩
  | 6 => ⟨S8x1x1024, .f32⟩
  | 7 => ⟨S8x1x1024, .f32⟩
  | 8 => ⟨S8x1024x1024, .f32⟩
  | 9 => ⟨S8x1024x1024, .f32⟩
  | 10 => ⟨S8x1024x1024, .f32⟩
  | 11 => ⟨S8x1024x1024, .f32⟩
  | 12 => ⟨S8x1024x5632, .f32⟩
  | 13 => ⟨S8x1024x2816, .f32⟩
  | 14 => ⟨S8x1024x2816, .f32⟩
  | 15 => ⟨S_, .i32⟩
  | 16 => ⟨S_, .f32⟩
  | 17 => ⟨S8x1026x2816, .f32⟩
  | 18 => ⟨S8x1024x2816, .f32⟩
  | 19 => ⟨S1x2816, .f32⟩
  | 20 => ⟨S2816, .f32⟩
  | 21 => ⟨S1x1x2816, .f32⟩
  | 22 => ⟨S8x1024x2816, .f32⟩
  | 23 => ⟨S8x1024x2816, .f32⟩
  | 24 => ⟨S8x1024x2816, .f32⟩
  | 25 => ⟨S1x2816, .f32⟩
  | 26 => ⟨S2816, .f32⟩
  | 27 => ⟨S1x1x2816, .f32⟩
  | 28 => ⟨S8x1024x2816, .f32⟩
  | 29 => ⟨S8x1024x2816, .f32⟩
  | 30 => ⟨S8x1024x2816, .f32⟩
  | 31 => ⟨S8x1024x2816, .f32⟩
  | 32 => ⟨S1x2816, .f32⟩
  | 33 => ⟨S2816, .f32⟩
  | 34 => ⟨S1x1x2816, .f32⟩
  | 35 => ⟨S8x1024x2816, .f32⟩
  | 36 => ⟨S8x1024x2816, .f32⟩
  | 37 => ⟨S8x1024x2816, .f32⟩
  | 38 => ⟨S1x1x2816, .f32⟩
  | 39 => ⟨S8x1024x2816, .f32⟩
  | 40 => ⟨S8x1024x2816, .f32⟩
  | 41 => ⟨S8x1024x2816, .f32⟩
  | 42 => ⟨S8x1024x2816, .f32⟩
  | 43 => ⟨S_, .f32⟩
  | 44 => ⟨S8x1024x2816, .f32⟩
  | 45 => ⟨S8x1024x2816, .f32⟩
  | 46 => ⟨S_, .f32⟩
  | 47 => ⟨S8x1024x2816, .f32⟩
  | 48 => ⟨S8x1024x2816, .f32⟩
  | 49 => ⟨S8x1024x2816, .f32⟩
  | 50 => ⟨S8x1024x2816, .f32⟩
  | 51 => ⟨S8x1024x1024, .f32⟩
  | 52 => ⟨S8x1024x1024, .f32⟩
  | 53 => ⟨S8x1024x1024, .f32⟩
  | 54 => ⟨S8x1024x1024, .f32⟩
  | 55 => ⟨S4096x1024, .f32⟩
  | 56 => ⟨S8192x1024, .f32⟩
  | 57 => ⟨S12288x1024, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_call0_v0 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_3 : Ref sig .tc := ⟨.hbm, 118, rfl⟩
abbrev main_v95 : Ref sig .tc := ⟨.hbm, 119, rfl⟩
abbrev main_v96 : Ref sig .tc := ⟨.hbm, 120, rfl⟩
abbrev main_cst_4 : Ref sig .tc := ⟨.hbm, 121, rfl⟩
abbrev main_v97 : Ref sig .tc := ⟨.hbm, 122, rfl⟩
abbrev main_v98 : Ref sig .tc := ⟨.hbm, 123, rfl⟩
abbrev main_cst_5 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_6 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_c_7 : Ref sig .tc := ⟨.hbm, 143, rfl⟩
abbrev main_call2_v0 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_call3_v0 : Ref sig .tc := ⟨.hbm, 169, rfl⟩
abbrev main_call3_v1 : Ref sig .tc := ⟨.hbm, 170, rfl⟩
abbrev main_call3_cst : Ref sig .tc := ⟨.hbm, 171, rfl⟩
abbrev main_call3_v2 : Ref sig .tc := ⟨.hbm, 172, rfl⟩
abbrev main_call3_v3 : Ref sig .tc := ⟨.hbm, 173, rfl⟩
abbrev main_call3_cst_0 : Ref sig .tc := ⟨.hbm, 174, rfl⟩
abbrev main_call3_v4 : Ref sig .tc := ⟨.hbm, 175, rfl⟩
abbrev main_call3_v5 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩

abbrev nD : Nat := 1
abbrev τ : Topo := Topo.v7x

variable {F : FTy → Type} [FloatOps F]
-- ==== Kernel5.lean ====
abbrev S12288x1024 : Shape := ⟨2, ![12288, 1024]⟩
abbrev S16x6x1024 : Shape := ⟨3, ![16, 6, 1024]⟩
abbrev S1024 : Shape := ⟨1, ![1024]⟩
abbrev S1024x2048 : Shape := ⟨2, ![1024, 2048]⟩
abbrev S1x1024 : Shape := ⟨2, ![1, 1024]⟩
abbrev S12288x2048 : Shape := ⟨2, ![12288, 2048]⟩
abbrev S512x1024 : Shape := ⟨2, ![512, 1024]⟩
abbrev S1x6x1024 : Shape := ⟨3, ![1, 6, 1024]⟩
abbrev S512x2048 : Shape := ⟨2, ![512, 2048]⟩
abbrev S6x1024 : Shape := ⟨2, ![6, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 8
  | .smem => 0
  | _ => 0

abbrev bufTy : (tb : Table) → Fin (tcTables nBuf tb) → BufTy
  | .hbm, ⟨0, _⟩ => ⟨S12288x1024, .f32⟩
  | .hbm, ⟨1, _⟩ => ⟨S16x6x1024, .f32⟩
  | .hbm, ⟨2, _⟩ => ⟨S1024, .f32⟩
  | .hbm, ⟨3, _⟩ => ⟨S1024x2048, .f32⟩
  | .hbm, ⟨4, _⟩ => ⟨S1024x2048, .bf16⟩
  | .hbm, ⟨5, _⟩ => ⟨S1x1024, .f32⟩
  | .hbm, ⟨6, _⟩ => ⟨S12288x2048, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S12288x1024 : Shape := ⟨2, ![12288, 1024]⟩
abbrev S16x6x1024 : Shape := ⟨3, ![16, 6, 1024]⟩
abbrev S1024 : Shape := ⟨1, ![1024]⟩
abbrev S1024x2048 : Shape := ⟨2, ![1024, 2048]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16x256x2048 : Shape := ⟨3, ![16, 256, 2048]⟩
abbrev S8192x1024 : Shape := ⟨2, ![8192, 1024]⟩
abbrev S8x1024x1024 : Shape := ⟨3, ![8, 1024, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x1024x1 : Shape := ⟨3, ![8, 1024, 1]⟩
abbrev S8x1024x2048 : Shape := ⟨3, ![8, 1024, 2048]⟩
abbrev S4096x2048 : Shape := ⟨2, ![4096, 2048]⟩
abbrev S8192x2048 : Shape := ⟨2, ![8192, 2048]⟩
abbrev S12288x2048 : Shape := ⟨2, ![12288, 2048]⟩

abbrev nBuf : Space → Nat
  | .hbm => 73
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S16x6x1024, .f32⟩
  | .hbm, ⟨2, _⟩ => ⟨S1024, .f32⟩
  | .hbm, ⟨3, _⟩ => ⟨S1024x2048, .f32⟩
  | .hbm, ⟨4, _⟩ => ⟨S4096x1024, .f32⟩
  | .hbm, ⟨5, _⟩ => ⟨S16x256x1024, .f32⟩
  | .hbm, ⟨6, _⟩ => ⟨S1x6x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x2048, .f32⟩
  | .hbm, ⟨37, _⟩ => ⟨S8192x1024, .f32⟩
  | .hbm, ⟨38, _⟩ => ⟨S8x1024x1024, .f32⟩
  | .hbm, ⟨39, _⟩ => ⟨S8x6x1024, .f32⟩
  | .hbm, ⟨40, _⟩ => ⟨S8x1x1024, .f32⟩
  | .hbm, ⟨41, _⟩ => ⟨S8x1024, .f32⟩
  | .hbm, ⟨42, _⟩ => ⟨S8x1x1024, .f32⟩
  | .hbm, ⟨43, _⟩ => ⟨S8x1x1024, .f32⟩
  | .hbm, ⟨44, _⟩ => ⟨S8x1024, .f32⟩
  | .hbm, ⟨45, _⟩ => ⟨S8x1x1024, .f32⟩
  | .hbm, ⟨46, _⟩ => ⟨S8x1024x1024, .f32⟩
  | .hbm, ⟨47, _⟩ => ⟨S_, .f32⟩
  | .hbm, ⟨48, _⟩ => ⟨S8x1024, .f32⟩
  | .hbm, ⟨49, _⟩ => ⟨S8x1024x1, .f32⟩
  | .hbm, ⟨50, _⟩ => ⟨S_, .f32⟩
  | .hbm, ⟨51, _⟩ => ⟨S8x1024x1, .f32⟩
  | .hbm, ⟨52, _⟩ => ⟨S8x1024x1, .f32⟩
  | .hbm, ⟨53, _⟩ => ⟨S_, .f32⟩
  | .hbm, ⟨54, _⟩ => ⟨S8x1024x1, .f32⟩
  | .hbm, ⟨55, _⟩ => ⟨S8x1024x1, .f32⟩
  | .hbm, ⟨56, _⟩ => ⟨S8x1024x1, .f32⟩
  | .hbm, ⟨57, _⟩ => ⟨S8x1024x1024, .f32⟩
  | .hbm, ⟨58, _⟩ => ⟨S8x1024x1024, .f32⟩
  | .hbm, ⟨59, _⟩ => ⟨S1x1x1024, .f32⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x1024x1024, .f32⟩
  | .hbm, ⟨66, _⟩ => ⟨S8x1024x1024, .f32⟩
  | .hbm, ⟨67, _⟩ => ⟨S8x1024x1024, .f32⟩
  | .hbm, ⟨68, _⟩ => ⟨S8x1024x1024, .f32⟩
  | .hbm, ⟨69, _⟩ => ⟨S8x1024x2048, .f32⟩
  | .hbm, ⟨70, _⟩ => ⟨S4096x2048, .f32⟩
  | .hbm, ⟨71, _⟩ => ⟨S8192x2048, .f32⟩
  | .hbm, ⟨72, _⟩ => ⟨S12288x2048, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Kernel6.lean ====
abbrev S12288x1024 : Shape := ⟨2, ![12288, 1024]⟩
abbrev S16x6x1024 : Shape := ⟨3, ![16, 6, 1024]⟩
abbrev S1024 : Shape := ⟨1, ![1024]⟩
abbrev S1024x3600 : Shape := ⟨2, ![1024, 3600]⟩
abbrev S1024x1536 : Shape := ⟨2, ![1024, 1536]⟩
abbrev S1024x512 : Shape := ⟨2, ![1024, 512]⟩
abbrev S1024x3584 : Shape := ⟨2, ![1024, 3584]⟩
abbrev S1024x16 : Shape := ⟨2, ![1024, 16]⟩
abbrev S_ : Shape := ⟨0, ![]⟩
abbrev S1024x128 : Shape := ⟨2, ![1024, 128]⟩
abbrev S1024x3712 : Shape := ⟨2, ![1024, 3712]⟩
abbrev S1x1024 : Shape := ⟨2, ![1, 1024]⟩
abbrev S12288x3712 : Shape := ⟨2, ![12288, 3712]⟩
abbrev S512x1024 : Shape := ⟨2, ![512, 1024]⟩
abbrev S1x6x1024 : Shape := ⟨3, ![1, 6, 1024]⟩
abbrev S512x3712 : Shape := ⟨2, ![512, 3712]⟩
abbrev S6x1024 : Shape := ⟨2, ![6, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 16
  | .vmem => 8
  | .smem => 0
  | _ => 0

abbrev bufTy : (tb : Table) → Fin (tcTables nBuf tb) → BufTy
  | .hbm, ⟨0, _⟩ => ⟨S12288x1024, .f32⟩
  | .hbm, ⟨1, _⟩ => ⟨S16x6x1024, .f32⟩
  | .hbm, ⟨2, _⟩ => ⟨S1024, .f32⟩
  | .hbm, ⟨3, _⟩ => ⟨S1024x3600, .f32⟩
  | .hbm, ⟨4, _⟩ => ⟨S1024x1536, .f32⟩
  | .hbm, ⟨5, _⟩ => ⟨S1024x1536, .f32⟩
  | .hbm, ⟨6, _⟩ => ⟨S1024x512, .f32⟩
  | .hbm, ⟨7, _⟩ => ⟨S1024x3584, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x3712, .f32⟩
  | .hbm, ⟨13, _⟩ => ⟨S1024x3712, .bf16⟩
  | .hbm, ⟨14, _⟩ => ⟨S1x1024, .f32⟩
  | .hbm, ⟨15, _⟩ => ⟨S12288x3712, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3712, .bf16⟩
  | .local _ .vmem, ⟨6, _⟩ => ⟨S512x3712, .f32⟩
  | .local _ .vmem, ⟨7, _⟩ => ⟨S512x3712, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3712 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S12288x1024 : Shape := ⟨2, ![12288, 1024]⟩
abbrev S16x6x1024 : Shape := ⟨3, ![16, 6, 1024]⟩
abbrev S1024 : Shape := ⟨1, ![1024]⟩
abbrev S1024x3600 : Shape := ⟨2, ![1024, 3600]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16x256x3600 : Shape := ⟨3, ![16, 256, 3600]⟩
abbrev S8192x1024 : Shape := ⟨2, ![8192, 1024]⟩
abbrev S8x1024x1024 : Shape := ⟨3, ![8, 1024, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x1024x1 : Shape := ⟨3, ![8, 1024, 1]⟩
abbrev S8x1024x3600 : Shape := ⟨3, ![8, 1024, 3600]⟩
abbrev S4096x3600 : Shape := ⟨2, ![4096, 3600]⟩
abbrev S8192x3600 : Shape := ⟨2, ![8192, 3600]⟩
abbrev S12288x3600 : Shape := ⟨2, ![12288, 3600]⟩
abbrev S12288x1536 : Shape := ⟨2, ![12288, 1536]⟩
abbrev S12288x512 : Shape := ⟨2, ![12288, 512]⟩
abbrev S12288x16 : Shape := ⟨2, ![12288, 16]⟩
abbrev S12288x128 : Shape := ⟨2, ![12288, 128]⟩
abbrev S12288x3712 : Shape := ⟨2, ![12288, 3712]⟩

abbrev nBuf : Space → Nat
  | .hbm => 81
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S16x6x1024, .f32⟩
  | .hbm, ⟨2, _⟩ => ⟨S1024, .f32⟩
  | .hbm, ⟨3, _⟩ => ⟨S1024x3600, .f32⟩
  | .hbm, ⟨4, _⟩ => ⟨S4096x1024, .f32⟩
  | .hbm, ⟨5, _⟩ => ⟨S16x256x1024, .f32⟩
  | .hbm, ⟨6, _⟩ => ⟨S1x6x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x3600, .f32⟩
  | .hbm, ⟨37, _⟩ => ⟨S8192x1024, .f32⟩
  | .hbm, ⟨38, _⟩ => ⟨S8x1024x1024, .f32⟩
  | .hbm, ⟨39, _⟩ => ⟨S8x6x1024, .f32⟩
  | .hbm, ⟨40, _⟩ => ⟨S8x1x1024, .f32⟩
  | .hbm, ⟨41, _⟩ => ⟨S8x1024, .f32⟩
  | .hbm, ⟨42, _⟩ => ⟨S8x1x1024, .f32⟩
  | .hbm, ⟨43, _⟩ => ⟨S8x1x1024, .f32⟩
  | .hbm, ⟨44, _⟩ => ⟨S8x1024, .f32⟩
  | .hbm, ⟨45, _⟩ => ⟨S8x1x1024, .f32⟩
  | .hbm, ⟨46, _⟩ => ⟨S8x1024x1024, .f32⟩
  | .hbm, ⟨47, _⟩ => ⟨S_, .f32⟩
  | .hbm, ⟨48, _⟩ => ⟨S8x1024, .f32⟩
  | .hbm, ⟨49, _⟩ => ⟨S8x1024x1, .f32⟩
  | .hbm, ⟨50, _⟩ => ⟨S_, .f32⟩
  | .hbm, ⟨51, _⟩ => ⟨S8x1024x1, .f32⟩
  | .hbm, ⟨52, _⟩ => ⟨S8x1024x1, .f32⟩
  | .hbm, ⟨53, _⟩ => ⟨S_, .f32⟩
  | .hbm, ⟨54, _⟩ => ⟨S8x1024x1, .f32⟩
  | .hbm, ⟨55, _⟩ => ⟨S8x1024x1, .f32⟩
  | .hbm, ⟨56, _⟩ => ⟨S8x1024x1, .f32⟩
  | .hbm, ⟨57, _⟩ => ⟨S8x1024x1024, .f32⟩
  | .hbm, ⟨58, _⟩ => ⟨S8x1024x1024, .f32⟩
  | .hbm, ⟨59, _⟩ => ⟨S1x1x1024, .f32⟩
  | .hbm, ⟨60, _⟩ => ⟨S8x1024x1024, .f32⟩
  | .hbm, ⟨61, _⟩ => ⟨S8x1024x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x1024x1024, .f32⟩
  | .hbm, ⟨66, _⟩ => ⟨S8x1024x1024, .f32⟩
  | .hbm, ⟨67, _⟩ => ⟨S8x1024x1024, .f32⟩
  | .hbm, ⟨68, _⟩ => ⟨S8x1024x1024, .f32⟩
  | .hbm, ⟨69, _⟩ => ⟨S8x1024x3600, .f32⟩
  | .hbm, ⟨70, _⟩ => ⟨S4096x3600, .f32⟩
  | .hbm, ⟨71, _⟩ => ⟨S8192x3600, .f32⟩
  | .hbm, ⟨72, _⟩ => ⟨S12288x3600, .f32⟩
  | .hbm, ⟨73, _⟩ => ⟨S12288x1536, .f32⟩
  | .hbm, ⟨74, _⟩ => ⟨S12288x512, .f32⟩
  | .hbm, ⟨75, _⟩ => ⟨S12288x16, .f32⟩
  | .hbm, ⟨76, _⟩ => ⟨S12288x1536, .f32⟩
  | .hbm, ⟨77, _⟩ => ⟨S_, .i32⟩
  | .hbm, ⟨78, _⟩ => ⟨S_, .f32⟩
  | .hbm, ⟨79, _⟩ => ⟨S12288x128, .f32⟩
  | .hbm, ⟨80, _⟩ => ⟨S12288x3712, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c : Ref sig .tc := ⟨.hbm, 77, rfl⟩
abbrev main_call0_v0 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Kernel7.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S4x1x6144, .f32⟩
  | .hbm, ⟨9, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S7x1024 : Shape := ⟨2, ![7, 1024]⟩
abbrev S1x1024 : Shape := ⟨2, ![1, 1024]⟩
abbrev S1x4x6144 : Shape := ⟨3, ![1, 4, 6144]⟩
abbrev S4x1x6144 : Shape := ⟨3, ![4, 1, 6144]⟩
abbrev S8x4x6144 : Shape := ⟨3, ![8, 4, 6144]⟩
abbrev S4x8x6144 : Shape := ⟨3, ![4, 8, 6144]⟩
abbrev S7x4x6144 : Shape := ⟨3, ![7, 4, 6144]⟩
abbrev S4x7x6144 : Shape := ⟨3, ![4, 7, 6144]⟩
abbrev S4x16x6144 : Shape := ⟨3, ![4, 16, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S7x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x4x6144, .f32⟩
  | .hbm, ⟨17, _⟩ => ⟨S4x1x6144, .f32⟩
  | .hbm, ⟨18, _⟩ => ⟨S4x1x6144, .f32⟩
  | .hbm, ⟨19, _⟩ => ⟨S4x1x6144, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S8x4x6144, .f32⟩
  | .hbm, ⟨30, _⟩ => ⟨S4x1x6144, .f32⟩
  | .hbm, ⟨31, _⟩ => ⟨S4x8x6144, .f32⟩
  | .hbm, ⟨32, _⟩ => ⟨S4x8x6144, .f32⟩
  | .hbm, ⟨33, _⟩ => ⟨S4x8x6144, .f32⟩
  | .hbm, ⟨34, _⟩ => ⟨S7x1024, .f32⟩
  | .hbm, ⟨35, _⟩ => ⟨S7x1024, .f32⟩
  | .hbm, ⟨36, _⟩ => ⟨S_, .f32⟩
  | .hbm, ⟨37, _⟩ => ⟨S7x1024, .f32⟩
  | .hbm, ⟨38, _⟩ => ⟨S7x1024, .f32⟩
  | .hbm, ⟨39, _⟩ => ⟨S_, .f32⟩
  | .hbm, ⟨40, _⟩ => ⟨S7x1024, .f32⟩
  | .hbm, ⟨41, _⟩ => ⟨S7x1024, .f32⟩
  | .hbm, ⟨42, _⟩ => ⟨S7x1024, .f32⟩
  | .hbm, ⟨43, _⟩ => ⟨S7x4x6144, .f32⟩
  | .hbm, ⟨44, _⟩ => ⟨S4x1x6144, .f32⟩
  | .hbm, ⟨45, _⟩ => ⟨S4x7x6144, .f32⟩
  | .hbm, ⟨46, _⟩ => ⟨S4x7x6144, .f32⟩
  | .hbm, ⟨47, _⟩ => ⟨S4x7x6144, .f32⟩
  | .hbm, ⟨48, _⟩ => ⟨S4x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_call2_v5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]
-- ==== Proof.Alg.lean ====
/- The attention of one head at the extended reals: the rms normalisation of a row, the logits, the two ways of
   weighting the values (divide each weight by the row's total, or divide the weighted sum once), and the facts about
   finite extended reals by which the two agree. -/
module

public import Idealize.ShloMosaic.Lib.Pointwise
public import Idealize.ShloMosaic.PureOps.Ideal
public import Idealize.ShloMosaic.PureOps.Ideal.Laws

@[expose] public section

noncomputable section

namespace Cert.Attn

open Idealize.ShloMosaic

/-- An extended real that is a real number. -/
def Fin' (x : EReal) : Prop := x ≠ ⊥ ∧ x ≠ ⊤

/-- A row divided by the root of its mean square (plus the small constant), times the gain. -/
def rms (x g : Fin 128 → EReal) (d : Fin 128) : EReal :=
  x d * Ideal.rsqrt (Ideal.div (∑ k, x k * x k) (Ideal.ofBits .f32 0x43000000#32) + Ideal.ofBits .f32 0x358637BD#32) * g d

/-- The logits' scale. -/
def scale : EReal := Ideal.ofBits .f32 0x3DB504F3#32

/-- The largest of a row of logits. -/
def top (l : Fin 256 → EReal) : EReal := Finset.univ.fold max (Ideal.ofBits .f32 0xFF800000#32) l

/-- The logits of a head, from its queries and keys. -/
def logits (q k : Fin 256 → Fin 128 → EReal) (l c : Fin 256) : EReal := (∑ d, k c d * q l d) * scale

/-- Weights `exp (l c - m)` whose total is `∑ + extra`: each divided by the total before it weights its value. -/
def weighted (l v : Fin 256 → EReal) (m extra : EReal) : EReal :=
  ∑ c, Ideal.div (Ideal.exp (l c - m)) ((∑ k, Ideal.exp (l k - m)) + extra) * v c

/-- The same weights, the total divided out of the weighted sum once. -/
def weightedOnce (l v : Fin 256 → EReal) (m extra : EReal) : EReal :=
  Ideal.div (∑ c, Ideal.exp (l c - m) * v c) ((∑ k, Ideal.exp (l k - m)) + extra)

theorem fin'_iff (x : EReal) : Fin' x ↔ ∃ r : ℝ, x = r := by
  constructor
  · rintro ⟨h₁, h₂⟩
    exact ⟨x.toReal, (EReal.coe_toReal h₂ h₁).symm⟩
  · rintro ⟨r, rfl⟩
    exact ⟨EReal.coe_ne_bot r, EReal.coe_ne_top r⟩

theorem Fin'.mul {x y : EReal} (hx : Fin' x) (hy : Fin' y) : Fin' (x * y) := by
  obtain ⟨a, rfl⟩ := (fin'_iff x).1 hx
  obtain ⟨b, rfl⟩ := (fin'_iff y).1 hy
  exact (fin'_iff _).2 ⟨a * b, by push_cast; rfl⟩

theorem Fin'.add {x y : EReal} (hx : Fin' x) (hy : Fin' y) : Fin' (x + y) := by
  obtain ⟨a, rfl⟩ := (fin'_iff x).1 hx
  obtain ⟨b, rfl⟩ := (fin'_iff y).1 hy
  exact (fin'_iff _).2 ⟨a + b, by push_cast; rfl⟩

theorem Fin'.sum {ι : Type} (s : Finset ι) {f : ι → EReal} (h : ∀ i, Fin' (f i)) : Fin' (∑ i ∈ s, f i) := by
  classical
  induction s using Finset.induction_on with
  | empty => exact (fin'_iff _).2 ⟨0, by simp⟩
  | insert i s hi ih => rw [Finset.sum_insert hi]; exact (h i).add ih

/-- A nonnegative real factor moves out of a sum of extended reals. -/
theorem sum_mul_real {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

theorem ofBits_neg_inf : Ideal.ofBits .f32 0xFF800000#32 = ⊥ := by
  simp [Ideal.ofBits, Ideal.ieee]

theorem scale_eq : ∃ a : ℝ, 0 ≤ a ∧ scale = (a : EReal) := by
  refine ⟨11863283 * (2 ^ 27)⁻¹, by positivity, ?_⟩
  unfold scale Ideal.ofBits Ideal.ieee
  simp

theorem c128_eq : Ideal.ofBits .f32 0x43000000#32 = ((128 : ℝ) : EReal) := by
  unfold Ideal.ofBits Ideal.ieee
  simp
  rw [← EReal.coe_mul]
  norm_num

theorem eps_eq : ∃ a : ℝ, 0 < a ∧ Ideal.ofBits .f32 0x358637BD#32 = (a : EReal) := by
  refine ⟨8796093 * (2 ^ 43)⁻¹, by positivity, ?_⟩
  unfold Ideal.ofBits Ideal.ieee
  simp

/-- A row of finite numbers, normalised by a finite gain, is finite. -/
theorem rms_fin' {x g : Fin 128 → EReal} (hx : ∀ k, Fin' (x k)) (hg : ∀ k, Fin' (g k)) (d : Fin 128) : Fin' (rms x g d) := by
  choose a ha using fun k => (fin'_iff (x k)).1 (hx k)
  obtain ⟨e, he, heq⟩ := eps_eq
  have hs : ∀ s : Finset (Fin 128), ∃ r : ℝ, 0 ≤ r ∧ ∑ k ∈ s, x k * x k = (r : EReal) := by
    intro s
    classical
    induction s using Finset.induction_on with
    | empty => exact ⟨0, le_rfl, by simp⟩
    | insert i s hi ih =>
      obtain ⟨r, hr, h⟩ := ih
      refine ⟨a i * a i + r, add_nonneg (mul_self_nonneg _) hr, ?_⟩
      rw [Finset.sum_insert hi, h, ha i]
      push_cast
      rfl
  obtain ⟨r, hr, h⟩ := hs Finset.univ
  unfold rms
  rw [h, c128_eq, heq]
  have hd : Ideal.div (r : EReal) ((128 : ℝ) : EReal) = ((r * (128 : ℝ)⁻¹ : ℝ) : EReal) := by
    unfold Ideal.div
    rw [if_neg (by exact_mod_cast (by norm_num : (128 : ℝ) ≠ 0)), ← EReal.coe_inv, ← EReal.coe_mul]
  rw [hd, ← EReal.coe_add]
  have hp : 0 < r * (128 : ℝ)⁻¹ + e := by positivity
  have hq : Ideal.rsqrt ((r * (128 : ℝ)⁻¹ + e : ℝ) : EReal) = (((Real.sqrt (r * (128 : ℝ)⁻¹ + e))⁻¹ : ℝ) : EReal) := by
    show (if r * (128 : ℝ)⁻¹ + e < 0 then (⊥ : EReal) else if r * (128 : ℝ)⁻¹ + e = 0 then ⊤ else _) = _
    rw [if_neg (not_lt.2 hp.le), if_neg hp.ne']
  rw [hq]
  exact ((hx d).mul ((fin'_iff _).2 ⟨_, rfl⟩)).mul (hg d)

/-- The largest of a row of finite logits is finite. -/
theorem top_fin' {l : Fin 256 → EReal} (h : ∀ c, Fin' (l c)) : Fin' (top l) := by
  unfold top
  rw [ofBits_neg_inf]
  constructor
  · exact bot_lt_iff_ne_bot.1 ((Finset.lt_fold_max _).2 (.inr ⟨0, Finset.mem_univ _, bot_lt_iff_ne_bot.2 (h 0).1⟩))
  · exact lt_top_iff_ne_top.1 ((Finset.fold_max_lt _).2 ⟨bot_lt_top, fun c _ => lt_top_iff_ne_top.2 (h c).2⟩)

theorem Fin'.max {x y : EReal} (hx : Fin' x) (hy : Fin' y) : Fin' (max x y) := by
  rcases max_choice x y with h | h <;> rw [h] <;> assumption

/-- The exponential of a difference of finite numbers is a positive real. -/
theorem exp_sub {x y : EReal} (hx : Fin' x) (hy : Fin' y) : ∃ r : ℝ, 0 < r ∧ Ideal.exp (x - y) = (r : EReal) := by
  obtain ⟨a, rfl⟩ := (fin'_iff x).1 hx
  obtain ⟨b, rfl⟩ := (fin'_iff y).1 hy
  exact ⟨Real.exp (a - b), Real.exp_pos _, by rw [← EReal.coe_sub]; rfl⟩

/-- For finite logits the total is a positive real, so dividing each weight by it and dividing the weighted sum by it agree. -/
theorem weightedOnce_eq (l v : Fin 256 → EReal) (m extra : EReal) (hl : ∀ c, Fin' (l c)) (hm : Fin' m)
    (he : ∃ r : ℝ, 0 ≤ r ∧ extra = (r : EReal)) : weightedOnce l v m extra = weighted l v m extra := by
  obtain ⟨x, hx, rfl⟩ := he
  choose e hep he using fun c => exp_sub (hl c) hm
  have hs : ∀ s : Finset (Fin 256), ∑ k ∈ s, Ideal.exp (l k - m) = ((∑ k ∈ s, e k : ℝ) : EReal) := by
    intro s
    classical
    induction s using Finset.induction_on with
    | empty => simp
    | insert i s hi ih => rw [Finset.sum_insert hi, Finset.sum_insert hi, ih, he i, EReal.coe_add]
  have hpos : 0 < (∑ k, e k) + x := add_pos_of_pos_of_nonneg (Finset.sum_pos (fun k _ => hep k) ⟨0, Finset.mem_univ _⟩) hx
  unfold weightedOnce weighted
  rw [hs, ← EReal.coe_add]
  unfold Ideal.div
  have hne : (((∑ k, e k) + x : ℝ) : EReal) ≠ 0 := by exact_mod_cast hpos.ne'
  simp only [if_neg hne]
  rw [← EReal.coe_inv, sum_mul_real _ _ _ (inv_nonneg.2 hpos.le)]
  exact Finset.sum_congr rfl fun c _ => mul_right_comm _ _ _

/-- Scaling the queries before the products, or the logit after them, is the same. -/
theorem scaled_sum (q k : Fin 128 → EReal) : ∑ d, q d * scale * k d = (∑ d, k d * q d) * scale := by
  obtain ⟨a, ha, h⟩ := scale_eq
  rw [h, sum_mul_real _ _ _ ha]
  exact Finset.sum_congr rfl fun d _ => by rw [mul_right_comm, mul_comm (q d)]

end Cert.Attn
-- ==== Proof.CtxBlock.lean ====
/- What each stored piece of the context attention holds, from the blocks it is computed from. -/
module

public import proofs.«01_k».proof.Proof.Gen.KernelIdeal.Value
public import proofs.«01_k».proof.Proof.Alg
public import Idealize.ShloMosaic.Lib.Pointwise

@[expose] public section

set_option maxRecDepth 16384

noncomputable section

namespace Cert.Attn.Blk

open Cert.KernelIdeal Cert.KernelIdeal.Gen Idealize.ShloMosaic Cert.Attn

/-- A head without a sink: its weighted values, divided once by the total. -/
theorem headC_26 (V : Vec Ideal S256x128 .f32) (L : FVec Ideal S256x256 .f32) (r : Fin 256) (d : Fin 128) :
    k0_pay26 (F := Ideal) V L (ix2 r d) = weightedOnce (fun c => L (ix2 r c)) (fun c => V (ix2 c d)) (top fun c => L (ix2 r c)) 0 := by
  simp only [weightedOnce, top, add_zero]
  pointwise [k0_pay26]

/-- A head without a sink: its weighted values, divided once by the total. -/
theorem headC_36 (V : Vec Ideal S256x128 .f32) (L : FVec Ideal S256x256 .f32) (r : Fin 256) (d : Fin 128) :
    k0_pay36 (F := Ideal) V L (ix2 r d) = weightedOnce (fun c => L (ix2 r c)) (fun c => V (ix2 c d)) (top fun c => L (ix2 r c)) 0 := by
  simp only [weightedOnce, top, add_zero]
  pointwise [k0_pay36]

/-- A head without a sink: its weighted values, divided once by the total. -/
theorem headC_37 (V : Vec Ideal S256x128 .f32) (L : FVec Ideal S256x256 .f32) (r : Fin 256) (d : Fin 128) :
    k0_pay37 (F := Ideal) V L (ix2 r d) = weightedOnce (fun c => L (ix2 r c)) (fun c => V (ix2 c d)) (top fun c => L (ix2 r c)) 0 := by
  simp only [weightedOnce, top, add_zero]
  pointwise [k0_pay37]

/-- A head without a sink: its weighted values, divided once by the total. -/
theorem headC_28 (V : Vec Ideal S256x128 .f32) (L : FVec Ideal S256x256 .f32) (r : Fin 256) (d : Fin 128) :
    k0_pay28 (F := Ideal) V L (k0_pay27 (F := Ideal) L) (ix2 r d) = weightedOnce (fun c => L (ix2 r c)) (fun c => V (ix2 c d)) (top fun c => L (ix2 r c)) 0 := by
  simp only [weightedOnce, top, add_zero]
  pointwise [k0_pay28, k0_pay27]

/-- A head with a sink. -/
theorem headD_29 (V : Vec Ideal S256x128 .f32) (L : FVec Ideal S256x256 .f32) (s : FVec Ideal S1x1 .f32) (r : Fin 256) (d : Fin 128) :
    k0_pay29 (F := Ideal) V L s (ix2 r d)
      = weightedOnce (fun c => L (ix2 r c)) (fun c => V (ix2 c d)) (max (top fun c => L (ix2 r c)) (s (ix2 0 0)))
          (Ideal.exp (s (ix2 0 0) - max (top fun c => L (ix2 r c)) (s (ix2 0 0)))) := by
  simp only [weightedOnce, top]
  pointwise [k0_pay29]

/-- A head with a sink. -/
theorem headD_2 (V : Vec Ideal S256x128 .f32) (L : FVec Ideal S256x256 .f32) (s : FVec Ideal S1x1 .f32) (r : Fin 256) (d : Fin 128) :
    k0_pay2 (F := Ideal) V L s (ix2 r d)
      = weightedOnce (fun c => L (ix2 r c)) (fun c => V (ix2 c d)) (max (top fun c => L (ix2 r c)) (s (ix2 0 0)))
          (Ideal.exp (s (ix2 0 0) - max (top fun c => L (ix2 r c)) (s (ix2 0 0)))) := by
  simp only [weightedOnce, top]
  pointwise [k0_pay2]

/-- A head with a sink. -/
theorem headD_35 (V : Vec Ideal S256x128 .f32) (L : FVec Ideal S256x256 .f32) (s : FVec Ideal S1x1 .f32) (r : Fin 256) (d : Fin 128) :
    k0_pay35 (F := Ideal) (k0_pay32 (F := Ideal) L s) (k0_pay33 (F := Ideal) L s) (k0_pay34 (F := Ideal) V) (constant (F := Ideal) S256x128 .f32 0x00000000#32) (ix2 r d)
      = weightedOnce (fun c => L (ix2 r c)) (fun c => V (ix2 c d)) (max (top fun c => L (ix2 r c)) (s (ix2 0 0)))
          (Ideal.exp (s (ix2 0 0) - max (top fun c => L (ix2 r c)) (s (ix2 0 0)))) := by
  simp only [weightedOnce, top]
  pointwise [k0_pay35, k0_pay34, k0_pay33, k0_pay32, k0_pay31, k0_pay30]

/-- A head with a sink. -/
theorem headD_1 (V : Vec Ideal S256x128 .f32) (L : FVec Ideal S256x256 .f32) (s : FVec Ideal S1x1 .f32) (r : Fin 256) (d : Fin 128) :
    k0_pay1 (F := Ideal) V (k0_pay39 (F := Ideal) L s) (k0_pay40 (F := Ideal) L s) (ix2 r d)
      = weightedOnce (fun c => L (ix2 r c)) (fun c => V (ix2 c d)) (max (top fun c => L (ix2 r c)) (s (ix2 0 0)))
          (Ideal.exp (s (ix2 0 0) - max (top fun c => L (ix2 r c)) (s (ix2 0 0)))) := by
  simp only [weightedOnce, top]
  pointwise [k0_pay1, k0_pay40, k0_pay39, k0_pay38]

/-- Logits of normalised queries. -/
theorem logitsC_8 (X K : Vec Ideal S256x128 .f32) (G : Vec Ideal S1x128 .f32) (r c : Fin 256) :
    k0_pay8 (F := Ideal) K X G (ix2 r c)
      = logits (fun l => rms (fun k => X (ix2 l k)) fun k => G (ix2 0 k)) (fun c k => K (ix2 c k)) r c := by
  rw [logits, ← scaled_sum]
  simp only [rms, scale]
  pointwise [k0_pay8]

/-- Logits of normalised queries. -/
theorem logitsC_18 (X K : Vec Ideal S256x128 .f32) (G : Vec Ideal S1x128 .f32) (r c : Fin 256) :
    k0_pay18 (F := Ideal) K X G (ix2 r c)
      = logits (fun l => rms (fun k => X (ix2 l k)) fun k => G (ix2 0 k)) (fun c k => K (ix2 c k)) r c := by
  rw [logits, ← scaled_sum]
  simp only [rms, scale]
  pointwise [k0_pay18]

/-- Logits of normalised queries. -/
theorem logitsC_11 (X K : Vec Ideal S256x128 .f32) (G : Vec Ideal S1x128 .f32) (r c : Fin 256) :
    k0_pay11 (F := Ideal) (k0_pay9 (F := Ideal) X G) (k0_pay10 (F := Ideal) K) (constant (F := Ideal) S256x256 .f32 0x00000000#32) (ix2 r c)
      = logits (fun l => rms (fun k => X (ix2 l k)) fun k => G (ix2 0 k)) (fun c k => K (ix2 c k)) r c := by
  rw [logits, ← scaled_sum]
  simp only [rms, scale]
  pointwise [k0_pay11, k0_pay10, k0_pay9]

/-- Logits of normalised queries. -/
theorem logitsC_21 (X K : Vec Ideal S256x128 .f32) (G : Vec Ideal S1x128 .f32) (r c : Fin 256) :
    k0_pay21 (F := Ideal) K (k0_pay19 (F := Ideal) X G) (k0_pay20 (F := Ideal)) (ix2 r c)
      = logits (fun l => rms (fun k => X (ix2 l k)) fun k => G (ix2 0 k)) (fun c k => K (ix2 c k)) r c := by
  rw [logits, ← scaled_sum]
  simp only [rms, scale]
  pointwise [k0_pay21, k0_pay20, k0_pay19]

/-- Logits of the queries as they are. -/
theorem logitsD_12 (X K : Vec Ideal S256x128 .f32) (r c : Fin 256) :
    k0_pay12 (F := Ideal) K X (ix2 r c) = logits (fun l k => X (ix2 l k)) (fun c k => K (ix2 c k)) r c := by
  rw [logits, ← scaled_sum]
  simp only [scale]
  pointwise [k0_pay12]

/-- Logits of the queries as they are. -/
theorem logitsD_14 (X K : Vec Ideal S256x128 .f32) (r c : Fin 256) :
    k0_pay14 (F := Ideal) K X (ix2 r c) = logits (fun l k => X (ix2 l k)) (fun c k => K (ix2 c k)) r c := by
  rw [logits, ← scaled_sum]
  simp only [scale]
  pointwise [k0_pay14]

/-- Logits of the queries as they are. -/
theorem logitsD_22 (X K : Vec Ideal S256x128 .f32) (r c : Fin 256) :
    k0_pay22 (F := Ideal) K X (ix2 r c) = logits (fun l k => X (ix2 l k)) (fun c k => K (ix2 c k)) r c := by
  rw [logits, ← scaled_sum]
  simp only [scale]
  pointwise [k0_pay22]

/-- Logits of the queries as they are. -/
theorem logitsD_24 (X K : Vec Ideal S256x128 .f32) (r c : Fin 256) :
    k0_pay24 (F := Ideal) K X (ix2 r c) = logits (fun l k => X (ix2 l k)) (fun c k => K (ix2 c k)) r c := by
  rw [logits, ← scaled_sum]
  simp only [scale]
  pointwise [k0_pay24]

/-- Normalised keys. -/
theorem keys_6 (X : Vec Ideal S256x128 .f32) (G : Vec Ideal S1x128 .f32) (r : Fin 256) (d : Fin 128) :
    k0_pay6 (F := Ideal) X G (ix2 r d) = rms (fun k => X (ix2 r k)) (fun k => G (ix2 0 k)) d := by
  simp only [rms]
  pointwise [k0_pay6]

/-- Normalised keys. -/
theorem keys_16 (X : Vec Ideal S256x128 .f32) (G : Vec Ideal S1x128 .f32) (r : Fin 256) (d : Fin 128) :
    k0_pay16 (F := Ideal) X G (ix2 r d) = rms (fun k => X (ix2 r k)) (fun k => G (ix2 0 k)) d := by
  simp only [rms]
  pointwise [k0_pay16]

end Cert.Attn.Blk
-- ==== Proof.CtxOut.lean ====
/- The blocks one batch element's attention leaves, as functions of the columns of its rows. -/
module

public import proofs.«01_k».proof.Proof.CtxBlock
public import Idealize.ShloMosaic.Lib.Pipeline.ValueKit.Tiles

@[expose] public section

set_option maxRecDepth 16384

noncomputable section

namespace Cert.Attn.Blk

open Cert.KernelIdeal Cert.KernelIdeal.Gen Idealize.ShloMosaic Cert.Attn

/-- Column `n` of row `l` of a block of projections. -/
def cell (x0 : Vec Ideal S256x2048 .f32) (l : Fin 256) (n : Nat) : EReal := if h : n < 2048 then x0 (ix2 l ⟨n, h⟩) else 0

/-- Entry `n` of a row of 128. -/
def entry (x : Vec Ideal S1x128 .f32) (n : Nat) : EReal := if h : n < 128 then x (ix2 0 ⟨n, h⟩) else 0

/-- The logits of a head whose queries begin at column `oq` and keys at `ok`, both normalised. -/
def lgC (X : Fin 256 → Nat → EReal) (gq gk : Fin 128 → EReal) (oq ok : Nat) (l : Fin 256) : Fin 256 → EReal :=
  logits (fun l => rms (fun k => X l (oq + k.val)) gq) (fun c => rms (fun k => X c (ok + k.val)) gk) l

/-- The logits of a head whose queries and keys are taken as they are. -/
def lgD (X : Fin 256 → Nat → EReal) (oq ok : Nat) (l : Fin 256) : Fin 256 → EReal :=
  logits (fun l k => X l (oq + k.val)) (fun c k => X c (ok + k.val)) l

/-- A head without a sink, at the value column `ov`. -/
def outC (X : Fin 256 → Nat → EReal) (gq gk : Fin 128 → EReal) (oq ok ov : Nat) (l : Fin 256) : EReal :=
  weightedOnce (lgC X gq gk oq ok l) (fun c => X c ov) (top (lgC X gq gk oq ok l)) 0

/-- A head with a sink `s`. -/
def outD (X : Fin 256 → Nat → EReal) (s : EReal) (oq ok ov : Nat) (l : Fin 256) : EReal :=
  weightedOnce (lgD X oq ok l) (fun c => X c ov) (max (top (lgD X oq ok l)) s) (Ideal.exp (s - max (top (lgD X oq ok l)) s))

/-- Column `n` of the mixed row `l`: four heads of the first kind, then four with a sink. -/
def mixAt (X : Fin 256 → Nat → EReal) (gq gk : Fin 128 → EReal) (s : Nat → EReal) (l : Fin 256) (n : Nat) : EReal :=
  if n < 512 then outC X gq gk (n / 128 * 128) (512 + n / 256 * 128) (768 + (n / 256 * 128 + n % 128)) l
  else outD X (s ((n - 512) / 128)) (1024 + (n - 512) / 128 * 128) (1536 + (n - 512) / 256 * 128)
    (1792 + ((n - 512) / 256 * 128 + n % 128)) l

/-- Column `n` of the normalised keys of row `l`. -/
def keyAt (X : Fin 256 → Nat → EReal) (gk : Fin 128 → EReal) (l : Fin 256) (n : Nat) : EReal :=
  rms (fun k => X l (512 + n / 128 * 128 + k.val)) gk ⟨n % 128, Nat.mod_lt _ (by omega)⟩

/-- A load of 128 columns, read. -/
theorem ld_cols (x0 : Vec Ideal S256x2048 .f32) (o : Nat) (inb) (r : Fin 256) (k : Fin 128) :
    View.ld x0 (Rect.unit (s := S256x2048) ![0, o] S256x128.size inb) (ix2 r k) = cell x0 r (o + k.val) := by
  have h : o + k.val < 2048 := by
    have := inb 1; have : o + 128 ≤ 2048 := this; omega
  rw [cell, dif_pos h]
  exact View.ld_unit_apply_of _ _ _ _ _ _ (fun a => match a with | ⟨0, _⟩ => (Nat.zero_add _).symm | ⟨1, _⟩ => rfl)

/-- A load of 256 columns, read. -/
theorem ld_cols2 (x0 : Vec Ideal S256x2048 .f32) (o : Nat) (inb) (r k : Fin 256) :
    View.ld x0 (Rect.unit (s := S256x2048) ![0, o] S256x256.size inb) (ix2 r k) = cell x0 r (o + k.val) := by
  have h : o + k.val < 2048 := by
    have := inb 1; have : o + 256 ≤ 2048 := this; omega
  rw [cell, dif_pos h]
  exact View.ld_unit_apply_of _ _ _ _ _ _ (fun a => match a with | ⟨0, _⟩ => (Nat.zero_add _).symm | ⟨1, _⟩ => rfl)

/-- A load of a whole row. -/
theorem ld_row (x : Vec Ideal S1x128 .f32) (inb) (k : Fin 128) :
    View.ld x (Rect.unit (s := S1x128) ![0, 0] S1x128.size inb) (ix2 0 k) = entry x k.val := by
  rw [entry, dif_pos k.isLt]
  exact View.ld_unit_apply_of _ _ _ _ _ _ (fun a => match a with | ⟨0, _⟩ => rfl | ⟨1, _⟩ => (Nat.zero_add _).symm)

/-- A load of one entry. -/
theorem ld_one (x : Vec Ideal S1x128 .f32) (o : Nat) (inb) :
    View.ld x (Rect.unit (s := S1x128) ![0, o] S1x1.size inb) (ix2 0 0) = entry x o := by
  have h : o < 128 := by
    have := inb 1; have : o + 1 ≤ 128 := this; omega
  rw [entry, dif_pos h]
  exact View.ld_unit_apply_of _ _ _ _ _ _ (fun a => match a with | ⟨0, _⟩ => rfl | ⟨1, _⟩ => rfl)

/-- Every index is a pair of coordinates. -/
theorem eta2 (x : S256x128.Idx) : x = ix2 (x 0) (x 1) := by
  funext a; match a with | ⟨0, _⟩ => rfl | ⟨1, _⟩ => rfl

/-- The 128 columns from column `o`. -/
def cols (x0 : Vec Ideal S256x2048 .f32) (o : Nat) : Vec Ideal S256x128 .f32 := fun i => cell x0 (i 0) (o + (i 1).val)

variable (x0 : Vec Ideal S256x2048 .f32) (x1 x2 x3 : Vec Ideal S1x128 .f32)

/-- Columns from 512. -/
theorem ld_4 : View.ld x0 r0_4 = cols x0 512 := by
  funext x
  exact (congrArg _ (eta2 x)).trans (ld_cols x0 512 _ (x 0) (x 1))

/-- Columns from 768. -/
theorem ld_7 : View.ld x0 r0_7 = cols x0 768 := by
  funext x
  exact (congrArg _ (eta2 x)).trans (ld_cols x0 768 _ (x 0) (x 1))

/-- Columns from 0. -/
theorem ld_8 : View.ld x0 r0_8 = cols x0 0 := by
  funext x
  exact (congrArg _ (eta2 x)).trans (ld_cols x0 0 _ (x 0) (x 1))

/-- Columns from 128. -/
theorem ld_9 : View.ld x0 r0_9 = cols x0 128 := by
  funext x
  exact (congrArg _ (eta2 x)).trans (ld_cols x0 128 _ (x 0) (x 1))

/-- Columns from 1536. -/
theorem ld_10 : View.ld x0 r0_10 = cols x0 1536 := by
  funext x
  exact (congrArg _ (eta2 x)).trans (ld_cols x0 1536 _ (x 0) (x 1))

/-- Columns from 1792. -/
theorem ld_11 : View.ld x0 r0_11 = cols x0 1792 := by
  funext x
  exact (congrArg _ (eta2 x)).trans (ld_cols x0 1792 _ (x 0) (x 1))

/-- Columns from 1024. -/
theorem ld_12 : View.ld x0 r0_12 = cols x0 1024 := by
  funext x
  exact (congrArg _ (eta2 x)).trans (ld_cols x0 1024 _ (x 0) (x 1))

/-- Columns from 1152. -/
theorem ld_14 : View.ld x0 r0_14 = cols x0 1152 := by
  funext x
  exact (congrArg _ (eta2 x)).trans (ld_cols x0 1152 _ (x 0) (x 1))

/-- Columns from 640. -/
theorem ld_16 : View.ld x0 r0_16 = cols x0 640 := by
  funext x
  exact (congrArg _ (eta2 x)).trans (ld_cols x0 640 _ (x 0) (x 1))

/-- Columns from 896. -/
theorem ld_18 : View.ld x0 r0_18 = cols x0 896 := by
  funext x
  exact (congrArg _ (eta2 x)).trans (ld_cols x0 896 _ (x 0) (x 1))

/-- Columns from 256. -/
theorem ld_19 : View.ld x0 r0_19 = cols x0 256 := by
  funext x
  exact (congrArg _ (eta2 x)).trans (ld_cols x0 256 _ (x 0) (x 1))

/-- Columns from 384. -/
theorem ld_20 : View.ld x0 r0_20 = cols x0 384 := by
  funext x
  exact (congrArg _ (eta2 x)).trans (ld_cols x0 384 _ (x 0) (x 1))

/-- Columns from 1664. -/
theorem ld_21 : View.ld x0 r0_21 = cols x0 1664 := by
  funext x
  exact (congrArg _ (eta2 x)).trans (ld_cols x0 1664 _ (x 0) (x 1))

/-- Columns from 1920. -/
theorem ld_22 : View.ld x0 r0_22 = cols x0 1920 := by
  funext x
  exact (congrArg _ (eta2 x)).trans (ld_cols x0 1920 _ (x 0) (x 1))

/-- Columns from 1280. -/
theorem ld_23 : View.ld x0 r0_23 = cols x0 1280 := by
  funext x
  exact (congrArg _ (eta2 x)).trans (ld_cols x0 1280 _ (x 0) (x 1))

/-- Columns from 1408. -/
theorem ld_25 : View.ld x0 r0_25 = cols x0 1408 := by
  funext x
  exact (congrArg _ (eta2 x)).trans (ld_cols x0 1408 _ (x 0) (x 1))

/-- Sink 0. -/
theorem sink_13 : k0_pay13 (F := Ideal) (View.ld x3 r0_13) (ix2 0 0) = entry x3 0 := by
  have h : ∀ X : Vec Ideal S1x1 .f32, k0_pay13 (F := Ideal) X (ix2 0 0) = X (ix2 0 0) := fun X => by pointwise [k0_pay13]
  exact (h _).trans (ld_one x3 0 _)

/-- Sink 1. -/
theorem sink_15 : k0_pay15 (F := Ideal) (View.ld x3 r0_15) (ix2 0 0) = entry x3 1 := by
  have h : ∀ X : Vec Ideal S1x1 .f32, k0_pay15 (F := Ideal) X (ix2 0 0) = X (ix2 0 0) := fun X => by pointwise [k0_pay15]
  exact (h _).trans (ld_one x3 1 _)

/-- Sink 2. -/
theorem sink_24 : k0_pay23 (F := Ideal) (View.ld x3 r0_24) (ix2 0 0) = entry x3 2 := by
  have h : ∀ X : Vec Ideal S1x1 .f32, k0_pay23 (F := Ideal) X (ix2 0 0) = X (ix2 0 0) := fun X => by pointwise [k0_pay23]
  exact (h _).trans (ld_one x3 2 _)

/-- Sink 3. -/
theorem sink_26 : k0_pay25 (F := Ideal) (View.ld x3 r0_26) (ix2 0 0) = entry x3 3 := by
  have h : ∀ X : Vec Ideal S1x1 .f32, k0_pay25 (F := Ideal) X (ix2 0 0) = X (ix2 0 0) := fun X => by pointwise [k0_pay25]
  exact (h _).trans (ld_one x3 3 _)

/-- A row of gains. -/
theorem ld_5 (x : Vec Ideal S1x128 .f32) : View.ld x r0_5 = fun i => entry x (i 1).val := by
  funext i
  have e : i = ix2 0 (i 1) := by
    funext a
    match a with
    | ⟨0, _⟩ => exact Fin.ext (by have h : (i 0).val < 1 := (i 0).isLt; show (i 0).val = 0; omega)
    | ⟨1, _⟩ => rfl
  exact (congrArg _ e).trans (ld_row x _ (i 1))

/-- The head stored at column 896. -/
theorem piece_34 (r : Fin 256) (d : Fin 128) :
    k0_pay2 (View.ld x0 r0_22) (k0_pay24 (View.ld x0 r0_21) (View.ld x0 r0_25)) (k0_pay25 (View.ld x3 r0_26)) (ix2 r d)
      = outD (cell x0) (entry x3 3) 1408 1664 (1920 + d.val) r := by
  simp only [ld_4, ld_7, ld_8, ld_9, ld_10, ld_11, ld_12, ld_14, ld_16, ld_18, ld_19, ld_20, ld_21, ld_22, ld_23, ld_25, ld_5, sink_13, sink_15, sink_24, sink_26]
  rw [headD_2]
  simp only [outD, lgD, logitsD_24, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_34 (r : Fin 256) (d : Fin 128) :
    mixAt (cell x0) (fun k => entry x1 k.val) (fun k => entry x2 k.val) (entry x3) r (896 + d.val) = outD (cell x0) (entry x3 3) 1408 1664 (1920 + d.val) r := by
  have hd := d.isLt
  rw [mixAt, if_neg (by omega), show (896 + d.val - 512) / 128 = 3 by omega, show (896 + d.val - 512) / 256 = 1 by omega,
    show (896 + d.val) % 128 = d.val by omega, show 1792 + (1 * 128 + d.val) = 1920 + d.val by omega]

/-- The head stored at column 768. -/
theorem piece_33 (r : Fin 256) (d : Fin 128) :
    k0_pay1 (View.ld x0 r0_22) (k0_pay39 (k0_pay46 x0 x1 x2 x3) (k0_pay47 x0 x1 x2 x3)) (k0_pay40 (k0_pay46 x0 x1 x2 x3) (k0_pay47 x0 x1 x2 x3)) (ix2 r d)
      = outD (cell x0) (entry x3 2) 1280 1664 (1920 + d.val) r := by
  simp only [k0_pay46, k0_pay47, ld_4, ld_7, ld_8, ld_9, ld_10, ld_11, ld_12, ld_14, ld_16, ld_18, ld_19, ld_20, ld_21, ld_22, ld_23, ld_25, ld_5, sink_13, sink_15, sink_24, sink_26]
  rw [headD_1]
  simp only [outD, lgD, logitsD_22, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_33 (r : Fin 256) (d : Fin 128) :
    mixAt (cell x0) (fun k => entry x1 k.val) (fun k => entry x2 k.val) (entry x3) r (768 + d.val) = outD (cell x0) (entry x3 2) 1280 1664 (1920 + d.val) r := by
  have hd := d.isLt
  rw [mixAt, if_neg (by omega), show (768 + d.val - 512) / 128 = 2 by omega, show (768 + d.val - 512) / 256 = 1 by omega,
    show (768 + d.val) % 128 = d.val by omega, show 1792 + (1 * 128 + d.val) = 1920 + d.val by omega]

/-- The head stored at column 384. -/
theorem piece_32 (r : Fin 256) (d : Fin 128) :
    k0_pay37 (View.ld x0 r0_18) (k0_pay21 (k0_pay45 x0 x1 x2 x3) (k0_pay19 (View.ld x0 r0_20) (View.ld x1 r0_5)) (k0_pay20 (F := Ideal))) (ix2 r d)
      = outC (cell x0) (fun k => entry x1 k.val) (fun k => entry x2 k.val) 384 640 (896 + d.val) r := by
  simp only [k0_pay45, ld_4, ld_7, ld_8, ld_9, ld_10, ld_11, ld_12, ld_14, ld_16, ld_18, ld_19, ld_20, ld_21, ld_22, ld_23, ld_25, ld_5, sink_13, sink_15, sink_24, sink_26]
  rw [headC_37]
  simp only [outC, lgC, logitsC_21, keys_6, keys_16, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_32 (r : Fin 256) (d : Fin 128) :
    mixAt (cell x0) (fun k => entry x1 k.val) (fun k => entry x2 k.val) (entry x3) r (384 + d.val) = outC (cell x0) (fun k => entry x1 k.val) (fun k => entry x2 k.val) 384 640 (896 + d.val) r := by
  have hd := d.isLt
  rw [mixAt, if_pos (by omega), show (384 + d.val) / 128 = 3 by omega, show (384 + d.val) / 256 = 1 by omega, show (384 + d.val) % 128 = d.val by omega,
    show 768 + (1 * 128 + d.val) = 896 + d.val by omega]

/-- The head stored at column 256. -/
theorem piece_31 (r : Fin 256) (d : Fin 128) :
    k0_pay36 (View.ld x0 r0_18) (k0_pay18 (k0_pay45 x0 x1 x2 x3) (View.ld x0 r0_19) (View.ld x1 r0_5)) (ix2 r d)
      = outC (cell x0) (fun k => entry x1 k.val) (fun k => entry x2 k.val) 256 640 (896 + d.val) r := by
  simp only [k0_pay45, ld_4, ld_7, ld_8, ld_9, ld_10, ld_11, ld_12, ld_14, ld_16, ld_18, ld_19, ld_20, ld_21, ld_22, ld_23, ld_25, ld_5, sink_13, sink_15, sink_24, sink_26]
  rw [headC_36]
  simp only [outC, lgC, logitsC_18, keys_6, keys_16, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_31 (r : Fin 256) (d : Fin 128) :
    mixAt (cell x0) (fun k => entry x1 k.val) (fun k => entry x2 k.val) (entry x3) r (256 + d.val) = outC (cell x0) (fun k => entry x1 k.val) (fun k => entry x2 k.val) 256 640 (896 + d.val) r := by
  have hd := d.isLt
  rw [mixAt, if_pos (by omega), show (256 + d.val) / 128 = 2 by omega, show (256 + d.val) / 256 = 1 by omega, show (256 + d.val) % 128 = d.val by omega,
    show 768 + (1 * 128 + d.val) = 896 + d.val by omega]

/-- The head stored at column 640. -/
theorem piece_30 (r : Fin 256) (d : Fin 128) :
    k0_pay35 (k0_pay32 (k0_pay43 x0 x1 x2 x3) (k0_pay44 x0 x1 x2 x3)) (k0_pay33 (k0_pay43 x0 x1 x2 x3) (k0_pay44 x0 x1 x2 x3)) (k0_pay34 (View.ld x0 r0_11)) (constant S256x128 .f32 0x00000000#32) (ix2 r d)
      = outD (cell x0) (entry x3 1) 1152 1536 (1792 + d.val) r := by
  simp only [k0_pay43, k0_pay44, ld_4, ld_7, ld_8, ld_9, ld_10, ld_11, ld_12, ld_14, ld_16, ld_18, ld_19, ld_20, ld_21, ld_22, ld_23, ld_25, ld_5, sink_13, sink_15, sink_24, sink_26]
  rw [headD_35]
  simp only [outD, lgD, logitsD_14, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_30 (r : Fin 256) (d : Fin 128) :
    mixAt (cell x0) (fun k => entry x1 k.val) (fun k => entry x2 k.val) (entry x3) r (640 + d.val) = outD (cell x0) (entry x3 1) 1152 1536 (1792 + d.val) r := by
  have hd := d.isLt
  rw [mixAt, if_neg (by omega), show (640 + d.val - 512) / 128 = 1 by omega, show (640 + d.val - 512) / 256 = 0 by omega,
    show (640 + d.val) % 128 = d.val by omega, show 1792 + (0 * 128 + d.val) = 1792 + d.val by omega]

/-- The head stored at column 512. -/
theorem piece_29 (r : Fin 256) (d : Fin 128) :
    k0_pay29 (View.ld x0 r0_11) (k0_pay12 (View.ld x0 r0_10) (View.ld x0 r0_12)) (k0_pay13 (View.ld x3 r0_13)) (ix2 r d)
      = outD (cell x0) (entry x3 0) 1024 1536 (1792 + d.val) r := by
  simp only [ld_4, ld_7, ld_8, ld_9, ld_10, ld_11, ld_12, ld_14, ld_16, ld_18, ld_19, ld_20, ld_21, ld_22, ld_23, ld_25, ld_5, sink_13, sink_15, sink_24, sink_26]
  rw [headD_29]
  simp only [outD, lgD, logitsD_12, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_29 (r : Fin 256) (d : Fin 128) :
    mixAt (cell x0) (fun k => entry x1 k.val) (fun k => entry x2 k.val) (entry x3) r (512 + d.val) = outD (cell x0) (entry x3 0) 1024 1536 (1792 + d.val) r := by
  have hd := d.isLt
  rw [mixAt, if_neg (by omega), show (512 + d.val - 512) / 128 = 0 by omega, show (512 + d.val - 512) / 256 = 0 by omega,
    show (512 + d.val) % 128 = d.val by omega, show 1792 + (0 * 128 + d.val) = 1792 + d.val by omega]

/-- The head stored at column 128. -/
theorem piece_28 (r : Fin 256) (d : Fin 128) :
    k0_pay28 (View.ld x0 r0_7) (k0_pay42 x0 x1 x2 x3) (k0_pay27 (k0_pay42 x0 x1 x2 x3)) (ix2 r d)
      = outC (cell x0) (fun k => entry x1 k.val) (fun k => entry x2 k.val) 128 512 (768 + d.val) r := by
  simp only [k0_pay42, k0_pay41, ld_4, ld_7, ld_8, ld_9, ld_10, ld_11, ld_12, ld_14, ld_16, ld_18, ld_19, ld_20, ld_21, ld_22, ld_23, ld_25, ld_5, sink_13, sink_15, sink_24, sink_26]
  rw [headC_28]
  simp only [outC, lgC, logitsC_11, keys_6, keys_16, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_28 (r : Fin 256) (d : Fin 128) :
    mixAt (cell x0) (fun k => entry x1 k.val) (fun k => entry x2 k.val) (entry x3) r (128 + d.val) = outC (cell x0) (fun k => entry x1 k.val) (fun k => entry x2 k.val) 128 512 (768 + d.val) r := by
  have hd := d.isLt
  rw [mixAt, if_pos (by omega), show (128 + d.val) / 128 = 1 by omega, show (128 + d.val) / 256 = 0 by omega, show (128 + d.val) % 128 = d.val by omega,
    show 768 + (0 * 128 + d.val) = 768 + d.val by omega]

/-- The head stored at column 0. -/
theorem piece_27 (r : Fin 256) (d : Fin 128) :
    k0_pay26 (View.ld x0 r0_7) (k0_pay8 (k0_pay41 x0 x1 x2 x3) (View.ld x0 r0_8) (View.ld x1 r0_5)) (ix2 r d)
      = outC (cell x0) (fun k => entry x1 k.val) (fun k => entry x2 k.val) 0 512 (768 + d.val) r := by
  simp only [k0_pay41, ld_4, ld_7, ld_8, ld_9, ld_10, ld_11, ld_12, ld_14, ld_16, ld_18, ld_19, ld_20, ld_21, ld_22, ld_23, ld_25, ld_5, sink_13, sink_15, sink_24, sink_26]
  rw [headC_26]
  simp only [outC, lgC, logitsC_8, keys_6, keys_16, ld_4, ld_7, ld_8, ld_9, ld_10, ld_11, ld_12, ld_14, ld_16, ld_18, ld_19, ld_20, ld_21, ld_22, ld_23, ld_25, ld_5, sink_13, sink_15, sink_24, sink_26]
  rfl

/-- That head is these columns of the mixed rows. -/
theorem mix_27 (r : Fin 256) (d : Fin 128) :
    mixAt (cell x0) (fun k => entry x1 k.val) (fun k => entry x2 k.val) (entry x3) r (0 + d.val) = outC (cell x0) (fun k => entry x1 k.val) (fun k => entry x2 k.val) 0 512 (768 + d.val) r := by
  have hd := d.isLt
  rw [mixAt, if_pos (by omega), show (0 + d.val) / 128 = 0 by omega, show (0 + d.val) / 256 = 0 by omega, show (0 + d.val) % 128 = d.val by omega,
    show 768 + (0 * 128 + d.val) = 768 + d.val by omega]

/-- The block of mixed rows. -/
theorem out_mix (r : Fin 256) (n : Fin 1024) :
    out0_4 (F := Ideal) x0 x1 x2 x3 (ix2 r n)
      = mixAt (cell x0) (fun k => entry x1 k.val) (fun k => entry x2 k.val) (entry x3) r n.val := by
  unfold out0_4
  refine View.canon_apply_of_pieces (Val := Elt Ideal) (fun y =>
    mixAt (cell x0) (fun k => entry x1 k.val) (fun k => entry x2 k.val) (entry x3) (y 0) (y 1).val : Vec Ideal S256x1024 .f32) _ ?_ (ix2 r n) (cover0_4 _ _ _ _ _ _ _ _ _)
  intro pc hpc
  simp only [List.mem_cons, List.not_mem_nil, or_false] at hpc
  rcases hpc with rfl | rfl | rfl | rfl | rfl | rfl | rfl | rfl
  · intro x
    have h0 : (r0_34.emb x) 0 = x 0 := Fin.ext (by show 0 + 1 * (x 0).val = (x 0).val; omega)
    have h1 : ((r0_34.emb x) 1).val = 896 + (x 1).val := by show 896 + 1 * (x 1).val = _; omega
    simp only [h0, h1]
    exact (congrArg _ (eta2 x)).trans ((piece_34 x0 x3 (x 0) (x 1)).trans (mix_34 x0 x1 x2 x3 (x 0) (x 1)).symm)
  · intro x
    have h0 : (r0_33.emb x) 0 = x 0 := Fin.ext (by show 0 + 1 * (x 0).val = (x 0).val; omega)
    have h1 : ((r0_33.emb x) 1).val = 768 + (x 1).val := by show 768 + 1 * (x 1).val = _; omega
    simp only [h0, h1]
    exact (congrArg _ (eta2 x)).trans ((piece_33 x0 x1 x2 x3 (x 0) (x 1)).trans (mix_33 x0 x1 x2 x3 (x 0) (x 1)).symm)
  · intro x
    have h0 : (r0_32.emb x) 0 = x 0 := Fin.ext (by show 0 + 1 * (x 0).val = (x 0).val; omega)
    have h1 : ((r0_32.emb x) 1).val = 384 + (x 1).val := by show 384 + 1 * (x 1).val = _; omega
    simp only [h0, h1]
    exact (congrArg _ (eta2 x)).trans ((piece_32 x0 x1 x2 x3 (x 0) (x 1)).trans (mix_32 x0 x1 x2 x3 (x 0) (x 1)).symm)
  · intro x
    have h0 : (r0_31.emb x) 0 = x 0 := Fin.ext (by show 0 + 1 * (x 0).val = (x 0).val; omega)
    have h1 : ((r0_31.emb x) 1).val = 256 + (x 1).val := by show 256 + 1 * (x 1).val = _; omega
    simp only [h0, h1]
    exact (congrArg _ (eta2 x)).trans ((piece_31 x0 x1 x2 x3 (x 0) (x 1)).trans (mix_31 x0 x1 x2 x3 (x 0) (x 1)).symm)
  · intro x
    have h0 : (r0_30.emb x) 0 = x 0 := Fin.ext (by show 0 + 1 * (x 0).val = (x 0).val; omega)
    have h1 : ((r0_30.emb x) 1).val = 640 + (x 1).val := by show 640 + 1 * (x 1).val = _; omega
    simp only [h0, h1]
    exact (congrArg _ (eta2 x)).trans ((piece_30 x0 x1 x2 x3 (x 0) (x 1)).trans (mix_30 x0 x1 x2 x3 (x 0) (x 1)).symm)
  · intro x
    have h0 : (r0_29.emb x) 0 = x 0 := Fin.ext (by show 0 + 1 * (x 0).val = (x 0).val; omega)
    have h1 : ((r0_29.emb x) 1).val = 512 + (x 1).val := by show 512 + 1 * (x 1).val = _; omega
    simp only [h0, h1]
    exact (congrArg _ (eta2 x)).trans ((piece_29 x0 x3 (x 0) (x 1)).trans (mix_29 x0 x1 x2 x3 (x 0) (x 1)).symm)
  · intro x
    have h0 : (r0_28.emb x) 0 = x 0 := Fin.ext (by show 0 + 1 * (x 0).val = (x 0).val; omega)
    have h1 : ((r0_28.emb x) 1).val = 128 + (x 1).val := by show 128 + 1 * (x 1).val = _; omega
    simp only [h0, h1]
    exact (congrArg _ (eta2 x)).trans ((piece_28 x0 x1 x2 x3 (x 0) (x 1)).trans (mix_28 x0 x1 x2 x3 (x 0) (x 1)).symm)
  · intro x
    have h0 : (r0_27.emb x) 0 = x 0 := Fin.ext (by show 0 + 1 * (x 0).val = (x 0).val; omega)
    have h1 : ((r0_27.emb x) 1).val = 0 + (x 1).val := by show 0 + 1 * (x 1).val = _; omega
    simp only [h0, h1]
    exact (congrArg _ (eta2 x)).trans ((piece_27 x0 x1 x2 x3 (x 0) (x 1)).trans (mix_27 x0 x1 x2 x3 (x 0) (x 1)).symm)

/-- The two stores of keys. -/
theorem key_6 (r : Fin 256) (d : Fin 128) :
    k0_pay7 (F := Ideal) (View.ld x0 r0_4) (View.ld x2 r0_5) (ix3 0 r d) = rms (fun k => cell x0 r (512 + k.val)) (fun k => entry x2 k.val) d := by
  have h : k0_pay7 (F := Ideal) (View.ld x0 r0_4) (View.ld x2 r0_5) (ix3 0 r d) = k0_pay6 (F := Ideal) (View.ld x0 r0_4) (View.ld x2 r0_5) (ix2 r d) := by
    generalize View.ld x0 r0_4 = X
    generalize View.ld x2 r0_5 = G
    pointwise [k0_pay7, k0_pay6]
  rw [h, keys_6]
  rw [ld_4, ld_5]
  rfl

/-- The second. -/
theorem key_17 (r : Fin 256) (d : Fin 128) :
    k0_pay17 (F := Ideal) (k0_pay45 x0 x1 x2 x3) (ix3 0 r d) = rms (fun k => cell x0 r (640 + k.val)) (fun k => entry x2 k.val) d := by
  have h : k0_pay17 (F := Ideal) (k0_pay45 x0 x1 x2 x3) (ix3 0 r d) = k0_pay45 (F := Ideal) x0 x1 x2 x3 (ix2 r d) := by
    generalize k0_pay45 (F := Ideal) x0 x1 x2 x3 = X
    pointwise [k0_pay17]
  rw [h]
  rw [k0_pay45, keys_16, ld_16, ld_5]
  rfl

/-- Every index is a triple of coordinates. -/
theorem eta3 (x : S1x256x128.Idx) : x = ix3 0 (x 1) (x 2) := by
  funext a
  match a with
  | ⟨0, _⟩ => exact Fin.ext (by have h : (x 0).val < 1 := (x 0).isLt; show (x 0).val = 0; omega)
  | ⟨1, _⟩ => rfl
  | ⟨2, _⟩ => rfl

/-- The block of keys. -/
theorem out_key (r n : Fin 256) :
    out0_5 (F := Ideal) x0 x1 x2 x3 (ix3 0 r n) = keyAt (cell x0) (fun k => entry x2 k.val) r n.val := by
  unfold out0_5
  refine View.canon_apply_of_pieces (Val := Elt Ideal) (fun y => keyAt (cell x0) (fun k => entry x2 k.val) (y 1) (y 2).val : Vec Ideal S1x256x256 .f32) _ ?_ (ix3 0 r n) (cover0_5 _ _ _)
  intro pc hpc
  simp only [List.mem_cons, List.not_mem_nil, or_false] at hpc
  rcases hpc with rfl | rfl
  · intro x
    have hx : (x 2).val < 128 := (x 2).isLt
    have h0 : (r0_17.emb x) 1 = x 1 := Fin.ext (by show 0 + 1 * (x 1).val = (x 1).val; omega)
    have h1 : ((r0_17.emb x) 2).val = 128 + (x 2).val := by show 128 + 1 * (x 2).val = _; omega
    simp only [h0, h1, keyAt]
    rw [show (128 + (x 2).val) / 128 = 1 by omega]
    refine (congrArg _ (eta3 x)).trans ((key_17 x0 x1 x2 x3 (x 1) (x 2)).trans ?_)
    congr 1
    exact Fin.ext (by show (x 2).val = (128 + (x 2).val) % 128; omega)
  · intro x
    have hx : (x 2).val < 128 := (x 2).isLt
    have h0 : (r0_6.emb x) 1 = x 1 := Fin.ext (by show 0 + 1 * (x 1).val = (x 1).val; omega)
    have h1 : ((r0_6.emb x) 2).val = (x 2).val := by show 0 + 1 * (x 2).val = _; omega
    simp only [h0, h1, keyAt]
    rw [show (x 2).val / 128 = 0 by omega]
    refine (congrArg _ (eta3 x)).trans ((key_6 x0 x2 (x 1) (x 2)).trans ?_)
    congr 1
    exact Fin.ext (by show (x 2).val = (x 2).val % 128; omega)

/-- The block of values. -/
theorem out_6 (r n : Fin 256) : out0_6 (F := Ideal) x0 x1 x2 x3 (ix3 0 r n) = cell x0 r (768 + n.val) := by
  unfold out0_6
  rw [Cert.KernelIdeal.Value.canon6_eq]
  show (View.ld x0 r0_0) (Cert.KernelIdeal.Value.ix6_0 (ix3 0 r n)) = _
  rw [show Cert.KernelIdeal.Value.ix6_0 (ix3 0 r n) = ix2 r n from funext fun a => match a with | ⟨0, _⟩ => rfl | ⟨1, _⟩ => rfl]
  exact ld_cols2 x0 768 _ r n

/-- The block of windowed keys. -/
theorem out_7 (r n : Fin 256) : out0_7 (F := Ideal) x0 x1 x2 x3 (ix3 0 r n) = cell x0 r (1536 + n.val) := by
  unfold out0_7
  rw [Cert.KernelIdeal.Value.canon7_eq]
  show (View.ld x0 r0_2) (Cert.KernelIdeal.Value.ix7_0 (ix3 0 r n)) = _
  rw [show Cert.KernelIdeal.Value.ix7_0 (ix3 0 r n) = ix2 r n from funext fun a => match a with | ⟨0, _⟩ => rfl | ⟨1, _⟩ => rfl]
  exact ld_cols2 x0 1536 _ r n

/-- The block of windowed values. -/
theorem out_8 (r n : Fin 256) : out0_8 (F := Ideal) x0 x1 x2 x3 (ix3 0 r n) = cell x0 r (1792 + n.val) := by
  unfold out0_8
  rw [Cert.KernelIdeal.Value.canon8_eq]
  show (View.ld x0 r0_3) (Cert.KernelIdeal.Value.ix8_0 (ix3 0 r n)) = _
  rw [show Cert.KernelIdeal.Value.ix8_0 (ix3 0 r n) = ix2 r n from funext fun a => match a with | ⟨0, _⟩ => rfl | ⟨1, _⟩ => rfl]
  exact ld_cols2 x0 1792 _ r n

end Cert.Attn.Blk
-- ==== Proof.RowMax.lean ====
/- A reference's row maximum over the last axis of a rank-5 array, at any extents. -/
module

public import Idealize.ShloMosaic.Lib.Pointwise
public import Idealize.ShloMosaic.PureOps.Ideal.Laws

@[expose] public section

noncomputable section

namespace Cert.Attn

open Idealize.ShloMosaic

/-- The host's maximum over the last axis of a rank-5 array, read at an index: the fold of `max` over that axis. -/
theorem hostMaxRow {n0 n1 n2 n3 n4 : Nat} {u : Shape} (y : FVec Ideal ⟨5, ![n0, n1, n2, n3, n4]⟩ .f32) (z : FVec Ideal u .f32) (b : EReal)
    (h : (⟨5, ![n0, n1, n2, n3, n4]⟩ : Shape).ReducesTo [4] ⟨4, ![n0, n1, n2, n3]⟩) (hu) (hz : ∀ i, z i = b)
    (i0 : Fin n0) (i1 : Fin n1) (i2 : Fin n2) (i3 : Fin n3) :
    Host.reduce (FloatOps.maximumf (F := Ideal) (φ := .f32)) y z h hu (ix4 i0 i1 i2 i3)
      = (Finset.univ : Finset (Fin n4)).fold max b fun k => y (ix5 i0 i1 i2 i3 k) := by
  rw [Host.reduce_eq_fold, h.fold_fiber_r5_a4, hz]
  rfl

end Cert.Attn
-- ==== Proof.CtxRef.lean ====
/- The attention reference read at an index, a few operations at a time. -/
module

public import proofs.«01_k».proof.Proof.Gen.ReferenceIdeal.Read
public import proofs.«01_k».proof.Proof.Alg
public import proofs.«01_k».proof.Proof.RowMax
public import Idealize.ShloMosaic.Lib.Pointwise

@[expose] public section

set_option maxRecDepth 16384

noncomputable section

namespace Cert.Attn.Ref

open Cert.ReferenceIdeal Cert.ReferenceIdeal.Read Idealize.ShloMosaic Cert.Attn

variable (x0 : Vec Ideal S12288x2048 .f32) (x1 x2 : Vec Ideal S128 .f32) (x3 : Vec Ideal S4 .f32)

/-- The normalised queries of head `h`. -/
theorem q21 (b : Fin 16) (l : Fin 256) (h : Fin 4) (d : Fin 128) :
    val_main_v21 (F := Ideal) x0 x1 (ix4 b l h d)
      = rms (fun k => x0 (ix2 ⟨b.val * 256 + l.val, by omega⟩ ⟨h.val * 128 + k.val, by omega⟩)) (fun k => x1 (ix1 k)) d := by
  pointwise [val_main_v21, val_main_v20, val_main_v19, val_main_v18, val_main_v17, val_main_v16, val_main_v15, val_main_v14,
    val_main_cst_1, val_main_v13, val_main_v12, val_main_cst_0, val_main_v11, val_main_v10, val_main_v9, val_main_v8,
    val_main_v2, val_main_v1, val_main_v0, val_main_cst]
  rfl

/-- The normalised keys of head `h`. -/
theorem k35 (b : Fin 16) (l : Fin 256) (h : Fin 2) (d : Fin 128) :
    val_main_v35 (F := Ideal) x0 x2 (ix4 b l h d)
      = rms (fun k => x0 (ix2 ⟨b.val * 256 + l.val, by omega⟩ ⟨512 + (h.val * 128 + k.val), by omega⟩)) (fun k => x2 (ix1 k)) d := by
  pointwise [val_main_v35, val_main_v34, val_main_v33, val_main_v32, val_main_v31, val_main_v30, val_main_v29, val_main_v28,
    val_main_cst_4, val_main_v27, val_main_v26, val_main_cst_3, val_main_v25, val_main_v24, val_main_v23, val_main_v22,
    val_main_v3, val_main_v1, val_main_v0, val_main_cst_2]
  rfl

/-- The values of head `h`. -/
theorem v36 (b : Fin 16) (l : Fin 256) (h : Fin 2) (d : Fin 128) :
    val_main_v36 (F := Ideal) x0 (ix4 b l h d) = x0 (ix2 ⟨b.val * 256 + l.val, by omega⟩ ⟨768 + (h.val * 128 + d.val), by omega⟩) := by
  pointwise [val_main_v36, val_main_v4, val_main_v1, val_main_v0]

/-- The windowed heads' queries. -/
theorem q37 (b : Fin 16) (l : Fin 256) (h : Fin 4) (d : Fin 128) :
    val_main_v37 (F := Ideal) x0 (ix4 b l h d) = x0 (ix2 ⟨b.val * 256 + l.val, by omega⟩ ⟨1024 + (h.val * 128 + d.val), by omega⟩) := by
  pointwise [val_main_v37, val_main_v5, val_main_v1, val_main_v0]

/-- The windowed heads' keys. -/
theorem k38 (b : Fin 16) (l : Fin 256) (h : Fin 2) (d : Fin 128) :
    val_main_v38 (F := Ideal) x0 (ix4 b l h d) = x0 (ix2 ⟨b.val * 256 + l.val, by omega⟩ ⟨1536 + (h.val * 128 + d.val), by omega⟩) := by
  pointwise [val_main_v38, val_main_v6, val_main_v1, val_main_v0]

/-- The windowed heads' values. -/
theorem v39 (b : Fin 16) (l : Fin 256) (h : Fin 2) (d : Fin 128) :
    val_main_v39 (F := Ideal) x0 (ix4 b l h d) = x0 (ix2 ⟨b.val * 256 + l.val, by omega⟩ ⟨1792 + (h.val * 128 + d.val), by omega⟩) := by
  pointwise [val_main_v39, val_main_v7, val_main_v1, val_main_v0]

/-- A logit: key times query, scaled. -/
theorem l44 (b : Fin 16) (h g : Fin 2) (l c : Fin 256) :
    val_main_v44 (F := Ideal) x0 x1 x2 (ix5 b h g l c)
      = (∑ d, val_main_v35 (F := Ideal) x0 x2 (ix4 b c h d) * val_main_v21 (F := Ideal) x0 x1 (ix4 b l ⟨h.val * 2 + g.val, by omega⟩ d)) * scale := by
  pointwise [val_main_v44, val_main_v43, val_main_v42, val_main_v41, val_main_v40, val_main_cst_5]
  rfl

/-- The row's largest logit. -/
theorem m45 (b : Fin 16) (h g : Fin 2) (l : Fin 256) :
    val_main_v45 (F := Ideal) x0 x1 x2 (ix4 b h g l) = top fun c => val_main_v44 (F := Ideal) x0 x1 x2 (ix5 b h g l c) := by
  unfold val_main_v45
  generalize val_main_v44 (F := Ideal) x0 x1 x2 = y
  refine (hostMaxRow y _ (Ideal.ofBits .f32 0xFF800000#32) _ _ ?_ b h g l).trans ?_
  · intro i
    unfold val_main_cst_6
    pointwise []
  · unfold top
    with_reducible rfl

theorem m47 (b : Fin 16) (h g : Fin 2) (l : Fin 256) :
    val_main_v47 (F := Ideal) x0 x1 x2 (ix4 b h g l)
      = max (Ideal.ofBits .f32 0xFF800000#32) (top fun c => val_main_v44 (F := Ideal) x0 x1 x2 (ix5 b h g l c)) := by
  rw [val_main_v47_apply, m45]
  generalize (top fun c => val_main_v44 (F := Ideal) x0 x1 x2 (ix5 b h g l c)) = t
  pointwise [val_main_v46, val_main_cst_7]

theorem e51 (b : Fin 16) (h g : Fin 2) (l c : Fin 256) :
    val_main_v51 (F := Ideal) x0 x1 x2 (ix5 b h g l c)
      = Ideal.exp (val_main_v44 (F := Ideal) x0 x1 x2 (ix5 b h g l c) - val_main_v47 (F := Ideal) x0 x1 x2 (ix4 b h g l)) := by
  pointwise [val_main_v51, val_main_v50, val_main_v49, val_main_v48]

theorem w55 (b : Fin 16) (h g : Fin 2) (l c : Fin 256) :
    val_main_v55 (F := Ideal) x0 x1 x2 (ix5 b h g l c)
      = Ideal.div (val_main_v51 (F := Ideal) x0 x1 x2 (ix5 b h g l c)) (∑ k, val_main_v51 (F := Ideal) x0 x1 x2 (ix5 b h g l k)) := by
  pointwise [val_main_v55, val_main_v54, val_main_v53, val_main_v52, val_main_cst_8]

theorem y57 (b : Fin 16) (l : Fin 256) (h g : Fin 2) (d : Fin 128) :
    val_main_v57 (F := Ideal) x0 x1 x2 (ix5 b l h g d)
      = ∑ c, val_main_v36 (F := Ideal) x0 (ix4 b c h d) * val_main_v55 (F := Ideal) x0 x1 x2 (ix5 b h g l c) := by
  pointwise [val_main_v57, val_main_v56]

theorem l63 (b : Fin 16) (h g : Fin 2) (l c : Fin 256) :
    val_main_v63 (F := Ideal) x0 (ix5 b h g l c)
      = (∑ d, val_main_v38 (F := Ideal) x0 (ix4 b c h d) * val_main_v37 (F := Ideal) x0 (ix4 b l ⟨h.val * 2 + g.val, by omega⟩ d)) * scale := by
  pointwise [val_main_v63, val_main_v62, val_main_v61, val_main_v60, val_main_v59, val_main_cst_9]
  rfl

/-- The row's largest logit, the sink not yet taken in. -/
theorem m65 (b : Fin 16) (h g : Fin 2) (l : Fin 256) :
    val_main_v65 (F := Ideal) x0 (ix4 b h g l) = top fun c => val_main_v63 (F := Ideal) x0 (ix5 b h g l c) := by
  unfold val_main_v65
  generalize val_main_v63 (F := Ideal) x0 = y
  refine (hostMaxRow y _ (Ideal.ofBits .f32 0xFF800000#32) _ _ ?_ b h g l).trans ?_
  · intro i
    unfold val_main_cst_10
    pointwise []
  · unfold top
    with_reducible rfl

theorem m69 (b : Fin 16) (h g : Fin 2) (l : Fin 256) :
    val_main_v69 (F := Ideal) x0 x3 (ix5 b h g l 0)
      = max (top fun c => val_main_v63 (F := Ideal) x0 (ix5 b h g l c)) (x3 (ix1 ⟨h.val * 2 + g.val, by omega⟩)) := by
  have e : val_main_v66 (F := Ideal) x0 (ix5 b h g l 0) = val_main_v65 (F := Ideal) x0 (ix4 b h g l) := by
    unfold val_main_v66
    generalize val_main_v65 (F := Ideal) x0 = y
    pointwise []
  rw [val_main_v69_apply, e, m65]
  generalize (top fun c => val_main_v63 (F := Ideal) x0 (ix5 b h g l c)) = t
  pointwise [val_main_v68, val_main_v67, val_main_v64]

theorem e72 (b : Fin 16) (h g : Fin 2) (l c : Fin 256) :
    val_main_v72 (F := Ideal) x0 x3 (ix5 b h g l c)
      = Ideal.exp (val_main_v63 (F := Ideal) x0 (ix5 b h g l c) - val_main_v69 (F := Ideal) x0 x3 (ix5 b h g l 0)) := by
  pointwise [val_main_v72, val_main_v71, val_main_v70]

theorem t79 (b : Fin 16) (h g : Fin 2) (l : Fin 256) :
    val_main_v79 (F := Ideal) x0 x3 (ix5 b h g l 0)
      = (∑ k, val_main_v72 (F := Ideal) x0 x3 (ix5 b h g l k))
        + Ideal.exp (x3 (ix1 ⟨h.val * 2 + g.val, by omega⟩) - val_main_v69 (F := Ideal) x0 x3 (ix5 b h g l 0)) := by
  pointwise [val_main_v79, val_main_v78, val_main_v77, val_main_v76, val_main_v75, val_main_v74, val_main_v73, val_main_v64, val_main_cst_11]

theorem w81 (b : Fin 16) (h g : Fin 2) (l c : Fin 256) :
    val_main_v81 (F := Ideal) x0 x3 (ix5 b h g l c)
      = Ideal.div (val_main_v72 (F := Ideal) x0 x3 (ix5 b h g l c)) (val_main_v79 (F := Ideal) x0 x3 (ix5 b h g l 0)) := by
  pointwise [val_main_v81, val_main_v80]

theorem y83 (b : Fin 16) (l : Fin 256) (h g : Fin 2) (d : Fin 128) :
    val_main_v83 (F := Ideal) x0 x3 (ix5 b l h g d)
      = ∑ c, val_main_v39 (F := Ideal) x0 (ix4 b c h d) * val_main_v81 (F := Ideal) x0 x3 (ix5 b h g l c) := by
  pointwise [val_main_v83, val_main_v82]

/-- A row of the attention's output array: the first heads in its first half. -/
theorem mixC (b : Fin 16) (l : Fin 256) (h g : Fin 2) (d : Fin 128) :
    val_main_v88 (F := Ideal) x0 x1 x2 x3 (ix2 ⟨b.val * 256 + l.val, by omega⟩ ⟨(h.val * 2 + g.val) * 128 + d.val, by omega⟩)
      = val_main_v57 (F := Ideal) x0 x1 x2 (ix5 b l h g d) := by
  pointwise [val_main_v88, val_main_v87, val_main_v85, val_main_v58]
  rw [dif_pos (by omega)]

/-- … the windowed heads in its second half. -/
theorem mixD (b : Fin 16) (l : Fin 256) (h g : Fin 2) (d : Fin 128) :
    val_main_v88 (F := Ideal) x0 x1 x2 x3 (ix2 ⟨b.val * 256 + l.val, by omega⟩ ⟨512 + ((h.val * 2 + g.val) * 128 + d.val), by omega⟩)
      = val_main_v83 (F := Ideal) x0 x3 (ix5 b l h g d) := by
  pointwise [val_main_v88, val_main_v87, val_main_v86, val_main_v84]

/-- The rows that are not padding. -/
theorem pad89 (r : Fin 12288) (hr : r.val < 4096) (c : Fin 1024) :
    val_main_v89 (F := Ideal) x0 x1 x2 x3 (ix2 r c) = val_main_v88 (F := Ideal) x0 x1 x2 x3 (ix2 ⟨r.val, hr⟩ c) := by
  pointwise [val_main_v89]
  rw [dif_pos hr]

/-- The four caches, each head's row at its columns. -/
theorem kc90 (b : Fin 16) (l : Fin 256) (h : Fin 2) (d : Fin 128) :
    val_main_v90 (F := Ideal) x0 x2 (ix3 b l ⟨h.val * 128 + d.val, by omega⟩) = val_main_v35 (F := Ideal) x0 x2 (ix4 b l h d) := by
  pointwise [val_main_v90]

theorem vc91 (b : Fin 16) (l c : Fin 256) :
    val_main_v91 (F := Ideal) x0 (ix3 b l c) = x0 (ix2 ⟨b.val * 256 + l.val, by omega⟩ ⟨768 + c.val, by omega⟩) := by
  pointwise [val_main_v91, val_main_v36, val_main_v4, val_main_v1, val_main_v0]

theorem kd92 (b : Fin 16) (l c : Fin 256) :
    val_main_v92 (F := Ideal) x0 (ix3 b l c) = x0 (ix2 ⟨b.val * 256 + l.val, by omega⟩ ⟨1536 + c.val, by omega⟩) := by
  pointwise [val_main_v92, val_main_v38, val_main_v6, val_main_v1, val_main_v0]

theorem vd93 (b : Fin 16) (l c : Fin 256) :
    val_main_v93 (F := Ideal) x0 (ix3 b l c) = x0 (ix2 ⟨b.val * 256 + l.val, by omega⟩ ⟨1792 + c.val, by omega⟩) := by
  pointwise [val_main_v93, val_main_v39, val_main_v7, val_main_v1, val_main_v0]

/-- What the attention writes for a head of the first kind. -/
theorem headC (b : Fin 16) (l : Fin 256) (h g : Fin 2) (d : Fin 128) :
    val_main_v57 (F := Ideal) x0 x1 x2 (ix5 b l h g d)
      = weighted (logits (fun l k => val_main_v21 (F := Ideal) x0 x1 (ix4 b l ⟨h.val * 2 + g.val, by omega⟩ k))
            (fun l k => val_main_v35 (F := Ideal) x0 x2 (ix4 b l h k)) l)
          (fun c => val_main_v36 (F := Ideal) x0 (ix4 b c h d))
          (top (logits (fun l k => val_main_v21 (F := Ideal) x0 x1 (ix4 b l ⟨h.val * 2 + g.val, by omega⟩ k))
            (fun l k => val_main_v35 (F := Ideal) x0 x2 (ix4 b l h k)) l)) 0 := by
  rw [y57]
  simp only [w55, e51, m47, l44, weighted, add_zero, ofBits_neg_inf, bot_le, sup_of_le_right]
  exact Finset.sum_congr rfl fun c _ => mul_comm _ _

/-- What the attention writes for a windowed head: the sink joins the row's maximum and its total. -/
theorem headD (b : Fin 16) (l : Fin 256) (h g : Fin 2) (d : Fin 128) :
    val_main_v83 (F := Ideal) x0 x3 (ix5 b l h g d)
      = weighted (logits (fun l k => val_main_v37 (F := Ideal) x0 (ix4 b l ⟨h.val * 2 + g.val, by omega⟩ k))
            (fun l k => val_main_v38 (F := Ideal) x0 (ix4 b l h k)) l)
          (fun c => val_main_v39 (F := Ideal) x0 (ix4 b c h d))
          (max (top (logits (fun l k => val_main_v37 (F := Ideal) x0 (ix4 b l ⟨h.val * 2 + g.val, by omega⟩ k))
            (fun l k => val_main_v38 (F := Ideal) x0 (ix4 b l h k)) l)) (x3 (ix1 ⟨h.val * 2 + g.val, by omega⟩)))
          (Ideal.exp (x3 (ix1 ⟨h.val * 2 + g.val, by omega⟩)
            - max (top (logits (fun l k => val_main_v37 (F := Ideal) x0 (ix4 b l ⟨h.val * 2 + g.val, by omega⟩ k))
            (fun l k => val_main_v38 (F := Ideal) x0 (ix4 b l h k)) l)) (x3 (ix1 ⟨h.val * 2 + g.val, by omega⟩)))) := by
  rw [y83]
  simp only [w81, t79, e72, m69, l63, weighted]
  exact Finset.sum_congr rfl fun c _ => mul_comm _ _

end Cert.Attn.Ref
-- ==== Proof.CtxValue.lean ====
/- The context attention's result arrays after the run, index by index. -/
module

public import proofs.«01_k».proof.Proof.CtxOut
public import proofs.«01_k».proof.Proof.CtxRef
public import Idealize.ShloMosaic.Lib.Pipeline.ValueKit.Partial

@[expose] public section

set_option maxRecDepth 16384

noncomputable section

namespace Cert.Attn.Val

open Idealize.ShloMosaic.TcCoe Idealize.SL.Sem Cert.KernelIdeal Cert.KernelIdeal.Gen Idealize.ShloMosaic Cert.Attn Cert.Attn.Blk

variable (m : (ℓ : Loc nD τ sig) → Buf (Elt Ideal) ℓ) (c : Dev nD)

/-- The four arguments. -/
abbrev a0 : Vec Ideal S12288x2048 .f32 := m ((c : Thread nD τ).loc main_arg0)
abbrev a1 : Vec Ideal S128 .f32 := m ((c : Thread nD τ).loc main_arg1)
abbrev a2 : Vec Ideal S128 .f32 := m ((c : Thread nD τ).loc main_arg2)
abbrev a3 : Vec Ideal S4 .f32 := m ((c : Thread nD τ).loc main_arg3)

/-- Column `n` of row `l` of batch element `b`. -/
def colAt (x0 : Vec Ideal S12288x2048 .f32) (b : Nat) (l : Fin 256) (n : Nat) : EReal :=
  if h : b * 256 + l.val < 12288 ∧ n < 2048 then x0 (ix2 ⟨b * 256 + l.val, h.1⟩ ⟨n, h.2⟩) else 0

/-- Entry `n` of the gains. -/
def gainAt (x : Vec Ideal S128 .f32) (n : Nat) : EReal := if h : n < 128 then x (ix1 ⟨n, h⟩) else 0

/-- The sinks as the kernel is given them: in a row of 128. -/
abbrev sinkRow : Vec Ideal S1x128 .f32 := V m c main_v1

theorem idx0 : ∀ t : Fin cfg0.N, win0_0.index t = ![(grid0.coords t 0).val, 0] :=
  (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] :=
  (by decide +kernel : ∀ t : Fin grid0.N, _)
theorem coord0 : ∀ t : Fin cfg0.N, (grid0.coords t 0).val = t.val := (by decide +kernel : ∀ t : Fin grid0.N, _)

/-- The gains of the queries, as a row. -/
theorem row1 : (V m c main_v2 : Vec Ideal S1x128 .f32) = shapeCast S1x128 (a1 m c) shapeCasts_S128_S1x128 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gains of the keys, as a row. -/
theorem row2 : (V m c main_v3 : Vec Ideal S1x128 .f32) = shapeCast S1x128 (a2 m c) shapeCasts_S128_S1x128 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The sinks, padded to a row. -/
theorem row3 : (V m c main_v1 : Vec Ideal S1x128 .f32)
    = pad S1x128 ![0, 0] ![0, 124] ![0, 0] (shapeCast S1x4 (a3 m c) shapeCasts_S4_S1x4) (sitofp (F := Ideal) .f32 (constantI S_ 32 0#32)) pads_S1x4_S1x128_000_01240 h_S_ := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- Entry `k` of the queries' gains, in the block. -/
theorem blk1 (t : Fin cfg0.N) (k : Fin 128) : entry (iblk m c 1 t) k.val = a1 m c (ix1 k) := by
  rw [entry, dif_pos k.isLt]
  have h : iblk m c 1 t (ix2 0 ⟨k.val, k.isLt⟩) = (V m c main_v2 : Vec Ideal S1x128 .f32) (ix2 0 k) := by
    blk_simp [iblk]
    refine congrArg _ ?_
    blk_ext [idx1 t]
  rw [h, row1]
  pointwise []

/-- Entry `k` of the keys' gains, in the block. -/
theorem blk2 (t : Fin cfg0.N) (k : Fin 128) : entry (iblk m c 2 t) k.val = a2 m c (ix1 k) := by
  rw [entry, dif_pos k.isLt]
  have h : iblk m c 2 t (ix2 0 ⟨k.val, k.isLt⟩) = (V m c main_v3 : Vec Ideal S1x128 .f32) (ix2 0 k) := by
    blk_simp [iblk]
    refine congrArg _ ?_
    blk_ext [idx2 t]
  rw [h, row2]
  pointwise []

/-- Sink `k`, in the block. -/
theorem blk3 (t : Fin cfg0.N) (k : Fin 4) : entry (iblk m c 3 t) k.val = a3 m c (ix1 k) := by
  have hk : k.val < 128 := by omega
  rw [entry, dif_pos hk]
  have h : iblk m c 3 t (ix2 0 ⟨k.val, hk⟩) = (V m c main_v1 : Vec Ideal S1x128 .f32) (ix2 0 ⟨k.val, hk⟩) := by
    blk_simp [iblk]
    refine congrArg _ ?_
    blk_ext [idx3 t]
  rw [h, row3]
  pointwise []

/-- A column of a row, in the block. -/
theorem blk0 (t : Fin cfg0.N) (l : Fin 256) (n : Nat) : cell (iblk m c 0 t) l n = colAt (a0 m c) t.val l n := by
  have ht : t.val < 16 := t.isLt
  by_cases hn : n < 2048
  · rw [cell, dif_pos hn, colAt, dif_pos ⟨by omega, hn⟩]
    have e : (V m c main_arg0 : Vec Ideal S12288x2048 .f32) = a0 m c := V_main_arg0 m c
    rw [← e]
    blk_simp [iblk]
    refine congrArg _ ?_
    blk_ext [idx0 t, coord0 t]
  · rw [cell, dif_neg hn, colAt, dif_neg (fun h => hn h.2)]

/-- The mixed row `l` of batch element `b`, column `n`. -/
abbrev mixOf (b : Nat) (l : Fin 256) (n : Nat) : EReal :=
  mixAt (colAt (a0 m c) b) (fun k => a1 m c (ix1 k)) (fun k => a2 m c (ix1 k))
    (fun h => if hh : h < 4 then a3 m c (ix1 ⟨h, hh⟩) else 0) l n

/-- The block of mixed rows a point leaves. -/
theorem after4 (t : Fin cfg0.N) (r : Fin 256) (n : Fin 1024) :
    out0_4 (F := Ideal) (iblk m c 0 t) (iblk m c 1 t) (iblk m c 2 t) (iblk m c 3 t) (ix2 r n) = mixOf m c t.val r n.val := by
  rw [out_mix]
  have e0 : cell (iblk m c 0 t) = colAt (a0 m c) t.val := by funext l n; exact blk0 m c t l n
  have e1 : (fun k : Fin 128 => entry (iblk m c 1 t) k.val) = fun k => a1 m c (ix1 k) := funext (blk1 m c t)
  have e2 : (fun k : Fin 128 => entry (iblk m c 2 t) k.val) = fun k => a2 m c (ix1 k) := funext (blk2 m c t)
  rw [e0, e1, e2, mixOf, mixAt, mixAt]
  split
  · rfl
  · have hn := n.isLt
    have h4 : (n.val - 512) / 128 < 4 := by omega
    rw [dif_pos h4, blk3 m c t ⟨_, h4⟩]

/-- The same at any index of the block. -/
theorem after4' (t : Fin cfg0.N) (y : S256x1024.Idx) :
    out0_4 (F := Ideal) (iblk m c 0 t) (iblk m c 1 t) (iblk m c 2 t) (iblk m c 3 t) y = mixOf m c t.val (y 0) (y 1).val := by
  have e : y = ix2 (y 0) (y 1) := by funext a; match a with | ⟨0, _⟩ => rfl | ⟨1, _⟩ => rfl
  exact (congrArg _ e).trans (after4 m c t (y 0) (y 1))

/-- Row `b * 256 + r` is row `r` of batch element `b`. -/
theorem mix_row (b r : Nat) (hr : r < 256) (n : Nat) :
    mixOf m c b ⟨r, hr⟩ n = mixOf m c ((b * 256 + r) / 256) ⟨(b * 256 + r) % 256, Nat.mod_lt _ (by omega)⟩ n := by
  have h : (b * 256 + r) / 256 = b := by omega
  have h' : (⟨(b * 256 + r) % 256, Nat.mod_lt _ (by omega)⟩ : Fin 256) = ⟨r, hr⟩ := Fin.ext (by show (b * 256 + r) % 256 = r; omega)
  rw [h, h']

/-- The array of mixed rows after the run: the context's rows as computed. -/
theorem arr4 (i : S12288x1024.Idx) (hi : (i 0).val < 4096) :
    ((dats m 0 c).arrAt 4 cfg0.N : Vec Ideal S12288x1024 .f32) i
      = mixOf m c ((i 0).val / 256) ⟨(i 0).val % 256, Nat.mod_lt _ (by omega)⟩ (i 1).val := by
  have key := (dats m 0 c).arrAt_apply_of_coversWhere 4
    (fun j => mixOf m c ((j 0).val / 256) ⟨(j 0).val % 256, Nat.mod_lt _ (by omega)⟩ (j 1).val)
    (P := fun j => (j 0).val / 256 < 16) (fun β => β (0 : Fin _) < 16) (by decide +kernel) (fun t hf y => ?_) (fun j => Iff.rfl) i
  · rw [key, if_pos (by omega)]
  · blk_simp [idx4 t, coord0 t]
    rw [after0_4]
    exact (after4' m c t y).trans (mix_row m c t.val (y 0).val (y 0).isLt (y 1).val)

/-- A block has all rows of its batch element. -/
theorem wrap (b : Nat) (l : Fin 256) (n : Nat) :
    colAt (a0 m c) b l n = colAt (a0 m c) b ⟨l.val % 256, Nat.mod_lt _ (by omega)⟩ n := by
  have h : (⟨l.val % 256, Nat.mod_lt _ (by omega)⟩ : Fin 256) = l := Fin.ext (Nat.mod_eq_of_lt l.isLt)
  rw [h]

/-- The same for the keys. -/
theorem wrapK (b : Nat) (l : Fin 256) (n : Nat) :
    keyAt (colAt (a0 m c) b) (fun k => a2 m c (ix1 k)) l n
      = keyAt (colAt (a0 m c) b) (fun k => a2 m c (ix1 k)) ⟨l.val % 256, Nat.mod_lt _ (by omega)⟩ n := by
  have h : (⟨l.val % 256, Nat.mod_lt _ (by omega)⟩ : Fin 256) = l := Fin.ext (Nat.mod_eq_of_lt l.isLt)
  rw [h]

theorem idx5 : ∀ t : Fin cfg0.N, win0_5.index t = ![(grid0.coords t 0).val, 0, 0] := (by decide +kernel : ∀ t : Fin grid0.N, _)

/-- The block of keys a point leaves. -/
theorem after5 (t : Fin cfg0.N) (y : S1x256x256.Idx) :
    out0_5 (F := Ideal) (iblk m c 0 t) (iblk m c 1 t) (iblk m c 2 t) (iblk m c 3 t) y
      = keyAt (colAt (a0 m c) t.val) (fun k => a2 m c (ix1 k)) (y 1) (y 2).val := by
  have e : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have e0 : cell (iblk m c 0 t) = colAt (a0 m c) t.val := by funext l n; exact blk0 m c t l n
  have e2 : (fun k : Fin 128 => entry (iblk m c 2 t) k.val) = fun k => a2 m c (ix1 k) := funext (blk2 m c t)
  refine (congrArg _ e).trans ((out_key _ _ _ _ (y 1) (y 2)).trans ?_)
  rw [e0, e2]

/-- The array of keys after the run. -/
theorem arr5 : ((dats m 0 c).arrAt 5 cfg0.N : Vec Ideal S16x256x256 .f32)
    = fun i => keyAt (colAt (a0 m c) (i 0).val) (fun k => a2 m c (ix1 k)) ⟨(i 1).val % 256, Nat.mod_lt _ (by omega)⟩ (i 2).val := by
  refine (dats m 0 c).arrAt_eq_of_covers 5 _ (by decide +kernel) fun t hf y => ?_
  blk_simp [idx5 t, coord0 t]
  rw [after0_5]
  exact (after5 m c t y).trans (wrapK m c t.val (y 1) (y 2).val)

theorem idx6 : ∀ t : Fin cfg0.N, win0_6.index t = ![(grid0.coords t 0).val, 0, 0] := (by decide +kernel : ∀ t : Fin grid0.N, _)

/-- The block of values a point leaves. -/
theorem after6 (t : Fin cfg0.N) (y : S1x256x256.Idx) :
    out0_6 (F := Ideal) (iblk m c 0 t) (iblk m c 1 t) (iblk m c 2 t) (iblk m c 3 t) y
      = colAt (a0 m c) t.val (y 1) (768 + (y 2).val) := by
  have e : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have e0 : cell (iblk m c 0 t) = colAt (a0 m c) t.val := by funext l n; exact blk0 m c t l n
  have e2 : (fun k : Fin 128 => entry (iblk m c 2 t) k.val) = fun k => a2 m c (ix1 k) := funext (blk2 m c t)
  refine (congrArg _ e).trans ((out_6 _ _ _ _ (y 1) (y 2)).trans ?_)
  rw [e0]

/-- The array of values after the run. -/
theorem arr6 : ((dats m 0 c).arrAt 6 cfg0.N : Vec Ideal S16x256x256 .f32)
    = fun i => colAt (a0 m c) (i 0).val ⟨(i 1).val % 256, Nat.mod_lt _ (by omega)⟩ (768 + (i 2).val) := by
  refine (dats m 0 c).arrAt_eq_of_covers 6 _ (by decide +kernel) fun t hf y => ?_
  blk_simp [idx6 t, coord0 t]
  rw [after0_6]
  exact (after6 m c t y).trans (wrap m c t.val (y 1) (768 + (y 2).val))

theorem idx7 : ∀ t : Fin cfg0.N, win0_7.index t = ![(grid0.coords t 0).val, 0, 0] := (by decide +kernel : ∀ t : Fin grid0.N, _)

/-- The block of windowed keys a point leaves. -/
theorem after7 (t : Fin cfg0.N) (y : S1x256x256.Idx) :
    out0_7 (F := Ideal) (iblk m c 0 t) (iblk m c 1 t) (iblk m c 2 t) (iblk m c 3 t) y
      = colAt (a0 m c) t.val (y 1) (1536 + (y 2).val) := by
  have e : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have e0 : cell (iblk m c 0 t) = colAt (a0 m c) t.val := by funext l n; exact blk0 m c t l n
  have e2 : (fun k : Fin 128 => entry (iblk m c 2 t) k.val) = fun k => a2 m c (ix1 k) := funext (blk2 m c t)
  refine (congrArg _ e).trans ((out_7 _ _ _ _ (y 1) (y 2)).trans ?_)
  rw [e0]

/-- The array of windowed keys after the run. -/
theorem arr7 : ((dats m 0 c).arrAt 7 cfg0.N : Vec Ideal S16x256x256 .f32)
    = fun i => colAt (a0 m c) (i 0).val ⟨(i 1).val % 256, Nat.mod_lt _ (by omega)⟩ (1536 + (i 2).val) := by
  refine (dats m 0 c).arrAt_eq_of_covers 7 _ (by decide +kernel) fun t hf y => ?_
  blk_simp [idx7 t, coord0 t]
  rw [after0_7]
  exact (after7 m c t y).trans (wrap m c t.val (y 1) (1536 + (y 2).val))

theorem idx8 : ∀ t : Fin cfg0.N, win0_8.index t = ![(grid0.coords t 0).val, 0, 0] := (by decide +kernel : ∀ t : Fin grid0.N, _)

/-- The block of windowed values a point leaves. -/
theorem after8 (t : Fin cfg0.N) (y : S1x256x256.Idx) :
    out0_8 (F := Ideal) (iblk m c 0 t) (iblk m c 1 t) (iblk m c 2 t) (iblk m c 3 t) y
      = colAt (a0 m c) t.val (y 1) (1792 + (y 2).val) := by
  have e : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have e0 : cell (iblk m c 0 t) = colAt (a0 m c) t.val := by funext l n; exact blk0 m c t l n
  have e2 : (fun k : Fin 128 => entry (iblk m c 2 t) k.val) = fun k => a2 m c (ix1 k) := funext (blk2 m c t)
  refine (congrArg _ e).trans ((out_8 _ _ _ _ (y 1) (y 2)).trans ?_)
  rw [e0]

/-- The array of windowed values after the run. -/
theorem arr8 : ((dats m 0 c).arrAt 8 cfg0.N : Vec Ideal S16x256x256 .f32)
    = fun i => colAt (a0 m c) (i 0).val ⟨(i 1).val % 256, Nat.mod_lt _ (by omega)⟩ (1792 + (i 2).val) := by
  refine (dats m 0 c).arrAt_eq_of_covers 8 _ (by decide +kernel) fun t hf y => ?_
  blk_simp [idx8 t, coord0 t]
  rw [after0_8]
  exact (after8 m c t y).trans (wrap m c t.val (y 1) (1792 + (y 2).val))

end Cert.Attn.Val
-- ==== Proof.CtxAgree.lean ====
/- The context attention: the kernel's arrays are the reference's. -/
module

public import proofs.«01_k».proof.Proof.CtxValue
public import proofs.«01_k».proof.Proof.Gen.Pre_finite_inputs

@[expose] public section

set_option maxRecDepth 16384

noncomputable section

namespace Cert.Attn.Agree

open Cert.ReferenceIdeal Cert.ReferenceIdeal.Read Idealize.ShloMosaic Cert.Attn Cert.Attn.Blk Cert.Attn.Val Cert.Attn.Ref

/-- A column of a row, the indices apart. -/
theorem colR (x0 : Vec Ideal S12288x2048 .f32) (b : Nat) (l : Fin 256) (n : Nat) (h : b * 256 + l.val < 12288) (h' : n < 2048) :
    x0 (ix2 ⟨b * 256 + l.val, h⟩ ⟨n, h'⟩) = colAt x0 b l n := by
  rw [colAt, dif_pos ⟨h, h'⟩]

/-- Columns of finite projections are finite. -/
theorem col_fin (x0 : Vec Ideal S12288x2048 .f32) (hx : ∀ i, Fin' (x0 i)) (b : Nat) (l : Fin 256) (n : Nat) : Fin' (colAt x0 b l n) := by
  unfold colAt
  split
  · exact hx _
  · exact ⟨EReal.zero_ne_bot, EReal.zero_ne_top⟩

theorem scale_fin : Fin' scale := by
  obtain ⟨a, _, h⟩ := scale_eq
  exact (fin'_iff _).2 ⟨a, h⟩

theorem logits_fin (q k : Fin 256 → Fin 128 → EReal) (hq : ∀ l d, Fin' (q l d)) (hk : ∀ l d, Fin' (k l d)) (l c : Fin 256) :
    Fin' (logits q k l c) :=
  (Fin'.sum _ fun d => (hk c d).mul (hq l d)).mul scale_fin

/-- Dividing after the sum is dividing each weight, for finite inputs: a head without a sink … -/
theorem outC_eq (X : Fin 256 → Nat → EReal) (gq gk : Fin 128 → EReal) (oq ok ov : Nat) (l : Fin 256)
    (hX : ∀ l n, Fin' (X l n)) (hq : ∀ k, Fin' (gq k)) (hk : ∀ k, Fin' (gk k)) :
    outC X gq gk oq ok ov l = weighted (lgC X gq gk oq ok l) (fun c => X c ov) (top (lgC X gq gk oq ok l)) 0 := by
  have h : ∀ c, Fin' (lgC X gq gk oq ok l c) :=
    logits_fin _ _ (fun l => rms_fin' (fun k => hX l _) hq) (fun l => rms_fin' (fun k => hX l _) hk) l
  exact weightedOnce_eq _ _ _ _ h (top_fin' h) ⟨0, le_refl _, EReal.coe_zero.symm⟩

/-- … and one with a sink. -/
theorem outD_eq (X : Fin 256 → Nat → EReal) (s : EReal) (oq ok ov : Nat) (l : Fin 256) (hX : ∀ l n, Fin' (X l n)) (hs : Fin' s) :
    outD X s oq ok ov l = weighted (lgD X oq ok l) (fun c => X c ov) (max (top (lgD X oq ok l)) s)
      (Ideal.exp (s - max (top (lgD X oq ok l)) s)) := by
  have h : ∀ c, Fin' (lgD X oq ok l c) := logits_fin _ _ (fun l d => hX l _) (fun l d => hX l _) l
  have hm := (top_fin' h).max hs
  obtain ⟨r, hr, he⟩ := exp_sub hs hm
  exact weightedOnce_eq _ _ _ _ h hm ⟨r, hr.le, he⟩

variable (x0 : Vec Ideal S12288x2048 .f32) (x1 x2 : Vec Ideal S128 .f32) (x3 : Vec Ideal S4 .f32)

/-- A head of the first kind of the reference, over the columns. -/
theorem refC (b : Fin 16) (l : Fin 256) (h g : Fin 2) (d : Fin 128) :
    val_main_v57 (F := Ideal) x0 x1 x2 (ix5 b l h g d)
      = weighted (lgC (colAt x0 b.val) (fun k => x1 (ix1 k)) (fun k => x2 (ix1 k)) ((h.val * 2 + g.val) * 128) (512 + h.val * 128) l)
          (fun c => colAt x0 b.val c (768 + (h.val * 128 + d.val)))
          (top (lgC (colAt x0 b.val) (fun k => x1 (ix1 k)) (fun k => x2 (ix1 k)) ((h.val * 2 + g.val) * 128) (512 + h.val * 128) l)) 0 := by
  rw [headC]
  simp only [q21, k35, v36, colR, lgC, Nat.add_assoc]

/-- A head with a sink of the reference, over the columns. -/
theorem refD (b : Fin 16) (l : Fin 256) (h g : Fin 2) (d : Fin 128) :
    val_main_v83 (F := Ideal) x0 x3 (ix5 b l h g d)
      = weighted (lgD (colAt x0 b.val) (1024 + (h.val * 2 + g.val) * 128) (1536 + h.val * 128) l)
          (fun c => colAt x0 b.val c (1792 + (h.val * 128 + d.val)))
          (max (top (lgD (colAt x0 b.val) (1024 + (h.val * 2 + g.val) * 128) (1536 + h.val * 128) l)) (x3 (ix1 ⟨h.val * 2 + g.val, by omega⟩)))
          (Ideal.exp (x3 (ix1 ⟨h.val * 2 + g.val, by omega⟩) -
            max (top (lgD (colAt x0 b.val) (1024 + (h.val * 2 + g.val) * 128) (1536 + h.val * 128) l)) (x3 (ix1 ⟨h.val * 2 + g.val, by omega⟩)))) := by
  rw [headD]
  simp only [q37, k38, v39, colR, lgD, Nat.add_assoc]

/-- The reference's mixed row, at a column of the first half … -/
theorem mix_first (h0 : ∀ i, Fin' (x0 i)) (h1 : ∀ i, Fin' (x1 i)) (h2 : ∀ i, Fin' (x2 i)) (b : Fin 16) (l : Fin 256) (n : Nat) (hn : n < 512) :
    val_main_v88 (F := Ideal) x0 x1 x2 x3 (ix2 ⟨b.val * 256 + l.val, by omega⟩ ⟨n, by omega⟩)
      = mixAt (colAt x0 b.val) (fun k => x1 (ix1 k)) (fun k => x2 (ix1 k)) (fun h => if hh : h < 4 then x3 (ix1 ⟨h, hh⟩) else 0) l n := by
  have e := mixC x0 x1 x2 x3 b l ⟨n / 256, by omega⟩ ⟨n / 128 % 2, by omega⟩ ⟨n % 128, by omega⟩
  rw [show (⟨n, by omega⟩ : Fin 1024) = ⟨(n / 256 * 2 + n / 128 % 2) * 128 + n % 128, by omega⟩ from Fin.ext (by show n = (n / 256 * 2 + n / 128 % 2) * 128 + n % 128; omega)]
  refine e.trans ?_
  rw [refC, mixAt, if_pos hn, outC_eq _ _ _ _ _ _ _ (col_fin x0 h0 _) (fun k => h1 _) (fun k => h2 _)]
  rw [show n / 128 * 128 = (n / 256 * 2 + n / 128 % 2) * 128 by omega]

/-- … and of the second. -/
theorem mix_second (h0 : ∀ i, Fin' (x0 i)) (h3 : ∀ i, Fin' (x3 i)) (b : Fin 16) (l : Fin 256) (n : Nat) (hn : n < 512) :
    val_main_v88 (F := Ideal) x0 x1 x2 x3 (ix2 ⟨b.val * 256 + l.val, by omega⟩ ⟨512 + n, by omega⟩)
      = mixAt (colAt x0 b.val) (fun k => x1 (ix1 k)) (fun k => x2 (ix1 k)) (fun h => if hh : h < 4 then x3 (ix1 ⟨h, hh⟩) else 0) l (512 + n) := by
  have e := mixD x0 x1 x2 x3 b l ⟨n / 256, by omega⟩ ⟨n / 128 % 2, by omega⟩ ⟨n % 128, by omega⟩
  rw [show (⟨512 + n, by omega⟩ : Fin 1024) = ⟨512 + ((n / 256 * 2 + n / 128 % 2) * 128 + n % 128), by omega⟩ from Fin.ext (by show 512 + n = 512 + ((n / 256 * 2 + n / 128 % 2) * 128 + n % 128); omega)]
  refine e.trans ?_
  have h4 : n / 256 * 2 + n / 128 % 2 < 4 := by omega
  rw [refD, mixAt, if_neg (by omega), show (512 + n - 512) / 128 = n / 256 * 2 + n / 128 % 2 by omega,
    show (512 + n - 512) / 256 = n / 256 by omega, show (512 + n) % 128 = n % 128 by omega, dif_pos h4,
    outD_eq _ _ _ _ _ _ (col_fin x0 h0 _) (h3 _)]

/-- The reference's mixed rows, at every index of the context. -/
theorem ref_mix (h0 : ∀ i, Fin' (x0 i)) (h1 : ∀ i, Fin' (x1 i)) (h2 : ∀ i, Fin' (x2 i)) (h3 : ∀ i, Fin' (x3 i))
    (r : Fin 12288) (n : Fin 1024) (hr : r.val < 4096) :
    val_main_v89 (F := Ideal) x0 x1 x2 x3 (ix2 r n)
      = mixAt (colAt x0 (r.val / 256)) (fun k => x1 (ix1 k)) (fun k => x2 (ix1 k)) (fun h => if hh : h < 4 then x3 (ix1 ⟨h, hh⟩) else 0)
          ⟨r.val % 256, Nat.mod_lt _ (by omega)⟩ n.val := by
  rw [pad89 _ _ _ _ r hr, show (⟨r.val, hr⟩ : Fin 4096) = ⟨r.val / 256 * 256 + r.val % 256, by omega⟩ from Fin.ext (by show r.val = r.val / 256 * 256 + r.val % 256; omega)]
  by_cases hn : n.val < 512
  · exact mix_first x0 x1 x2 x3 h0 h1 h2 ⟨r.val / 256, by omega⟩ ⟨r.val % 256, Nat.mod_lt _ (by omega)⟩ n.val hn
  · have hn' := n.isLt
    have e := mix_second x0 x1 x2 x3 h0 h3 ⟨r.val / 256, by omega⟩ ⟨r.val % 256, Nat.mod_lt _ (by omega)⟩ (n.val - 512) (by omega)
    have e' : (⟨512 + (n.val - 512), by omega⟩ : Fin 1024) = n := Fin.ext (by show 512 + (n.val - 512) = n.val; omega)
    rw [e', show 512 + (n.val - 512) = n.val by omega] at e
    exact e

/-- The reference's cache of keys. -/
theorem ref_kc (b : Fin 16) (l n : Fin 256) :
    val_main_v90 (F := Ideal) x0 x2 (ix3 b l n)
      = keyAt (colAt x0 b.val) (fun k => x2 (ix1 k)) ⟨l.val % 256, Nat.mod_lt _ (by omega)⟩ n.val := by
  have hl : (⟨l.val % 256, Nat.mod_lt _ (by omega)⟩ : Fin 256) = l := Fin.ext (Nat.mod_eq_of_lt l.isLt)
  have e := kc90 x0 x2 b l ⟨n.val / 128, by omega⟩ ⟨n.val % 128, Nat.mod_lt _ (by omega)⟩
  rw [k35] at e
  have hn : (⟨n.val / 128 * 128 + n.val % 128, by omega⟩ : Fin 256) = n :=
    Fin.ext (by show n.val / 128 * 128 + n.val % 128 = n.val; omega)
  rw [← hn]
  refine e.trans ?_
  rw [hn, hl, keyAt]
  simp only [colR, Nat.add_assoc]

/-- The reference's other caches. -/
theorem ref_vc (b : Fin 16) (l n : Fin 256) :
    val_main_v91 (F := Ideal) x0 (ix3 b l n) = colAt x0 b.val ⟨l.val % 256, Nat.mod_lt _ (by omega)⟩ (768 + n.val) := by
  have hl : (⟨l.val % 256, Nat.mod_lt _ (by omega)⟩ : Fin 256) = l := Fin.ext (Nat.mod_eq_of_lt l.isLt)
  rw [vc91, hl, colR x0 b.val l]

theorem ref_kd (b : Fin 16) (l n : Fin 256) :
    val_main_v92 (F := Ideal) x0 (ix3 b l n) = colAt x0 b.val ⟨l.val % 256, Nat.mod_lt _ (by omega)⟩ (1536 + n.val) := by
  have hl : (⟨l.val % 256, Nat.mod_lt _ (by omega)⟩ : Fin 256) = l := Fin.ext (Nat.mod_eq_of_lt l.isLt)
  rw [kd92, hl, colR x0 b.val l]

theorem ref_vd (b : Fin 16) (l n : Fin 256) :
    val_main_v93 (F := Ideal) x0 (ix3 b l n) = colAt x0 b.val ⟨l.val % 256, Nat.mod_lt _ (by omega)⟩ (1792 + n.val) := by
  have hl : (⟨l.val % 256, Nat.mod_lt _ (by omega)⟩ : Fin 256) = l := Fin.ext (Nat.mod_eq_of_lt l.isLt)
  rw [vd93, hl, colR x0 b.val l]

/-- An absolute value below plus infinity is that of a finite number. -/
theorem fin_of_abs (x : EReal) (h : max x (-x) < Ideal.ofBits .f32 0x7F800000#32) : Fin' x := by
  have ht : Ideal.ofBits .f32 0x7F800000#32 = ⊤ := by simp [Ideal.ofBits, Ideal.ieee]
  rw [ht] at h
  constructor
  · rintro rfl
    simp at h
  · rintro rfl
    simp at h

end Cert.Attn.Agree
-- ==== Proof.CtxClaims.lean ====
/- The claims about the context attention. -/
module

public import proofs.«01_k».proof.Defs
public import proofs.«01_k».proof.Proof.CtxAgree
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.On_cache_entries
public import proofs.«01_k».proof.Proof.Gen.On_context_rows

@[expose] public section

set_option maxRecDepth 16384

noncomputable section

namespace Cert.Attn.Claims

open Idealize.ShloMosaic.TcCoe Idealize.SL.Sem Idealize.ShloMosaic Cert.Attn Cert.Attn.Blk Cert.Attn.Val Cert.Attn.Agree

/-- A row's number compared with a bound is the comparison of the numbers. -/
theorem row_lt (n k : Nat) (hn : n < 12288) (hk : k ≤ 4096) (h : IntOp.cmpi .slt (BitVec.ofNat 32 n) (BitVec.ofNat 32 k) = 1#1) : n < k := by
  have h' : (BitVec.ofNat 32 n).slt (BitVec.ofNat 32 k) = true := by
    by_contra hc
    have e : IntOp.cmpi .slt (BitVec.ofNat 32 n) (BitVec.ofNat 32 k) = 0#1 := by
      show BitVec.ofBool ((BitVec.ofNat 32 n).slt (BitVec.ofNat 32 k)) = 0#1
      rw [Bool.eq_false_iff.2 hc]; rfl
    rw [e] at h
    exact absurd h (by decide)
  rw [BitVec.slt_iff_toInt_lt] at h'
  have e : ∀ x : Nat, x < 12288 → (BitVec.ofNat 32 x).toInt = x := by
    intro x hx
    have hm : x % 2 ^ 32 = x := Nat.mod_eq_of_lt (by omega)
    rw [BitVec.toInt_eq_toNat_of_lt] <;> rw [BitVec.toNat_ofNat, hm]
    omega
  rw [e n hn, e k (by omega)] at h'
  omega

section
open Cert.KernelIdeal

variable (m : (ℓ : Loc nD τ sig) → Buf (Elt Ideal) ℓ) (c : Dev nD)

/-- The reference's cache of keys is the kernel's … -/
theorem same5 : (Cert.ReferenceIdeal.Read.val_main_v90 (F := Ideal) (a0 m c) (a2 m c) : Vec Ideal S16x256x256 .f32)
    = (Cert.KernelIdeal.Gen.dats m 0 c).arrAt 5 Cert.KernelIdeal.cfg0.N := by
  refine Eq.trans ?_ (arr5 m c).symm
  funext i
  rw [eq_ix3 i]
  exact ref_kc _ _ _ _ _

/-- … its cache of values, … -/
theorem same6 : (Cert.ReferenceIdeal.Read.val_main_v91 (F := Ideal) (a0 m c) : Vec Ideal S16x256x256 .f32)
    = (Cert.KernelIdeal.Gen.dats m 0 c).arrAt 6 Cert.KernelIdeal.cfg0.N := by
  refine Eq.trans ?_ (arr6 m c).symm
  funext i
  rw [eq_ix3 i]
  exact ref_vc _ _ _ _

/-- … the second cache of keys … -/
theorem same7 : (Cert.ReferenceIdeal.Read.val_main_v92 (F := Ideal) (a0 m c) : Vec Ideal S16x256x256 .f32)
    = (Cert.KernelIdeal.Gen.dats m 0 c).arrAt 7 Cert.KernelIdeal.cfg0.N := by
  refine Eq.trans ?_ (arr7 m c).symm
  funext i
  rw [eq_ix3 i]
  exact ref_kd _ _ _ _

/-- … and of values. -/
theorem same8 : (Cert.ReferenceIdeal.Read.val_main_v93 (F := Ideal) (a0 m c) : Vec Ideal S16x256x256 .f32)
    = (Cert.KernelIdeal.Gen.dats m 0 c).arrAt 8 Cert.KernelIdeal.cfg0.N := by
  refine Eq.trans ?_ (arr8 m c).symm
  funext i
  rw [eq_ix3 i]
  exact ref_vd _ _ _ _

/-- The mixed rows of the context, for finite inputs. -/
theorem same4 (h0 : ∀ i, Fin' (a0 m c i)) (h1 : ∀ i, Fin' (a1 m c i)) (h2 : ∀ i, Fin' (a2 m c i)) (h3 : ∀ i, Fin' (a3 m c i))
    (i : S12288x1024.Idx) (hi : (i 0).val < 4096) :
    (Cert.ReferenceIdeal.Read.val_main_v89 (F := Ideal) (a0 m c) (a1 m c) (a2 m c) (a3 m c) : Vec Ideal S12288x1024 .f32) i
      = ((Cert.KernelIdeal.Gen.dats m 0 c).arrAt 4 Cert.KernelIdeal.cfg0.N : Vec Ideal S12288x1024 .f32) i := by
  refine Eq.trans ?_ (arr4 m c i hi).symm
  rw [eq_ix2 i]
  exact ref_mix _ _ _ _ h0 h1 h2 h3 _ _ hi

/-- The precondition says of every entry that it is finite. -/
theorem finite (h : Cert.Pre_KernelIdeal_finite_inputs m) :
    (∀ i, Fin' (a0 m c i)) ∧ (∀ i, Fin' (a1 m c i)) ∧ (∀ i, Fin' (a2 m c i)) ∧ (∀ i, Fin' (a3 m c i)) := by
  obtain ⟨h0, h1, h2, h3⟩ := h c
  have lt : ∀ x y : EReal, Ideal.cmp .olt x y = 1#1 → x < y := by
    intro x y e
    by_contra hx
    have : Ideal.cmp .olt x y = 0#1 := by
      show BitVec.ofBool (decide (x < y)) = 0#1
      rw [decide_eq_false hx]; rfl
    rw [this] at e
    exact absurd e (by decide)
  exact ⟨fun i => fin_of_abs _ (lt _ _ (congrFun h0 i)), fun i => fin_of_abs _ (lt _ _ (congrFun h1 i)),
    fun i => fin_of_abs _ (lt _ _ (congrFun h2 i)), fun i => fin_of_abs _ (lt _ _ (congrFun h3 i))⟩

end

/-- The reference's run, its results as functions of its arguments. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        (r.2.mem ((c.tc : Thread Cert.ReferenceIdeal.nD Cert.ReferenceIdeal.τ).loc Cert.ReferenceIdeal.main_v89)
            = Cert.ReferenceIdeal.Read.val_main_v89 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v90)
            = Cert.ReferenceIdeal.Read.val_main_v90 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v91)
            = Cert.ReferenceIdeal.Read.val_main_v91 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v92)
            = Cert.ReferenceIdeal.Read.val_main_v92 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v93)
            = Cert.ReferenceIdeal.Read.val_main_v93 (F := Ideal) (m ((c.tc : Thread Cert.ReferenceIdeal.nD Cert.ReferenceIdeal.τ).loc Cert.ReferenceIdeal.main_arg0)))
        ∧ (r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun r h c => by
      obtain ⟨e0, e1, e2, e3, e4, k⟩ := h c
      exact ⟨⟨e0.trans (Cert.ReferenceIdeal.Read.val_main_v89_eq m c), e1.trans (Cert.ReferenceIdeal.Read.val_main_v90_eq _ _),
        e2.trans (Cert.ReferenceIdeal.Read.val_main_v91_eq _), e3.trans (Cert.ReferenceIdeal.Read.val_main_v92_eq _),
        e4.trans (Cert.ReferenceIdeal.Read.val_main_v93_eq _)⟩, k⟩)
    (Cert.ReferenceIdeal.Value.run (F := Ideal) m ρ)

/-- The caches agree, whatever the inputs. -/
theorem caches : Cert.algebraic_KernelIdeal_ReferenceIdeal_on_cache_entries := by
  intro m g m' g' hpre hagree
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · refine (θ_run _ _ _).mono (fun r h c => ?_) (Cert.KernelIdeal.Value.run_blocks (F := Ideal) m g)
    obtain ⟨e0, e1, e2, e3, e4, k⟩ := h c
    exact ⟨fun i _ => congrFun e0 i, fun i _ => congrFun e1 i, fun i _ => congrFun e2 i, fun i _ => congrFun e3 i,
      fun i _ => congrFun e4 i, k⟩
  · refine (θ_run _ _ _).mono (fun r h c => ?_) (run_ref m' g')
    obtain ⟨⟨e0, e1, e2, e3, e4⟩, k⟩ := h c
    obtain ⟨g0, g1, g2, g3⟩ := hagree c
    rw [g0, g2] at e1
    rw [g0] at e2 e3 e4
    exact ⟨fun i hi => absurd (row_lt (i 0).val 0 (i 0).isLt (by omega) hi) (by omega), fun i _ => congrFun (e1.trans (same5 m c)) i,
      fun i _ => congrFun (e2.trans (same6 m c)) i, fun i _ => congrFun (e3.trans (same7 m c)) i,
      fun i _ => congrFun (e4.trans (same8 m c)) i, k⟩

/-- For finite inputs everything the call writes agrees. -/
theorem context : Cert.algebraic_KernelIdeal_ReferenceIdeal_on_context_rows_pre_finite_inputs := by
  intro m g m' g' hpre hagree
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · refine (θ_run _ _ _).mono (fun r h c => ?_) (Cert.KernelIdeal.Value.run_blocks (F := Ideal) m g)
    obtain ⟨e0, e1, e2, e3, e4, k⟩ := h c
    exact ⟨fun i _ => congrFun e0 i, fun i _ => congrFun e1 i, fun i _ => congrFun e2 i, fun i _ => congrFun e3 i,
      fun i _ => congrFun e4 i, k⟩
  · refine (θ_run _ _ _).mono (fun r h c => ?_) (run_ref m' g')
    obtain ⟨⟨e0, e1, e2, e3, e4⟩, k⟩ := h c
    obtain ⟨g0, g1, g2, g3⟩ := hagree c
    obtain ⟨f0, f1, f2, f3⟩ := finite m c hpre
    rw [g0, g1, g2, g3] at e0
    rw [g0, g2] at e1
    rw [g0] at e2 e3 e4
    exact ⟨fun i hi => (congrFun e0 i).trans (same4 m c f0 f1 f2 f3 i (row_lt (i 0).val 4096 (i 0).isLt (by omega) hi)),
      fun i _ => congrFun (e1.trans (same5 m c)) i,
      fun i _ => congrFun (e2.trans (same6 m c)) i, fun i _ => congrFun (e3.trans (same7 m c)) i,
      fun i _ => congrFun (e4.trans (same8 m c)) i, k⟩

end Cert.Attn.Claims
-- ==== Proof.FfnBlock.lean ====
/- What one grid point of the feed-forward call stores, as one formula: the mixed rows added, the norm, eleven slices
of the hidden width added up one after the other, and the final norm. -/
module

public import proofs.«01_k».proof.Proof.Gen.Kernel2Ideal.Value
public import Idealize.ShloMosaic.Lib.Pointwise
public import Idealize.ShloMosaic.Lib.VecWindow
public import Idealize.ShloMosaic.Lib.Pipeline.ValueKit

@[expose] public section

set_option maxRecDepth 16384

noncomputable section

namespace Cert.Ffn.Blk

open Cert.Kernel2Ideal Cert.Kernel2Ideal.Gen Idealize.ShloMosaic

variable {F : FTy → Type} [FloatOps F]

/-- A load of a whole array of what was stored last into all of it reads what was stored. -/
theorem readBack {S : Shape} {e : EltTy} {Val : EltTy → Type} [∀ e, Nonempty (Val e)] {sig : RefSig} {κ : Kind} {sp : Space}
    (v : View sig κ sp S e) {off off' : Fin S.rank → ℕ} (inb : ∀ a, off a + S.size a ≤ S.size a)
    (inb' : ∀ a, off' a + S.size a ≤ S.size a) (w : S.Idx → Val e) (L : List (View.Piece Val S e)) :
    v.readCov ((⟨Rect.unit off' (no_index S.size) inb', w⟩ : View.Piece Val S e) :: L)
      (Rect.unit off (no_index S.size) inb).toLoadRect = w :=
  View.readCov_full v inb inb' w L

/-- What was stored last into all of an array is what it holds. -/
theorem readAll {S : Shape} {e : EltTy} {Val : EltTy → Type} {sig : RefSig} {κ : Kind} {sp : Space}
    (v : View sig κ sp S e) (g : v.ty.Contents Val) {off' : Fin S.rank → ℕ}
    (inb' : ∀ a, off' a + S.size a ≤ S.size a) (w : S.Idx → Val e) (L : List (View.Piece Val S e)) :
    v.read Val (v.writes Val g ((⟨Rect.unit off' (no_index S.size) inb', w⟩ : View.Piece Val S e) :: L)) = w :=
  View.read_writes_full v g inb' w L

/-- A load from an array held whole reads the array at the rectangle. -/
theorem loadAt {S : Shape} {e : EltTy} {Val : EltTy → Type} {sig : RefSig} {κ : Kind} {sp : Space}
    {m : Memref sig κ sp S e} (h : m.IsWhole) (X : S.Idx → Val e) (R : Rect S) :
    View.readAt Val m.view R.toLoadRect (h.unread X) = View.ld X R :=
  congrArg (fun f => View.ld f R) (h.read_unread X)

/-- The first column of slice `c` of the hidden width lies inside. -/
theorem sliceUp (c : Fin 11) : ∀ a, ![0, 256 * c.val] a + S1024x256.size a ≤ S1024x5632.size a := by
  intro a; fin_cases a
  · show 0 + 1024 ≤ 1024; omega
  · show 256 * c.val + 256 ≤ 5632; omega

/-- The same slice of the gating half. -/
theorem sliceGate (c : Fin 11) : ∀ a, ![0, 2816 + 256 * c.val] a + S1024x256.size a ≤ S1024x5632.size a := by
  intro a; fin_cases a
  · show 0 + 1024 ≤ 1024; omega
  · show 2816 + 256 * c.val + 256 ≤ 5632; omega

/-- The same slice of the filter. -/
theorem sliceConv (c : Fin 11) : ∀ a, ![0, 256 * c.val] a + S3x256.size a ≤ S3x2816.size a := by
  intro a; fin_cases a
  · show 0 + 3 ≤ 3; omega
  · show 256 * c.val + 256 ≤ 2816; omega

/-- The same slice of the filter's bias. -/
theorem sliceBias (c : Fin 11) : ∀ a, ![0, 256 * c.val] a + S1x256.size a ≤ S1x2816.size a := by
  intro a; fin_cases a
  · show 0 + 1 ≤ 1; omega
  · show 256 * c.val + 256 ≤ 2816; omega

/-- The same slice of the down projection. -/
theorem sliceDown (c : Fin 11) : ∀ a, ![256 * c.val, 0] a + S256x1024.size a ≤ S2816x1024.size a := by
  intro a; fin_cases a
  · show 256 * c.val + 256 ≤ 2816; omega
  · show 0 + 1024 ≤ 1024; omega

/-- One slice of the hidden width: both up projections, the filter along the rows, the gate. -/
def hidden (first last : IVec S1024x1 1) (H : FVec F S1024x1024 .bf16) (x5 : Vec F S1024x5632 .bf16) (x6 : Vec F S3x2816 .f32)
    (x7 : Vec F S1x2816 .f32) (c : Fin 11) : FVec F S1024x256 .bf16 :=
  k0_pay19 first last
    (k0_pay17 H (View.ld x5 (Rect.unit ![0, 256 * c.val] S1024x256.size (sliceUp c))))
    (k0_pay17 H (View.ld x5 (Rect.unit ![0, 2816 + 256 * c.val] S1024x256.size (sliceGate c))))
    (View.ld x6 (Rect.unit ![0, 256 * c.val] S3x256.size (sliceConv c)))
    (View.ld x7 (Rect.unit ![0, 256 * c.val] S1x256.size (sliceBias c)))

/-- One slice's part of the down projection, added to what there is. -/
def addSlice (first last : IVec S1024x1 1) (H : FVec F S1024x1024 .bf16) (x5 : Vec F S1024x5632 .bf16) (x6 : Vec F S3x2816 .f32)
    (x7 : Vec F S1x2816 .f32) (x8 : Vec F S2816x1024 .bf16) (acc : FVec F S1024x1024 .f32) (c : Fin 11) : FVec F S1024x1024 .f32 :=
  k0_pay20 (hidden first last H x5 x6 x7 c) acc (View.ld x8 (Rect.unit ![256 * c.val, 0] S256x1024.size (sliceDown c)))

/-- Up projection of a slice: the same product. -/
theorem up10 : @k0_pay10 F _ = k0_pay17 := rfl

/-- Up projection of a slice: the same product. -/
theorem up11 : @k0_pay11 F _ = k0_pay17 := rfl

/-- Up projection of a slice: the same product. -/
theorem up12 : @k0_pay12 F _ = k0_pay17 := rfl

/-- Up projection of a slice: the same product. -/
theorem up13 : @k0_pay13 F _ = k0_pay17 := rfl

/-- Up projection of a slice: the same product. -/
theorem up18 : @k0_pay18 F _ = k0_pay17 := rfl

/-- Up projection of a slice: the same product. -/
theorem up21 : @k0_pay21 F _ = k0_pay17 := rfl

/-- Up projection of a slice: the same product. -/
theorem up22 : @k0_pay22 F _ = k0_pay17 := rfl

/-- Up projection of a slice: the same product. -/
theorem up25 : @k0_pay25 F _ = k0_pay17 := rfl

/-- Up projection of a slice: the same product. -/
theorem up26 : @k0_pay26 F _ = k0_pay17 := rfl

/-- Up projection of a slice: the same product. -/
theorem up30 : @k0_pay30 F _ = k0_pay17 := rfl

/-- Up projection of a slice: the same product. -/
theorem up31 : @k0_pay31 F _ = k0_pay17 := rfl

/-- Up projection of a slice: the same product. -/
theorem up35 : @k0_pay35 F _ = k0_pay17 := rfl

/-- Up projection of a slice: the same product. -/
theorem up36 : @k0_pay36 F _ = k0_pay17 := rfl

/-- Up projection of a slice: the same product. -/
theorem up40 : @k0_pay40 F _ = k0_pay17 := rfl

/-- Up projection of a slice: the same product. -/
theorem up41 : @k0_pay41 F _ = k0_pay17 := rfl

/-- Up projection of a slice: the same product. -/
theorem up46 : @k0_pay46 F _ = k0_pay17 := rfl

/-- Up projection of a slice: the same product. -/
theorem up47 : @k0_pay47 F _ = k0_pay17 := rfl

/-- Up projection of a slice: the same product. -/
theorem up50 : @k0_pay50 F _ = k0_pay17 := rfl

/-- Up projection of a slice: the same product. -/
theorem up51 : @k0_pay51 F _ = k0_pay17 := rfl

/-- Up projection of a slice: the same product. -/
theorem up56 : @k0_pay56 F _ = k0_pay17 := rfl

/-- Up projection of a slice: the same product. -/
theorem up57 : @k0_pay57 F _ = k0_pay17 := rfl

/-- The first slice's rows moved by one. -/
theorem turned14 (H : FVec F S1024x1024 .bf16) (w : Vec F S1024x256 .bf16) :
    k0_pay14 H w = dynamicRotate 0 1#32 none (k0_pay17 H w) rotates_S1024x256_d0 := rfl

/-- The first slice's mask of first rows. -/
theorem mask15 (a : BitVec 32) : k0_pay15 a = shapeCast S1024x1 (k0_pay8 a) shapeCasts_S1024x1_S1024x1 := rfl

section slices
variable (f l : IVec S1024x1 1) (A B : FVec F S1024x256 .f32) (w : Vec F S3x256 .f32) (b : Vec F S1x256 .f32)
  (acc : Vec F S1024x1024 .f32) (wd : Vec F S256x1024 .bf16)

/-- Slice 0 of the hidden width adds its part as every slice does. -/
theorem slice0 : k0_pay16 l A B w (dynamicRotate 0 1#32 none A rotates_S1024x256_d0) (FloatOps.ofBits FTy.f32 0#32) (shapeCast S1024x1 f shapeCasts_S1024x1_S1024x1) b acc wd =
    k0_pay20 (k0_pay19 f l A B w b) acc wd := rfl

/-- Slice 2 of the hidden width adds its part as every slice does. -/
theorem slice2 : k0_pay24 B (k0_pay23 f l A w) b acc wd =
    k0_pay20 (k0_pay19 f l A B w b) acc wd := rfl

/-- Slice 3 of the hidden width adds its part as every slice does. -/
theorem slice3 : k0_pay29 l A B w (k0_pay27 f A) (k0_pay28 A) (FloatOps.ofBits FTy.f32 0#32) b acc wd =
    k0_pay20 (k0_pay19 f l A B w b) acc wd := rfl

/-- Slice 4 of the hidden width adds its part as every slice does. -/
theorem slice4 : k0_pay34 (k0_pay32 f l A B w b) acc (k0_pay33 wd) (constant S1024x1024 FTy.f32 0#32) =
    k0_pay20 (k0_pay19 f l A B w b) acc wd := rfl

/-- Slice 5 of the hidden width adds its part as every slice does. -/
theorem slice5 : k0_pay39 B (k0_pay37 f l A w b) (k0_pay38 f l A w b) acc wd =
    k0_pay20 (k0_pay19 f l A B w b) acc wd := rfl

/-- Slice 6 of the hidden width adds its part as every slice does. -/
theorem slice6 : k0_pay45 A B w (k0_pay42 f A) (k0_pay43 l A) (k0_pay44 w) b acc wd =
    k0_pay20 (k0_pay19 f l A B w b) acc wd := rfl

/-- Slice 7 of the hidden width adds its part as every slice does. -/
theorem slice7 : k0_pay49 (k0_pay48 f l A B w b acc wd) =
    k0_pay20 (k0_pay19 f l A B w b) acc wd := rfl

/-- Slice 8 of the hidden width adds its part as every slice does. -/
theorem slice8 : k0_pay55 B (k0_pay52 f l A w b) (k0_pay53 f l A w b) k0_pay54 acc wd =
    k0_pay20 (k0_pay19 f l A B w b) acc wd := rfl

/-- Slice 9 of the hidden width adds its part as every slice does. -/
theorem slice9 : k0_pay61 B (k0_pay58 l A) (k0_pay59 f A w) (k0_pay60 w) b acc wd =
    k0_pay20 (k0_pay19 f l A B w b) acc wd := rfl

/-- Slice 10 of the hidden width adds its part as every slice does. -/
theorem slice10 : k0_pay65 A B w (k0_pay62 l A) (k0_pay63 f A w) (k0_pay64 w) b acc wd =
    k0_pay20 (k0_pay19 f l A B w b) acc wd := rfl

end slices

/-- A load of a whole matrix is the matrix. -/
theorem wholeMatrix {e : EltTy} (inb) (X : Vec F S1024x1024 e) :
    View.ld (Val := Elt F) X (Rect.unit ![0, 0] (no_index S1024x1024.size) inb) = X :=
  View.ld_unit_lit' inb X (by intro a; fin_cases a <;> rfl)

/-- A load of a whole row is the row. -/
theorem wholeRow {e : EltTy} (inb) (X : Vec F S1x1024 e) :
    View.ld (Val := Elt F) X (Rect.unit ![0, 0] (no_index S1x1024.size) inb) = X :=
  View.ld_unit_lit' inb X (by intro a; fin_cases a <;> rfl)

/-- A load of all six rows of the modulation is those rows. -/
theorem wholeMod {e : EltTy} (inb) (X : Vec F S1x6x1024 e) :
    View.ld (Val := Elt F) X (Rect.unit ![0, 0, 0] (no_index S1x6x1024.size) inb) = X :=
  View.ld_unit_lit' inb X (by intro a; fin_cases a <;> rfl)

/-- All eleven slices, added one after the other to zero. -/
def allSlices (first last : IVec S1024x1 1) (H : FVec F S1024x1024 .bf16) (x5 : Vec F S1024x5632 .bf16) (x6 : Vec F S3x2816 .f32)
    (x7 : Vec F S1x2816 .f32) (x8 : Vec F S2816x1024 .bf16) : FVec F S1024x1024 .f32 :=
  let s := addSlice first last H x5 x6 x7 x8
  s (s (s (s (s (s (s (s (s (s (s k0_pay6 0) 1) 2) 3) 4) 5) 6) 7) 8) 9) 10

/-- The rows a grid point leaves, from the blocks it reads. -/
def blockRows (i : grid0.Coords) (x0 : Vec F S1024x1024 .f32) (x1 : Vec F S1024x1024 .f32) (x2 : Vec F S1024x1024 .bf16)
    (x3 : Vec F S1x6x1024 .f32) (x4 : Vec F S1x1024 .f32) (x5 : Vec F S1024x5632 .bf16) (x6 : Vec F S3x2816 .f32)
    (x7 : Vec F S1x2816 .f32) (x8 : Vec F S2816x1024 .bf16) (x9 : Vec F S1x1024 .f32) : FVec F S1024x1024 .f32 :=
  let acc := allSlices (k0_pay8 (BitVec.ofNat 32 (i 0).val)) (k0_pay9 (BitVec.ofNat 32 (i 0).val)) (k0_pay5 (k0_pay4 x3 x1 x2 x0 x4)) x5 x6 x7 x8
  k0_pay1 (k0_pay66 (k0_pay2 x3) (k0_pay3 x3 x1 x2 x0) acc) (k0_pay67 x9) (k0_pay68 (k0_pay2 x3) (k0_pay3 x3 x1 x2 x0) acc)

set_option maxHeartbeats 1000000 in
/-- The run of a grid point leaves those rows. -/
theorem out_eq (c i) (arg1 : Memref sig .tc .vmem S1024x1024 .f32) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .f32) (harg13 : arg13.IsWhole)
    (x0 : Vec F S1024x1024 .f32) (x1 : Vec F S1024x1024 .f32) (x2 : Vec F S1024x1024 .bf16) (x3 : Vec F S1x6x1024 .f32) (x4 : Vec F S1x1024 .f32) (x5 : Vec F S1024x5632 .bf16) (x6 : Vec F S3x2816 .f32) (x7 : Vec F S1x2816 .f32) (x8 : Vec F S2816x1024 .bf16) (x9 : Vec F S1x1024 .f32) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = blockRows i x0 x1 x2 x3 x4 x5 x6 x7 x8 x9 := by
  unfold out0_A_10 kernelRun0_A
  dsimp only
  simp only [kernelRun0_A.sl.H10_1, kernelRun0_A.sl.r_53, kernelRun0_A.sl.r_54, kernelRun0_A.sl.r_55, kernelRun0_A.sl.r,
    kernelRun0_A.sl.v613, kernelRun0_A.sl.v616, kernelRun0_A.sl.HS1_12, kernelRun0_A.sl.HS1_11, kernelRun0_A.sl.r_44,
    kernelRun0_A.sl.r_45, kernelRun0_A.sl.r_49, kernelRun0_A.sl.r_50, kernelRun0_A.sl.r_51, kernelRun0_A.sl.r_52,
    kernelRun0_A.sl.v605, kernelRun0_A.sl.HS1_10, kernelRun0_A.sl.r_2, kernelRun0_A.sl.r_3, kernelRun0_A.sl.r_41,
    kernelRun0_A.sl.r_46, kernelRun0_A.sl.r_47, kernelRun0_A.sl.r_48, kernelRun0_A.sl.v52, kernelRun0_A.sl.v561,
    kernelRun0_A.sl.HS0_1, kernelRun0_A.sl.HS1_9, kernelRun0_A.sl.r_38, kernelRun0_A.sl.r_40, kernelRun0_A.sl.r_42,
    kernelRun0_A.sl.r_43, kernelRun0_A.sl.v510, kernelRun0_A.sl.HS1_8, kernelRun0_A.sl.r_1, kernelRun0_A.sl.r_37,
    kernelRun0_A.sl.r_39, kernelRun0_A.sl.HS1_7, kernelRun0_A.sl.r_27, kernelRun0_A.sl.r_28, kernelRun0_A.sl.r_31,
    kernelRun0_A.sl.r_32, kernelRun0_A.sl.r_33, kernelRun0_A.sl.r_34, kernelRun0_A.sl.r_35, kernelRun0_A.sl.r_36,
    kernelRun0_A.sl.v408, kernelRun0_A.sl.v459, kernelRun0_A.sl.HS1_6, kernelRun0_A.sl.r_24, kernelRun0_A.sl.r_29,
    kernelRun0_A.sl.r_30, kernelRun0_A.sl.v357, kernelRun0_A.sl.HS1_5, kernelRun0_A.sl.cst_144, kernelRun0_A.sl.r_23,
    kernelRun0_A.sl.r_25, kernelRun0_A.sl.r_26, kernelRun0_A.sl.v306, kernelRun0_A.sl.HS1_4, kernelRun0_A.sl.cst_36,
    kernelRun0_A.sl.r_14, kernelRun0_A.sl.r_15, kernelRun0_A.sl.r_18, kernelRun0_A.sl.r_19, kernelRun0_A.sl.r_20,
    kernelRun0_A.sl.r_21, kernelRun0_A.sl.r_22, kernelRun0_A.sl.v255, kernelRun0_A.sl.HS1_3, kernelRun0_A.sl.r_12,
    kernelRun0_A.sl.r_16, kernelRun0_A.sl.r_17, kernelRun0_A.sl.v204, kernelRun0_A.sl.HS1_2, kernelRun0_A.sl.r_11,
    kernelRun0_A.sl.r_13, kernelRun0_A.sl.v153, kernelRun0_A.sl.HS1_1, kernelRun0_A.sl.r_10, kernelRun0_A.sl.r_4,
    kernelRun0_A.sl.r_5, kernelRun0_A.sl.r_6, kernelRun0_A.sl.r_7, kernelRun0_A.sl.r_8, kernelRun0_A.sl.r_9, kernelRun0_A.sl.v102,
    readBack, readAll, loadAt, wholeMatrix, wholeRow, wholeMod, turned14, mask15,
    up10, up11, up12, up13, up18, up21, up22, up25, up26, up30, up31, up35, up36, up40, up41, up46, up47, up50, up51, up56, up57,
    slice0, slice2, slice3, slice4, slice5, slice6, slice7, slice8, slice9, slice10]
  rfl

end Cert.Ffn.Blk
-- ==== Proof.FfnMath.lean ====
/- The feed-forward block of one row at the extended reals: the mixed row, its norm and modulation, the two up
   projections, the filter over the neighbouring rows, the gate, the down projection and the final norm. -/
module

public import Idealize.ShloMosaic.Lib.Pointwise
public import Idealize.ShloMosaic.PureOps.Ideal
public import Idealize.ShloMosaic.PureOps.Ideal.Laws

@[expose] public section

noncomputable section

namespace Cert.Ffn

open Idealize.ShloMosaic

/-- A row plus its mixed row's projection, the latter times the first modulation gain. -/
def mixedRow (x m g : Fin 1024 → EReal) (wo : Fin 1024 → Fin 1024 → EReal) (d : Fin 1024) : EReal :=
  x d + g d * ∑ k, m k * wo k d

/-- A row divided by the root of its mean square (plus the small constant), times the gain. -/
def normRow (x g : Fin 1024 → EReal) (d : Fin 1024) : EReal :=
  x d * Ideal.rsqrt (Ideal.div (∑ k, x k * x k) (Ideal.ofBits .f32 0x44800000#32) + Ideal.ofBits .f32 0x358637BD#32) * g d

/-- The normalised row, modulated: what both up projections read. -/
def modRow (x m : Fin 1024 → EReal) (mod : Fin 6 → Fin 1024 → EReal) (wo : Fin 1024 → Fin 1024 → EReal)
    (gain : Fin 1024 → EReal) (d : Fin 1024) : EReal :=
  normRow (mixedRow x m (mod 2) wo) gain d * (1 + mod 4 d) + mod 3 d

/-- An up projection of a modulated row. -/
def upRow (h : Fin 1024 → EReal) (wup : Fin 1024 → Fin 5632 → EReal) (j : Fin 5632) : EReal := ∑ k, h k * wup k j

/-- The filter over three neighbouring rows with its bias, and the smooth gate on it, times the gating half. -/
def gated (p q n w0 w1 w2 b g : EReal) : EReal :=
  (p * w0 + q * w1 + n * w2 + b) * Ideal.div 1 (1 + Ideal.exp (0 - (p * w0 + q * w1 + n * w2 + b))) * g

/-- The hidden row: `p` and `n` are the first half's up projections of the rows before and after. -/
def hiddenRow (h : Fin 1024 → EReal) (p n : Fin 2816 → EReal) (wup : Fin 1024 → Fin 5632 → EReal)
    (cw : Fin 3 → Fin 2816 → EReal) (cb : Fin 2816 → EReal) (j : Fin 2816) : EReal :=
  gated (p j) (upRow h wup ⟨j.val, by omega⟩) (n j) (cw 0 j) (cw 1 j) (cw 2 j) (cb j) (upRow h wup ⟨2816 + j.val, by omega⟩)

/-- The hidden row `r` of a block of 1024 modulated rows `h` whose sequences have length `L`: the filter's neighbours are
the block's rows before and after, zero beyond a sequence's ends. -/
def hiddenOf (L : ℕ) (h : Fin 1024 → Fin 1024 → EReal) (wup : Fin 1024 → Fin 5632 → EReal)
    (cw : Fin 3 → Fin 2816 → EReal) (cb : Fin 2816 → EReal) (r : Fin 1024) : Fin 2816 → EReal :=
  hiddenRow (h r)
    (fun j => if r.val % L = 0 then 0 else upRow (h ⟨(r.val + 1024 - 1) % 1024, by omega⟩) wup ⟨j.val, by omega⟩)
    (fun j => if r.val % L = L - 1 then 0 else upRow (h ⟨(r.val + 1024 - 1023) % 1024, by omega⟩) wup ⟨j.val, by omega⟩)
    wup cw cb

/-- The hidden row `R` of all 12288 modulated rows `h`, its sequence being of length `L`. -/
def hiddenSeq (h : Fin 12288 → Fin 1024 → EReal) (wup : Fin 1024 → Fin 5632 → EReal)
    (cw : Fin 3 → Fin 2816 → EReal) (cb : Fin 2816 → EReal) (L : ℕ) (R : Fin 12288) : Fin 2816 → EReal :=
  hiddenRow (h R)
    (fun j => if R.val % L = 0 then 0 else upRow (h ⟨R.val - 1, by omega⟩) wup ⟨j.val, by omega⟩)
    (fun j => if R.val % L = L - 1 then 0 else upRow (h ⟨(R.val + 1) % 12288, by omega⟩) wup ⟨j.val, by omega⟩)
    wup cw cb

/-- A block's hidden rows are the whole array's: no sequence crosses a block's ends. -/
theorem hidden_tile (t : ℕ) (ht : t < 12) (h : Fin 12288 → Fin 1024 → EReal) (wup : Fin 1024 → Fin 5632 → EReal)
    (cw : Fin 3 → Fin 2816 → EReal) (cb : Fin 2816 → EReal) (r : Fin 1024) :
    hiddenOf (if t < 4 then 256 else 1024) (fun r => h ⟨t * 1024 + r.val, by omega⟩) wup cw cb r
      = hiddenSeq h wup cw cb (if t < 4 then 256 else 1024) ⟨t * 1024 + r.val, by omega⟩ := by
  have hd : (if t < 4 then 256 else 1024) = 256 ∨ (if t < 4 then 256 else 1024) = 1024 := by split <;> simp
  unfold hiddenOf hiddenSeq
  generalize (if t < 4 then 256 else 1024) = L at hd
  have e : (t * 1024 + r.val) % L = r.val % L := by rcases hd with h | h <;> subst h <;> omega
  congr 1
  · funext j
    by_cases h : r.val % L = 0
    · rw [if_pos h, if_pos (e.trans h)]
    · have hr : r.val ≠ 0 := fun h0 => h (by rw [h0]; exact Nat.zero_mod L)
      rw [if_neg h, if_neg (fun h' => h (e.symm.trans h'))]
      simp only [show t * 1024 + (r.val + 1024 - 1) % 1024 = t * 1024 + r.val - 1 by omega]
  · funext j
    by_cases h : r.val % L = L - 1
    · rw [if_pos h, if_pos (e.trans h)]
    · have hr : r.val ≠ 1023 := fun h0 => h (by rcases hd with h | h <;> subst h <;> omega)
      rw [if_neg h, if_neg (fun h' => h (e.symm.trans h'))]
      simp only [show t * 1024 + (r.val + 1024 - 1023) % 1024 = (t * 1024 + r.val + 1) % 12288 by omega]

/-- The row added to the modulated down projection of its hidden row. -/
def midRow (x g : Fin 1024 → EReal) (hid : Fin 2816 → EReal) (wd : Fin 2816 → Fin 1024 → EReal) (k : Fin 1024) : EReal :=
  x k + g k * ∑ j, hid j * wd j k

/-- The row added to the modulated down projection of its hidden row, and the final norm. -/
def lastRow (x g : Fin 1024 → EReal) (hid : Fin 2816 → EReal) (wd : Fin 2816 → Fin 1024 → EReal) (fin : Fin 1024 → EReal)
    (d : Fin 1024) : EReal :=
  normRow (midRow x g hid wd) fin d

/-- Eleven numbers added one after the other to zero are their sum. -/
theorem sum_eleven (g : Fin 11 → EReal) :
    0 + g 0 + g 1 + g 2 + g 3 + g 4 + g 5 + g 6 + g 7 + g 8 + g 9 + g 10 = ∑ c, g c := by
  simp only [Fin.sum_univ_succ, Fin.sum_univ_zero, add_zero, zero_add, ← add_assoc]
  rfl

/-- Eleven slices of 256 added one after the other to zero are the sum over all 2816. -/
theorem sum_slices (f : Fin 2816 → EReal) :
    (let s := fun (acc : EReal) (c : Fin 11) => acc + ∑ x : Fin 256, f ⟨256 * c.val + x.val, by omega⟩
     s (s (s (s (s (s (s (s (s (s (s 0 0) 1) 2) 3) 4) 5) 6) 7) 8) 9) 10) = ∑ j, f j := by
  have h : ∑ j, f j = ∑ c : Fin 11, ∑ x : Fin 256, f ⟨256 * c.val + x.val, by omega⟩ := by
    rw [← Fintype.sum_prod_type' (f := fun (c : Fin 11) (x : Fin 256) => f ⟨256 * c.val + x.val, by omega⟩)]
    refine (Fintype.sum_equiv (finProdFinEquiv : Fin 11 × Fin 256 ≃ Fin 2816) _ _ fun q => ?_).symm
    exact congrArg f (Fin.ext (Nat.add_comm _ _))
  rw [h]
  exact sum_eleven fun c => ∑ x : Fin 256, f ⟨256 * c.val + x.val, by omega⟩

/-- The whole block but its final norm for row `R`, which belongs to a sequence of `L` rows and to row `M` of the
modulation: the neighbouring rows of the filter are those of the same sequence, zero beyond its ends. -/
def trunkMid (X Mx : Fin 12288 → Fin 1024 → EReal) (MD : Fin 16 → Fin 6 → Fin 1024 → EReal) (wo : Fin 1024 → Fin 1024 → EReal)
    (gain : Fin 1024 → EReal) (wup : Fin 1024 → Fin 5632 → EReal) (cw : Fin 3 → Fin 2816 → EReal) (cb : Fin 2816 → EReal)
    (wd : Fin 2816 → Fin 1024 → EReal) (M : Fin 16) (L : ℕ) (R : Fin 12288) : Fin 1024 → EReal :=
  midRow (mixedRow (X R) (Mx R) (MD M 2) wo) (MD M 5)
    (hiddenSeq (fun R => modRow (X R) (Mx R) (MD M) wo gain) wup cw cb L R) wd

/-- The whole block for row `R`. -/
def trunkRow (X Mx : Fin 12288 → Fin 1024 → EReal) (MD : Fin 16 → Fin 6 → Fin 1024 → EReal) (wo : Fin 1024 → Fin 1024 → EReal)
    (gain : Fin 1024 → EReal) (wup : Fin 1024 → Fin 5632 → EReal) (cw : Fin 3 → Fin 2816 → EReal) (cb : Fin 2816 → EReal)
    (wd : Fin 2816 → Fin 1024 → EReal) (fin : Fin 1024 → EReal) (M : Fin 16) (L : ℕ) (R : Fin 12288) : Fin 1024 → EReal :=
  normRow (trunkMid X Mx MD wo gain wup cw cb wd M L R) fin

/-- The length of the sequence that row `R` belongs to. -/
def lenOf (R : Fin 12288) : ℕ := if R.val < 4096 then 256 else 1024

/-- The row of the modulation that row `R` belongs to. -/
def modOf (R : Fin 12288) : Fin 16 := if h : R.val < 4096 then 0 else ⟨1 + (R.val - 4096) / 1024, by omega⟩

/-- A mixed row made of two halves: the product with the projection is the sum of the halves' products. -/
theorem sum_halves (o y : Fin 512 → EReal) (w : Fin 1024 → EReal) :
    ∑ k : Fin 1024, (if h : k.val < 512 then o ⟨k.val, h⟩ else y ⟨k.val - 512, by omega⟩) * w k
      = (∑ k : Fin 512, o k * w ⟨k.val, by omega⟩) + ∑ k : Fin 512, y k * w ⟨512 + k.val, by omega⟩ := by
  refine (Fin.sum_univ_add (a := 512) (b := 512) fun k : Fin (512 + 512) =>
    (if h : k.val < 512 then o ⟨k.val, h⟩ else y ⟨k.val - 512, by omega⟩) * w k).trans ?_
  refine congrArg₂ (· + ·) (Finset.sum_congr rfl fun k _ => ?_) (Finset.sum_congr rfl fun k _ => ?_)
  · rw [dif_pos (show (Fin.castAdd 512 k).val < 512 from k.isLt)]
    rfl
  · rw [dif_neg (show ¬ (Fin.natAdd 512 k).val < 512 by simp)]
    congr 2
    exact Fin.ext (by simp)

end Cert.Ffn
-- ==== Proof.FfnTile.lean ====
/- What one grid point of the feed-forward call leaves, row by row, from the blocks it reads. -/
module

public import proofs.«01_k».proof.Proof.FfnBlock
public import proofs.«01_k».proof.Proof.FfnMath

@[expose] public section

set_option maxRecDepth 16384

noncomputable section

namespace Cert.Ffn.Tile

open Cert.Kernel2Ideal Cert.Kernel2Ideal.Gen Idealize.ShloMosaic Cert.Ffn Cert.Ffn.Blk

/-- The length of the sequences whose rows grid point `i` holds. -/
def seqLen (i : Fin 12) : ℕ := if i.val < 4 then 256 else 1024

/-- The mask of a sequence of 256 rows marks its first rows. -/
theorem first256 : ∀ r : Fin 1024, IntOp.cmpi .eq (IntOp.andi (BitVec.ofNat 32 r.val) 255#32) 0#32
    = if r.val % 256 = 0 then 1#1 else 0#1 := by decide +kernel

/-- The mask of a sequence of 1024 rows marks its first row. -/
theorem first1024 : ∀ r : Fin 1024, IntOp.cmpi .eq (IntOp.andi (BitVec.ofNat 32 r.val) 1023#32) 0#32
    = if r.val % 1024 = 0 then 1#1 else 0#1 := by decide +kernel

/-- The mask of a sequence of 256 rows marks its last rows. -/
theorem last256 : ∀ r : Fin 1024, IntOp.cmpi .eq (IntOp.andi (BitVec.ofNat 32 r.val) 255#32) 255#32
    = if r.val % 256 = 255 then 1#1 else 0#1 := by decide +kernel

/-- The mask of a sequence of 1024 rows marks its last row. -/
theorem last1024 : ∀ r : Fin 1024, IntOp.cmpi .eq (IntOp.andi (BitVec.ofNat 32 r.val) 1023#32) 1023#32
    = if r.val % 1024 = 1023 then 1#1 else 0#1 := by decide +kernel

/-- The mask word of a grid point. -/
theorem maskWord : ∀ i : Fin 12, Scalar.select (Scalar.cmpi CmpIPredicate.slt (BitVec.ofNat 32 i.val) 4#32) 255#32 1023#32
    = if i.val < 4 then 255#32 else 1023#32 := by decide +kernel

/-- The rows marked as first in their sequence. -/
theorem first_at (i : Fin 12) (r : Fin 1024) :
    k0_pay8 (BitVec.ofNat 32 i.val) (ix2 r 0) = if r.val % seqLen i = 0 then 1#1 else 0#1 := by
  pointwise [k0_pay8, k0_pay7]
  rw [maskWord i]; unfold seqLen
  split
  · exact first256 r
  · exact first1024 r

/-- The rows marked as last in their sequence. -/
theorem last_at (i : Fin 12) (r : Fin 1024) :
    k0_pay9 (BitVec.ofNat 32 i.val) (ix2 r 0) = if r.val % seqLen i = seqLen i - 1 then 1#1 else 0#1 := by
  pointwise [k0_pay9, k0_pay7]
  rw [maskWord i]; unfold seqLen
  split
  · exact last256 r
  · exact last1024 r

/-- A slice of the up projection. -/
theorem ld_up (X : Vec Ideal S1024x5632 .bf16) (o : ℕ) (inb) (k : Fin 1024) (j : Fin 256) (J : Fin 5632) (hJ : J.val = o + j.val) :
    View.ld (Val := Elt Ideal) X (Rect.unit ![0, o] S1024x256.size inb) (ix2 k j) = X (ix2 k J) :=
  View.ld_unit_apply_of _ _ _ _ _ _ (fun a => match a with | ⟨0, _⟩ => (Nat.zero_add _).symm | ⟨1, _⟩ => hJ)

/-- A slice of the filter. -/
theorem ld_conv (X : Vec Ideal S3x2816 .f32) (o : ℕ) (inb) (k : Fin 3) (j : Fin 256) (J : Fin 2816) (hJ : J.val = o + j.val) :
    View.ld (Val := Elt Ideal) X (Rect.unit ![0, o] S3x256.size inb) (ix2 k j) = X (ix2 k J) :=
  View.ld_unit_apply_of _ _ _ _ _ _ (fun a => match a with | ⟨0, _⟩ => (Nat.zero_add _).symm | ⟨1, _⟩ => hJ)

/-- A slice of the bias. -/
theorem ld_bias (X : Vec Ideal S1x2816 .f32) (o : ℕ) (inb) (j : Fin 256) (J : Fin 2816) (hJ : J.val = o + j.val) :
    View.ld (Val := Elt Ideal) X (Rect.unit ![0, o] S1x256.size inb) (ix2 0 j) = X (ix2 0 J) :=
  View.ld_unit_apply_of _ _ _ _ _ _ (fun a => match a with | ⟨0, _⟩ => rfl | ⟨1, _⟩ => hJ)

/-- A slice of the down projection. -/
theorem ld_down (X : Vec Ideal S2816x1024 .bf16) (o : ℕ) (inb) (j : Fin 256) (d : Fin 1024) (J : Fin 2816) (hJ : J.val = o + j.val) :
    View.ld (Val := Elt Ideal) X (Rect.unit ![o, 0] S256x1024.size inb) (ix2 j d) = X (ix2 J d) :=
  View.ld_unit_apply_of _ _ _ _ _ _ (fun a => match a with | ⟨0, _⟩ => hJ | ⟨1, _⟩ => (Nat.zero_add _).symm)

/-- A product with a slice of the up projection. -/
theorem up_at (H : FVec Ideal S1024x1024 .bf16) (w : Vec Ideal S1024x256 .bf16) (r : Fin 1024) (j : Fin 256) :
    k0_pay17 (F := Ideal) H w (ix2 r j) = ∑ k, H (ix2 r k) * w (ix2 k j) := by
  pointwise [k0_pay17]

/-- The filter, the gate and the gating half of a slice. -/
theorem gate_at (f l : IVec S1024x1 1) (A B : FVec Ideal S1024x256 .f32) (w : Vec Ideal S3x256 .f32) (b : Vec Ideal S1x256 .f32)
    (r : Fin 1024) (j : Fin 256) :
    k0_pay19 (F := Ideal) f l A B w b (ix2 r j)
      = gated (Scalar.select (f (ix2 r 0)) 0 (A (ix2 ⟨(r.val + 1024 - 1) % 1024, by omega⟩ j))) (A (ix2 r j))
          (Scalar.select (l (ix2 r 0)) 0 (A (ix2 ⟨(r.val + 1024 - 1023) % 1024, by omega⟩ j)))
          (w (ix2 0 j)) (w (ix2 1 j)) (w (ix2 2 j)) (b (ix2 0 j)) (B (ix2 r j)) := by
  unfold gated
  pointwise [k0_pay19]

/-- A slice's part of the down projection. -/
theorem add_at (A : FVec Ideal S1024x256 .bf16) (acc : Vec Ideal S1024x1024 .f32) (wd : Vec Ideal S256x1024 .bf16) (r d : Fin 1024) :
    k0_pay20 (F := Ideal) A acc wd (ix2 r d) = acc (ix2 r d) + ∑ x, A (ix2 r x) * wd (ix2 x d) := by
  pointwise [k0_pay20]

/-- Nothing added yet. -/
theorem zero_at (r d : Fin 1024) : k0_pay6 (F := Ideal) (ix2 r d) = 0 := by
  pointwise [k0_pay6]

/-- A selection by the mark of a first or last row. -/
theorem select_mark (p : Prop) [Decidable p] (z : EReal) :
    Scalar.select (if p then 1#1 else 0#1) 0 z = if p then 0 else z := by
  split <;> rfl

section rows
variable (n : Fin 12) (H : FVec Ideal S1024x1024 .bf16) (h : Fin 1024 → Fin 1024 → EReal) (hH : ∀ r k, H (ix2 r k) = h r k)
  (x5 : Vec Ideal S1024x5632 .bf16) (x6 : Vec Ideal S3x2816 .f32) (x7 : Vec Ideal S1x2816 .f32) (x8 : Vec Ideal S2816x1024 .bf16)
include hH

/-- Slice `c` of the hidden rows of a grid point whose modulated rows are `h`. -/
theorem hidden_at (c : Fin 11) (r : Fin 1024) (j : Fin 256) :
    hidden (F := Ideal) (k0_pay8 (BitVec.ofNat 32 n.val)) (k0_pay9 (BitVec.ofNat 32 n.val)) H x5 x6 x7 c (ix2 r j)
      = hiddenOf (seqLen n) h (fun k j => x5 (ix2 k j)) (fun a j => x6 (ix2 a j)) (fun j => x7 (ix2 0 j)) r
          ⟨256 * c.val + j.val, by omega⟩ := by
  unfold Cert.Ffn.Blk.hidden
  rw [gate_at, first_at n, last_at n, select_mark, select_mark]
  simp only [up_at, hH]
  rw [ld_conv _ _ _ 0 j ⟨256 * c.val + j.val, by omega⟩ rfl, ld_conv _ _ _ 1 j ⟨256 * c.val + j.val, by omega⟩ rfl,
    ld_conv _ _ _ 2 j ⟨256 * c.val + j.val, by omega⟩ rfl, ld_bias _ _ _ j ⟨256 * c.val + j.val, by omega⟩ rfl]
  simp only [fun k => ld_up x5 _ (sliceUp c) k j ⟨256 * c.val + j.val, by omega⟩ rfl,
    fun k => ld_up x5 _ (sliceGate c) k j ⟨2816 + (256 * c.val + j.val), by omega⟩ (by show 2816 + (256 * c.val + j.val) = _; omega)]
  rfl

/-- All slices of the down projection together. -/
theorem all_at (r d : Fin 1024) :
    allSlices (F := Ideal) (k0_pay8 (BitVec.ofNat 32 n.val)) (k0_pay9 (BitVec.ofNat 32 n.val)) H x5 x6 x7 x8 (ix2 r d)
      = ∑ j, hiddenOf (seqLen n) h (fun k j => x5 (ix2 k j)) (fun a j => x6 (ix2 a j)) (fun j => x7 (ix2 0 j)) r j
          * x8 (ix2 j d) := by
  rw [← sum_slices]
  have step : ∀ acc (c : Fin 11), addSlice (F := Ideal) (k0_pay8 (BitVec.ofNat 32 n.val)) (k0_pay9 (BitVec.ofNat 32 n.val))
        H x5 x6 x7 x8 acc c (ix2 r d)
      = acc (ix2 r d) + ∑ x : Fin 256, hiddenOf (seqLen n) h (fun k j => x5 (ix2 k j)) (fun a j => x6 (ix2 a j))
          (fun j => x7 (ix2 0 j)) r ⟨256 * c.val + x.val, by omega⟩ * x8 (ix2 ⟨256 * c.val + x.val, by omega⟩ d) := by
    intro acc c
    unfold addSlice
    rw [add_at]
    refine congrArg (acc (ix2 r d) + ·) (Finset.sum_congr rfl fun x _ => ?_)
    rw [hidden_at n H h hH, ld_down _ _ _ x d ⟨256 * c.val + x.val, by omega⟩ rfl]
  unfold allSlices
  simp only [step, zero_at]

end rows

section tile
variable (i : grid0.Coords) (x0 x1 : Vec Ideal S1024x1024 .f32) (x2 : Vec Ideal S1024x1024 .bf16) (x3 : Vec Ideal S1x6x1024 .f32)
  (x4 : Vec Ideal S1x1024 .f32) (x5 : Vec Ideal S1024x5632 .bf16) (x6 : Vec Ideal S3x2816 .f32) (x7 : Vec Ideal S1x2816 .f32)
  (x8 : Vec Ideal S2816x1024 .bf16) (x9 : Vec Ideal S1x1024 .f32)

/-- The tile's row `r` with its mixed row added. -/
def mixedT (r : Fin 1024) : Fin 1024 → EReal :=
  mixedRow (fun k => x0 (ix2 r k)) (fun k => x1 (ix2 r k)) (fun k => x3 (ix3 0 2 k)) (fun k d => x2 (ix2 k d))

/-- The tile's row `r`, normalised and modulated. -/
def modT (r : Fin 1024) : Fin 1024 → EReal :=
  modRow (fun k => x0 (ix2 r k)) (fun k => x1 (ix2 r k)) (fun a k => x3 (ix3 0 a k)) (fun k d => x2 (ix2 k d)) (fun k => x4 (ix2 0 k))

/-- The tile's hidden row `r`. -/
def hiddenT (r : Fin 1024) : Fin 2816 → EReal :=
  hiddenOf (seqLen (i 0)) (modT x0 x1 x2 x3 x4) (fun k j => x5 (ix2 k j)) (fun a j => x6 (ix2 a j)) (fun j => x7 (ix2 0 j)) r

/-- The stored rows with the mixed rows added. -/
theorem mixed_at (r d : Fin 1024) : k0_pay3 (F := Ideal) x3 x1 x2 x0 (ix2 r d) = mixedT x0 x1 x2 x3 r d := by
  pointwise [k0_pay3, k0_pay2]
  rfl

/-- The stored normalised and modulated rows. -/
theorem mod_at (r d : Fin 1024) :
    k0_pay5 (F := Ideal) (k0_pay4 (F := Ideal) x3 x1 x2 x0 x4) (ix2 r d) = modT x0 x1 x2 x3 x4 r d := by
  pointwise [k0_pay5, k0_pay4, k0_pay3, k0_pay2]
  rfl

/-- The rows a grid point leaves. -/
theorem block_at (r d : Fin 1024) :
    blockRows (F := Ideal) i x0 x1 x2 x3 x4 x5 x6 x7 x8 x9 (ix2 r d)
      = lastRow (mixedT x0 x1 x2 x3 r) (fun k => x3 (ix3 0 5 k)) (hiddenT i x0 x1 x2 x3 x4 x5 x6 x7 r)
          (fun j k => x8 (ix2 j k)) (fun k => x9 (ix2 0 k)) d := by
  have key : ∀ acc : FVec Ideal S1024x1024 .f32, ∀ y : FVec Ideal S1024x1024 .f32,
      k0_pay1 (F := Ideal) (k0_pay66 (k0_pay2 x3) y acc) (k0_pay67 x9) (k0_pay68 (k0_pay2 x3) y acc) (ix2 r d)
        = normRow (fun k => y (ix2 r k) + x3 (ix3 0 5 k) * acc (ix2 r k)) (fun k => x9 (ix2 0 k)) d := by
    intro acc y
    pointwise [k0_pay1, k0_pay66, k0_pay67, k0_pay68, k0_pay2]
    rfl
  unfold blockRows lastRow
  rw [key]
  simp only [mixed_at, all_at (i 0) _ _ (mod_at x0 x1 x2 x3 x4)]
  rfl

end tile

end Cert.Ffn.Tile
-- ==== Proof.FfnValue.lean ====
/- The feed-forward call's result after the run, row by row. -/
module

public import proofs.«01_k».proof.Proof.FfnTile
public import Idealize.ShloMosaic.Lib.Pipeline.ValueKit.Partial

@[expose] public section

set_option maxRecDepth 16384

noncomputable section

namespace Cert.Ffn.Val

open Idealize.ShloMosaic.TcCoe Idealize.SL.Sem Cert.Kernel2Ideal Cert.Kernel2Ideal.Gen Idealize.ShloMosaic Cert.Ffn Cert.Ffn.Blk
  Cert.Ffn.Tile

variable (m : (ℓ : Loc nD τ sig) → Buf (Elt Ideal) ℓ) (c : Dev nD)

/-- The ten arguments. -/
abbrev a0 : Vec Ideal S12288x1024 .f32 := m ((c : Thread nD τ).loc main_arg0)
abbrev a1 : Vec Ideal S12288x1024 .f32 := m ((c : Thread nD τ).loc main_arg1)
abbrev a2 : Vec Ideal S16x6x1024 .f32 := m ((c : Thread nD τ).loc main_arg2)
abbrev a3 : Vec Ideal S1024x1024 .f32 := m ((c : Thread nD τ).loc main_arg3)
abbrev a4 : Vec Ideal S1024 .f32 := m ((c : Thread nD τ).loc main_arg4)
abbrev a5 : Vec Ideal S1024x5632 .f32 := m ((c : Thread nD τ).loc main_arg5)
abbrev a6 : Vec Ideal S3x2816 .f32 := m ((c : Thread nD τ).loc main_arg6)
abbrev a7 : Vec Ideal S2816 .f32 := m ((c : Thread nD τ).loc main_arg7)
abbrev a8 : Vec Ideal S2816x1024 .f32 := m ((c : Thread nD τ).loc main_arg8)
abbrev a9 : Vec Ideal S1024 .f32 := m ((c : Thread nD τ).loc main_arg9)

/-- The row of the modulation that grid point `t` reads. -/
def modT' (t : Nat) : Nat := if t < 4 then 0 else 1 + (t - 4)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![modT' (grid0.coords t 0).val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![(grid0.coords t 0).val, 0] := (by decide +kernel : ∀ t : Fin grid0.N, _)
theorem coord0 : ∀ t : Fin cfg0.N, (grid0.coords t 0).val = t.val := (by decide +kernel : ∀ t : Fin grid0.N, _)

/-- The output projection as the kernel is given it. -/
theorem host_v0 : (V m c main_v0 : Vec Ideal S1024x1024 .bf16) = truncf (F := Ideal) .bf16 (a3 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The up projection as the kernel is given it. -/
theorem host_v1 : (V m c main_v1 : Vec Ideal S1024x5632 .bf16) = truncf (F := Ideal) .bf16 (a5 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The bias, as a row. -/
theorem host_v2 : (V m c main_v2 : Vec Ideal S1x2816 .f32) = shapeCast S1x2816 (a7 m c) shapeCasts_S2816_S1x2816 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The down projection as the kernel is given it. -/
theorem host_v3 : (V m c main_v3 : Vec Ideal S2816x1024 .bf16) = truncf (F := Ideal) .bf16 (a8 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gains, as a row. -/
theorem host_v4 : (V m c main_v4 : Vec Ideal S1x1024 .f32) = shapeCast S1x1024 (a4 m c) shapeCasts_S1024_S1x1024 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The final gains, as a row. -/
theorem host_v5 : (V m c main_v5 : Vec Ideal S1x1024 .f32) = shapeCast S1x1024 (a9 m c) shapeCasts_S1024_S1x1024 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The rows of a block. -/
theorem blk0 (t : Fin cfg0.N) (r k : Fin 1024) : iblk m c 0 t (ix2 r k) = a0 m c (ix2 ⟨t.val * 1024 + r.val, by have h : t.val < 12 := t.isLt; omega⟩ k) := by
  have ht : t.val < 12 := t.isLt
  have h : iblk m c 0 t (ix2 r k) = (V m c main_arg0 : Vec Ideal S12288x1024 .f32) (ix2 ⟨t.val * 1024 + r.val, by have h : t.val < 12 := t.isLt; omega⟩ k) := by
    blk_simp [iblk]
    refine congrArg _ ?_
    blk_ext [idx0 t, coord0 t]
  rw [h, V_main_arg0]

/-- The mixed rows of a block. -/
theorem blk1 (t : Fin cfg0.N) (r k : Fin 1024) : iblk m c 1 t (ix2 r k) = a1 m c (ix2 ⟨t.val * 1024 + r.val, by have h : t.val < 12 := t.isLt; omega⟩ k) := by
  have ht : t.val < 12 := t.isLt
  have h : iblk m c 1 t (ix2 r k) = (V m c main_arg1 : Vec Ideal S12288x1024 .f32) (ix2 ⟨t.val * 1024 + r.val, by have h : t.val < 12 := t.isLt; omega⟩ k) := by
    blk_simp [iblk]
    refine congrArg _ ?_
    blk_ext [idx1 t, coord0 t]
  rw [h, V_main_arg1]

/-- The output projection, in the block. -/
theorem blk2 (t : Fin cfg0.N) (k d : Fin 1024) : iblk m c 2 t (ix2 k d) = a3 m c (ix2 k d) := by
  have ht : t.val < 12 := t.isLt
  have h : iblk m c 2 t (ix2 k d) = (V m c main_v0 : Vec Ideal S1024x1024 .bf16) (ix2 k d) := by
    blk_simp [iblk]
    refine congrArg _ ?_
    blk_ext [idx2 t, coord0 t]
  rw [h, host_v0]
  pointwise []

/-- The modulation of a block. -/
theorem blk3 (t : Fin cfg0.N) (a : Fin 6) (k : Fin 1024) : iblk m c 3 t (ix3 0 a k) = a2 m c (ix3 ⟨modT' t.val, by have h : t.val < 12 := t.isLt; unfold modT'; split <;> omega⟩ a k) := by
  have ht : t.val < 12 := t.isLt
  have h : iblk m c 3 t (ix3 0 a k) = (V m c main_arg2 : Vec Ideal S16x6x1024 .f32) (ix3 ⟨modT' t.val, by have h : t.val < 12 := t.isLt; unfold modT'; split <;> omega⟩ a k) := by
    blk_simp [iblk]
    refine congrArg _ ?_
    blk_ext [idx3 t, coord0 t]
  rw [h, V_main_arg2]

/-- The gains, in the block. -/
theorem blk4 (t : Fin cfg0.N) (k : Fin 1024) : iblk m c 4 t (ix2 0 k) = a4 m c (ix1 k) := by
  have ht : t.val < 12 := t.isLt
  have h : iblk m c 4 t (ix2 0 k) = (V m c main_v4 : Vec Ideal S1x1024 .f32) (ix2 0 k) := by
    blk_simp [iblk]
    refine congrArg _ ?_
    blk_ext [idx4 t, coord0 t]
  rw [h, host_v4]
  pointwise []

/-- The up projection, in the block. -/
theorem blk5 (t : Fin cfg0.N) (k : Fin 1024) (j : Fin 5632) : iblk m c 5 t (ix2 k j) = a5 m c (ix2 k j) := by
  have ht : t.val < 12 := t.isLt
  have h : iblk m c 5 t (ix2 k j) = (V m c main_v1 : Vec Ideal S1024x5632 .bf16) (ix2 k j) := by
    blk_simp [iblk]
    refine congrArg _ ?_
    blk_ext [idx5 t, coord0 t]
  rw [h, host_v1]
  pointwise []

/-- The filter, in the block. -/
theorem blk6 (t : Fin cfg0.N) (a : Fin 3) (j : Fin 2816) : iblk m c 6 t (ix2 a j) = a6 m c (ix2 a j) := by
  have ht : t.val < 12 := t.isLt
  have h : iblk m c 6 t (ix2 a j) = (V m c main_arg6 : Vec Ideal S3x2816 .f32) (ix2 a j) := by
    blk_simp [iblk]
    refine congrArg _ ?_
    blk_ext [idx6 t, coord0 t]
  rw [h, V_main_arg6]

/-- The bias, in the block. -/
theorem blk7 (t : Fin cfg0.N) (j : Fin 2816) : iblk m c 7 t (ix2 0 j) = a7 m c (ix1 j) := by
  have ht : t.val < 12 := t.isLt
  have h : iblk m c 7 t (ix2 0 j) = (V m c main_v2 : Vec Ideal S1x2816 .f32) (ix2 0 j) := by
    blk_simp [iblk]
    refine congrArg _ ?_
    blk_ext [idx7 t, coord0 t]
  rw [h, host_v2]
  pointwise []

/-- The down projection, in the block. -/
theorem blk8 (t : Fin cfg0.N) (j : Fin 2816) (k : Fin 1024) : iblk m c 8 t (ix2 j k) = a8 m c (ix2 j k) := by
  have ht : t.val < 12 := t.isLt
  have h : iblk m c 8 t (ix2 j k) = (V m c main_v3 : Vec Ideal S2816x1024 .bf16) (ix2 j k) := by
    blk_simp [iblk]
    refine congrArg _ ?_
    blk_ext [idx8 t, coord0 t]
  rw [h, host_v3]
  pointwise []

/-- The final gains, in the block. -/
theorem blk9 (t : Fin cfg0.N) (k : Fin 1024) : iblk m c 9 t (ix2 0 k) = a9 m c (ix1 k) := by
  have ht : t.val < 12 := t.isLt
  have h : iblk m c 9 t (ix2 0 k) = (V m c main_v5 : Vec Ideal S1x1024 .f32) (ix2 0 k) := by
    blk_simp [iblk]
    refine congrArg _ ?_
    blk_ext [idx9 t, coord0 t]
  rw [h, host_v5]
  pointwise []

/-- The whole block for row `R`, from the arguments. -/
def trunkK (M : Fin 16) (L : ℕ) (R : Fin 12288) : Fin 1024 → EReal :=
  trunkRow (fun R k => a0 m c (ix2 R k)) (fun R k => a1 m c (ix2 R k)) (fun M a k => a2 m c (ix3 M a k)) (fun k d => a3 m c (ix2 k d))
    (fun k => a4 m c (ix1 k)) (fun k j => a5 m c (ix2 k j)) (fun a j => a6 m c (ix2 a j)) (fun j => a7 m c (ix1 j))
    (fun j k => a8 m c (ix2 j k)) (fun k => a9 m c (ix1 k)) M L R

/-- A block's row, normalised and modulated, from the arguments. -/
theorem mod_blk (t : Fin cfg0.N) :
    modT (iblk m c 0 t) (iblk m c 1 t) (iblk m c 2 t) (iblk m c 3 t) (iblk m c 4 t)
      = fun r => modRow (fun k => a0 m c (ix2 ⟨t.val * 1024 + r.val, by have h : t.val < 12 := t.isLt; omega⟩ k)) (fun k => a1 m c (ix2 ⟨t.val * 1024 + r.val, by have h : t.val < 12 := t.isLt; omega⟩ k)) (fun a k => a2 m c (ix3 ⟨modT' t.val, by have h : t.val < 12 := t.isLt; unfold modT'; split <;> omega⟩ a k))
          (fun k d => a3 m c (ix2 k d)) (fun k => a4 m c (ix1 k)) := by
  funext r
  unfold modT
  simp only [blk0, blk1, blk2, blk3, blk4]

/-- A block's row with its mixed row added, from the arguments. -/
theorem mixed_blk (t : Fin cfg0.N) (r : Fin 1024) :
    mixedT (iblk m c 0 t) (iblk m c 1 t) (iblk m c 2 t) (iblk m c 3 t) r
      = mixedRow (fun k => a0 m c (ix2 ⟨t.val * 1024 + r.val, by have h : t.val < 12 := t.isLt; omega⟩ k)) (fun k => a1 m c (ix2 ⟨t.val * 1024 + r.val, by have h : t.val < 12 := t.isLt; omega⟩ k)) (fun k => a2 m c (ix3 ⟨modT' t.val, by have h : t.val < 12 := t.isLt; unfold modT'; split <;> omega⟩ 2 k))
          (fun k d => a3 m c (ix2 k d)) := by
  unfold mixedT
  simp only [blk0, blk1, blk2, blk3]

/-- The row that a grid point leaves. -/
theorem after10 (t : Fin cfg0.N) (r d : Fin 1024) :
    blockRows (F := Ideal) (grid0.coords t) (iblk m c 0 t) (iblk m c 1 t) (iblk m c 2 t) (iblk m c 3 t) (iblk m c 4 t) (iblk m c 5 t)
        (iblk m c 6 t) (iblk m c 7 t) (iblk m c 8 t) (iblk m c 9 t) (ix2 r d)
      = trunkK m c ⟨modT' t.val, by have h : t.val < 12 := t.isLt; unfold modT'; split <;> omega⟩ (if t.val < 4 then 256 else 1024) ⟨t.val * 1024 + r.val, by have h : t.val < 12 := t.isLt; omega⟩ d := by
  have ht : t.val < 12 := t.isLt
  have hL : seqLen (grid0.coords t 0) = if t.val < 4 then 256 else 1024 := by unfold seqLen; rw [coord0 t]
  rw [block_at]
  unfold hiddenT
  rw [hL]
  simp only [mod_blk, mixed_blk, blk3, blk5, blk6, blk7, blk8, blk9]
  exact congrArg (fun hid => lastRow _ _ hid _ _ d) (hidden_tile t.val ht (fun R => modRow (fun k => a0 m c (ix2 R k))
    (fun k => a1 m c (ix2 R k)) _ (fun k d => a3 m c (ix2 k d)) (fun k => a4 m c (ix1 k))) _ _ _ r)

/-- The same at any index of the block, in terms of the row of the whole array. -/
theorem after10' (t : Fin cfg0.N) (y : S1024x1024.Idx) (R : Fin 12288) (hR : R.val = t.val * 1024 + (y 0).val) :
    outsAt0 m c t y = trunkK m c (modOf R) (lenOf R) R (y 1) := by
  have ht : t.val < 12 := t.isLt
  have hy : (y 0).val < 1024 := (y 0).isLt
  have e : y = ix2 (y 0) (y 1) := by funext a; match a with | ⟨0, _⟩ => rfl | ⟨1, _⟩ => rfl
  have e1 : (⟨t.val * 1024 + (y 0).val, by omega⟩ : Fin 12288) = R := Fin.ext hR.symm
  have e2 : (⟨modT' t.val, by unfold modT'; split <;> omega⟩ : Fin 16) = modOf R := by
    unfold modOf modT'
    split <;> split <;> refine Fin.ext ?_ <;> simp only [Fin.val_zero] <;> omega
  have e3 : (if t.val < 4 then 256 else 1024) = lenOf R := by
    unfold lenOf
    split <;> split <;> omega
  unfold outsAt0
  rw [out_eq]
  refine (congrArg _ e).trans ((after10 m c t (y 0) (y 1)).trans ?_)
  rw [e1, e2, e3]

/-- Entry `d` of row `R` of the result. -/
def entryK (R d : ℕ) : EReal :=
  if h : R < 12288 ∧ d < 1024 then trunkK m c (modOf ⟨R, h.1⟩) (lenOf ⟨R, h.1⟩) ⟨R, h.1⟩ ⟨d, h.2⟩ else 0

/-- The same for the rows of a block. -/
theorem after10N (t : Fin cfg0.N) (y : S1024x1024.Idx) :
    outsAt0 m c t y = entryK m c (t.val * 1024 + (y 0).val) (y 1).val := by
  have ht : t.val < 12 := t.isLt
  have hy : (y 0).val < 1024 := (y 0).isLt
  have hy1 : (y 1).val < 1024 := (y 1).isLt
  rw [entryK, dif_pos ⟨by omega, hy1⟩]
  exact after10' m c t y _ rfl

/-- The result array after the run. -/
theorem arr10 : ((dats m 0 c).arrAt 10 cfg0.N : Vec Ideal S12288x1024 .f32) = fun i => entryK m c (i 0).val (i 1).val := by
  refine (dats m 0 c).arrAt_eq_of_covers 10 _ (by decide +kernel) fun t hf y => ?_
  blk_simp [idx10 t, coord0 t]
  rw [after0_10]
  exact after10N m c t y

end Cert.Ffn.Val
-- ==== Proof.FfnRef.lean ====
/- The feed-forward reference read at an index, a few operations at a time. -/
module

public import proofs.«01_k».proof.Proof.Gen.Reference2Ideal.Read
public import proofs.«01_k».proof.Proof.FfnMath
public import Idealize.ShloMosaic.Lib.Pointwise

@[expose] public section

set_option maxRecDepth 16384

noncomputable section

namespace Cert.Ffn.Ref

open Cert.Reference2Ideal Cert.Reference2Ideal.Read Idealize.ShloMosaic Cert.Ffn

/-- The padding value. -/
theorem pad_zero : FloatOps.sitofp (F := Ideal) FTy.f32 0#32 = (0 : EReal) := by
  show (((0#32 : BitVec 32).toInt : ℝ) : EReal) = 0
  norm_num

variable (x0 x1 : Vec Ideal S12288x1024 .f32) (x2 : Vec Ideal S16x6x1024 .f32) (x3 : Vec Ideal S1024x1024 .f32)
  (x4 : Vec Ideal S1024 .f32) (x5 : Vec Ideal S1024x5632 .f32) (x6 : Vec Ideal S3x2816 .f32) (x7 : Vec Ideal S2816 .f32)
  (x8 : Vec Ideal S2816x1024 .f32) (x9 : Vec Ideal S1024 .f32)

/-- Row `R` with its mixed row added. -/
def mixedG (M : Fin 16) (R : Fin 12288) : Fin 1024 → EReal :=
  mixedRow (fun k => x0 (ix2 R k)) (fun k => x1 (ix2 R k)) (fun k => x2 (ix3 M 2 k)) (fun k d => x3 (ix2 k d))

/-- Row `R`, normalised and modulated. -/
def modG (M : Fin 16) (R : Fin 12288) : Fin 1024 → EReal :=
  modRow (fun k => x0 (ix2 R k)) (fun k => x1 (ix2 R k)) (fun a k => x2 (ix3 M a k)) (fun k d => x3 (ix2 k d)) (fun k => x4 (ix1 k))

/-- The whole block for row `R`. -/
def trunkG (M : Fin 16) (L : ℕ) (R : Fin 12288) : Fin 1024 → EReal :=
  trunkRow (fun R k => x0 (ix2 R k)) (fun R k => x1 (ix2 R k)) (fun M a k => x2 (ix3 M a k)) (fun k d => x3 (ix2 k d))
    (fun k => x4 (ix1 k)) (fun k j => x5 (ix2 k j)) (fun a j => x6 (ix2 a j)) (fun j => x7 (ix1 j)) (fun j k => x8 (ix2 j k))
    (fun k => x9 (ix1 k)) M L R

/-- The whole block but its final norm for row `R`. -/
def midG (M : Fin 16) (L : ℕ) (R : Fin 12288) : Fin 1024 → EReal :=
  trunkMid (fun R k => x0 (ix2 R k)) (fun R k => x1 (ix2 R k)) (fun M a k => x2 (ix3 M a k)) (fun k d => x3 (ix2 k d))
    (fun k => x4 (ix1 k)) (fun k j => x5 (ix2 k j)) (fun a j => x6 (ix2 a j)) (fun j => x7 (ix1 j)) (fun j k => x8 (ix2 j k)) M L R

/-- The context rows with their mixed rows added. -/
theorem mixed20 (b : Fin 16) (l : Fin 256) (d : Fin 1024) :
    val_main_v20 (F := Ideal) x0 x1 x2 x3 (ix3 b l d) = mixedG x0 x1 x2 x3 0 ⟨b.val * 256 + l.val, by omega⟩ d := by
  pointwise [val_main_v20, val_main_v19, val_main_v18, val_main_v17, val_main_v7, val_main_v6, val_main_v5, val_main_v4,
    val_main_v3, val_main_v2, val_main_v1, val_main_v0]
  rfl

/-- The context rows, normalised and modulated. -/
theorem mod39 (b : Fin 16) (l : Fin 256) (d : Fin 1024) :
    val_main_v39 (F := Ideal) x0 x1 x2 x3 x4 (ix3 b l d) = modG x0 x1 x2 x3 x4 0 ⟨b.val * 256 + l.val, by omega⟩ d := by
  pointwise [val_main_v39, val_main_v38, val_main_v37, val_main_v36, val_main_v35, val_main_v34, val_main_cst_2, val_main_v33,
    val_main_v32, val_main_v31, val_main_v30, val_main_v29, val_main_v28, val_main_v27, val_main_v26, val_main_cst_1, val_main_v25,
    val_main_v24, val_main_cst_0, val_main_v23, val_main_v22, val_main_cst, val_main_v21, val_main_v13, val_main_v12, val_main_v11,
    val_main_v10, val_main_v9, val_main_v8, val_main_v4]
  simp only [mixed20]
  rfl

/-- The context rows' up projections. -/
theorem up40 (b : Fin 16) (l : Fin 256) (j : Fin 5632) :
    val_main_v40 (F := Ideal) x0 x1 x2 x3 x4 x5 (ix3 b l j)
      = upRow (modG x0 x1 x2 x3 x4 0 ⟨b.val * 256 + l.val, by omega⟩) (fun k j => x5 (ix2 k j)) j := by
  pointwise [val_main_v40]
  simp only [mod39]
  rfl

/-- The context row before, zero before a sequence's first. -/
theorem before44 (b : Fin 16) (l : Fin 256) (j : Fin 2816) :
    val_main_v44 (F := Ideal) x0 x1 x2 x3 x4 x5 (ix3 b l j)
      = if (b.val * 256 + l.val) % 256 = 0 then 0
        else upRow (modG x0 x1 x2 x3 x4 0 ⟨b.val * 256 + l.val - 1, by omega⟩) (fun k j => x5 (ix2 k j)) ⟨j.val, by omega⟩ := by
  pointwise [val_main_v44, val_main_v43, val_main_v41, val_main_call0_v0, val_main_c]
  by_cases hl : l.val = 0
  · rw [dif_neg (by omega), if_pos (by omega), pad_zero]
  · rw [dif_pos (by omega), if_neg (by omega), up40]
    rw [show (⟨b.val * 256 + (l.val - 1), by omega⟩ : Fin 12288) = ⟨b.val * 256 + l.val - 1, by omega⟩ from
      Fin.ext (by show b.val * 256 + (l.val - 1) = b.val * 256 + l.val - 1; omega)]

/-- The context row itself. -/
theorem same50 (b : Fin 16) (l : Fin 256) (j : Fin 2816) :
    val_main_v50 (F := Ideal) x0 x1 x2 x3 x4 x5 (ix3 b l j)
      = upRow (modG x0 x1 x2 x3 x4 0 ⟨b.val * 256 + l.val, by omega⟩) (fun k j => x5 (ix2 k j)) ⟨j.val, by omega⟩ := by
  pointwise [val_main_v50, val_main_v43, val_main_v41, val_main_call0_v0, val_main_c]
  exact up40 x0 x1 x2 x3 x4 x5 b l _

/-- The context row after, zero after a sequence's last. -/
theorem after57 (b : Fin 16) (l : Fin 256) (j : Fin 2816) :
    val_main_v57 (F := Ideal) x0 x1 x2 x3 x4 x5 (ix3 b l j)
      = if (b.val * 256 + l.val) % 256 = 255 then 0
        else upRow (modG x0 x1 x2 x3 x4 0 ⟨(b.val * 256 + l.val + 1) % 12288, by omega⟩) (fun k j => x5 (ix2 k j)) ⟨j.val, by omega⟩ := by
  pointwise [val_main_v57, val_main_v43, val_main_v41, val_main_call0_v0, val_main_c]
  by_cases hl : l.val = 255
  · rw [dif_neg (by omega), if_pos (by omega), pad_zero]
  · rw [dif_pos (by omega), if_neg (by omega), up40]
    rw [show (⟨b.val * 256 + (2 + l.val - 1), by omega⟩ : Fin 12288) = ⟨(b.val * 256 + l.val + 1) % 12288, by omega⟩ from
      Fin.ext (by show b.val * 256 + (2 + l.val - 1) = (b.val * 256 + l.val + 1) % 12288; omega)]

/-- The context rows' hidden rows. -/
theorem hidden68 (b : Fin 16) (l : Fin 256) (j : Fin 2816) :
    val_main_v68 (F := Ideal) x0 x1 x2 x3 x4 x5 x6 x7 (ix3 b l j)
      = hiddenRow (modG x0 x1 x2 x3 x4 0 ⟨b.val * 256 + l.val, by omega⟩)
          (fun j => if (b.val * 256 + l.val) % 256 = 0 then 0
            else upRow (modG x0 x1 x2 x3 x4 0 ⟨b.val * 256 + l.val - 1, by omega⟩) (fun k j => x5 (ix2 k j)) ⟨j.val, by omega⟩)
          (fun j => if (b.val * 256 + l.val) % 256 = 255 then 0
            else upRow (modG x0 x1 x2 x3 x4 0 ⟨(b.val * 256 + l.val + 1) % 12288, by omega⟩) (fun k j => x5 (ix2 k j))
              ⟨j.val, by omega⟩)
          (fun k j => x5 (ix2 k j)) (fun a j => x6 (ix2 a j)) (fun j => x7 (ix1 j)) j := by
  pointwise [val_main_v68, val_main_v67, val_main_v66, val_main_v65, val_main_v64, val_main_v63, val_main_v62, val_main_v61,
    val_main_v60, val_main_v59, val_main_v58, val_main_v56, val_main_v55, val_main_v54, val_main_v53, val_main_v52,
    val_main_v51, val_main_v49, val_main_v48, val_main_v47, val_main_v46, val_main_v45, val_main_v42, val_main_call1_v5,
    val_main_call1_v4, val_main_call1_cst_0, val_main_call1_v3, val_main_call1_v2, val_main_call1_cst, val_main_call1_v1,
    val_main_call1_v0]
  simp only [before44, same50, after57, up40]
  unfold hiddenRow gated
  rw [zero_sub]

/-- The context rows before the final norm. -/
theorem rows72 (b : Fin 16) (l : Fin 256) (d : Fin 1024) :
    val_main_v72 (F := Ideal) x0 x1 x2 x3 x4 x5 x6 x7 x8 (ix3 b l d)
      = midG x0 x1 x2 x3 x4 x5 x6 x7 x8 0 256 ⟨b.val * 256 + l.val, by omega⟩ d := by
  pointwise [val_main_v72, val_main_v71, val_main_v70, val_main_v69, val_main_v16, val_main_v15, val_main_v14, val_main_v4]
  simp only [mixed20, hidden68]
  rfl

/-- The context rows of the result. -/
theorem rows85 (b : Fin 16) (l : Fin 256) (d : Fin 1024) :
    val_main_v85 (F := Ideal) x0 x1 x2 x3 x4 x5 x6 x7 x8 x9 (ix3 b l d)
      = trunkG x0 x1 x2 x3 x4 x5 x6 x7 x8 x9 0 256 ⟨b.val * 256 + l.val, by omega⟩ d := by
  pointwise [val_main_v85, val_main_v84, val_main_v83, val_main_v82, val_main_v81, val_main_v80, val_main_v79, val_main_v78,
    val_main_v77, val_main_v76, val_main_v75, val_main_v74, val_main_v73, val_main_cst_5, val_main_cst_4, val_main_cst_3]
  simp only [rows72]
  rfl

/-- The sample rows with their mixed rows added. -/
theorem mixed106 (b : Fin 8) (l : Fin 1024) (d : Fin 1024) :
    val_main_v106 (F := Ideal) x0 x1 x2 x3 (ix3 b l d) = mixedG x0 x1 x2 x3 (⟨1 + b.val, by omega⟩) ⟨4096 + (b.val * 1024 + l.val), by omega⟩ d := by
  pointwise [val_main_v106, val_main_v105, val_main_v104, val_main_v103, val_main_v93, val_main_v92, val_main_v91, val_main_v90,
    val_main_v89, val_main_v88, val_main_v87, val_main_v86]
  rfl

/-- The sample rows, normalised and modulated. -/
theorem mod125 (b : Fin 8) (l : Fin 1024) (d : Fin 1024) :
    val_main_v125 (F := Ideal) x0 x1 x2 x3 x4 (ix3 b l d) = modG x0 x1 x2 x3 x4 (⟨1 + b.val, by omega⟩) ⟨4096 + (b.val * 1024 + l.val), by omega⟩ d := by
  pointwise [val_main_v125, val_main_v124, val_main_v123, val_main_v122, val_main_v121, val_main_v120, val_main_cst_9,
    val_main_v119, val_main_v118, val_main_v117, val_main_v116, val_main_v115, val_main_v114, val_main_v113, val_main_v112, val_main_cst_8,
    val_main_v111, val_main_v110, val_main_cst_7, val_main_v109, val_main_v108, val_main_cst_6, val_main_v107, val_main_v99, val_main_v98, val_main_v97,
    val_main_v96, val_main_v95, val_main_v94, val_main_v90]
  simp only [mixed106]
  rfl

/-- The sample rows' up projections. -/
theorem up126 (b : Fin 8) (l : Fin 1024) (j : Fin 5632) :
    val_main_v126 (F := Ideal) x0 x1 x2 x3 x4 x5 (ix3 b l j)
      = upRow (modG x0 x1 x2 x3 x4 (⟨1 + b.val, by omega⟩) ⟨4096 + (b.val * 1024 + l.val), by omega⟩) (fun k j => x5 (ix2 k j)) j := by
  pointwise [val_main_v126]
  simp only [mod125]
  rfl

/-- The sample row before, zero before a sequence's first. -/
theorem before130 (b : Fin 8) (l : Fin 1024) (j : Fin 2816) :
    val_main_v130 (F := Ideal) x0 x1 x2 x3 x4 x5 (ix3 b l j)
      = if (4096 + (b.val * 1024 + l.val)) % 1024 = 0 then 0
        else upRow (modG x0 x1 x2 x3 x4 (⟨1 + b.val, by omega⟩) ⟨4096 + (b.val * 1024 + l.val) - 1, by omega⟩) (fun k j => x5 (ix2 k j)) ⟨j.val, by omega⟩ := by
  pointwise [val_main_v130, val_main_v129, val_main_v127, val_main_call2_v0, val_main_c_10]
  by_cases hl : l.val = 0
  · rw [dif_neg (by omega), if_pos (by omega), pad_zero]
  · rw [dif_pos (by omega), if_neg (by omega), up126]
    rw [show (⟨4096 + (b.val * 1024 + (l.val - 1)), by omega⟩ : Fin 12288) = ⟨4096 + (b.val * 1024 + l.val) - 1, by omega⟩ from
      Fin.ext (by show 4096 + (b.val * 1024 + (l.val - 1)) = 4096 + (b.val * 1024 + l.val) - 1; omega)]

/-- The sample row itself. -/
theorem same136 (b : Fin 8) (l : Fin 1024) (j : Fin 2816) :
    val_main_v136 (F := Ideal) x0 x1 x2 x3 x4 x5 (ix3 b l j)
      = upRow (modG x0 x1 x2 x3 x4 (⟨1 + b.val, by omega⟩) ⟨4096 + (b.val * 1024 + l.val), by omega⟩) (fun k j => x5 (ix2 k j)) ⟨j.val, by omega⟩ := by
  pointwise [val_main_v136, val_main_v129, val_main_v127, val_main_call2_v0, val_main_c_10]
  exact up126 x0 x1 x2 x3 x4 x5 b l _

/-- The sample row after, zero after a sequence's last. -/
theorem after143 (b : Fin 8) (l : Fin 1024) (j : Fin 2816) :
    val_main_v143 (F := Ideal) x0 x1 x2 x3 x4 x5 (ix3 b l j)
      = if (4096 + (b.val * 1024 + l.val)) % 1024 = 1023 then 0
        else upRow (modG x0 x1 x2 x3 x4 (⟨1 + b.val, by omega⟩) ⟨(4096 + (b.val * 1024 + l.val) + 1) % 12288, by omega⟩) (fun k j => x5 (ix2 k j)) ⟨j.val, by omega⟩ := by
  pointwise [val_main_v143, val_main_v129, val_main_v127, val_main_call2_v0, val_main_c_10]
  by_cases hl : l.val = 1023
  · rw [dif_neg (by omega), if_pos (by omega), pad_zero]
  · rw [dif_pos (by omega), if_neg (by omega), up126]
    rw [show (⟨4096 + (b.val * 1024 + (2 + l.val - 1)), by omega⟩ : Fin 12288) = ⟨(4096 + (b.val * 1024 + l.val) + 1) % 12288, by omega⟩ from
      Fin.ext (by show 4096 + (b.val * 1024 + (2 + l.val - 1)) = (4096 + (b.val * 1024 + l.val) + 1) % 12288; omega)]

/-- The sample rows' hidden rows. -/
theorem hidden154 (b : Fin 8) (l : Fin 1024) (j : Fin 2816) :
    val_main_v154 (F := Ideal) x0 x1 x2 x3 x4 x5 x6 x7 (ix3 b l j)
      = hiddenRow (modG x0 x1 x2 x3 x4 (⟨1 + b.val, by omega⟩) ⟨4096 + (b.val * 1024 + l.val), by omega⟩)
          (fun j => if (4096 + (b.val * 1024 + l.val)) % 1024 = 0 then 0
            else upRow (modG x0 x1 x2 x3 x4 (⟨1 + b.val, by omega⟩) ⟨4096 + (b.val * 1024 + l.val) - 1, by omega⟩) (fun k j => x5 (ix2 k j)) ⟨j.val, by omega⟩)
          (fun j => if (4096 + (b.val * 1024 + l.val)) % 1024 = 1023 then 0
            else upRow (modG x0 x1 x2 x3 x4 (⟨1 + b.val, by omega⟩) ⟨(4096 + (b.val * 1024 + l.val) + 1) % 12288, by omega⟩) (fun k j => x5 (ix2 k j))
              ⟨j.val, by omega⟩)
          (fun k j => x5 (ix2 k j)) (fun a j => x6 (ix2 a j)) (fun j => x7 (ix1 j)) j := by
  pointwise [val_main_v154, val_main_v153, val_main_v152, val_main_v151, val_main_v150, val_main_v149, val_main_v148, val_main_v147,
    val_main_v146, val_main_v145, val_main_v144, val_main_v142, val_main_v141, val_main_v140, val_main_v139, val_main_v138,
    val_main_v137, val_main_v135, val_main_v134, val_main_v133, val_main_v132, val_main_v131, val_main_v128,
    val_main_call3_v5, val_main_call3_v4, val_main_call3_cst_0, val_main_call3_v3, val_main_call3_v2, val_main_call3_cst,
    val_main_call3_v1, val_main_call3_v0]
  simp only [before130, same136, after143, up126]
  unfold hiddenRow gated
  rw [zero_sub]

/-- The sample rows before the final norm. -/
theorem rows158 (b : Fin 8) (l : Fin 1024) (d : Fin 1024) :
    val_main_v158 (F := Ideal) x0 x1 x2 x3 x4 x5 x6 x7 x8 (ix3 b l d)
      = midG x0 x1 x2 x3 x4 x5 x6 x7 x8 (⟨1 + b.val, by omega⟩) 1024 ⟨4096 + (b.val * 1024 + l.val), by omega⟩ d := by
  pointwise [val_main_v158, val_main_v157, val_main_v156, val_main_v155, val_main_v102, val_main_v101, val_main_v100, val_main_v90]
  simp only [mixed106, hidden154]
  rfl

/-- The sample rows of the result. -/
theorem rows171 (b : Fin 8) (l : Fin 1024) (d : Fin 1024) :
    val_main_v171 (F := Ideal) x0 x1 x2 x3 x4 x5 x6 x7 x8 x9 (ix3 b l d)
      = trunkG x0 x1 x2 x3 x4 x5 x6 x7 x8 x9 (⟨1 + b.val, by omega⟩) 1024 ⟨4096 + (b.val * 1024 + l.val), by omega⟩ d := by
  pointwise [val_main_v171, val_main_v170, val_main_v169, val_main_v168, val_main_v167, val_main_v166, val_main_v165, val_main_v164,
    val_main_v163, val_main_v162, val_main_v161, val_main_v160, val_main_v159, val_main_cst_13, val_main_cst_12,
    val_main_cst_11]
  simp only [rows158]
  rfl

/-- The result at row `R`. -/
theorem result_at (R : Fin 12288) (d : Fin 1024) :
    val_main_v174 (F := Ideal) x0 x1 x2 x3 x4 x5 x6 x7 x8 x9 (ix2 R d)
      = trunkG x0 x1 x2 x3 x4 x5 x6 x7 x8 x9 (modOf R) (lenOf R) R d := by
  pointwise [val_main_v174, val_main_v173, val_main_v172]
  by_cases hR : R.val < 4096
  · rw [dif_pos hR, rows85, show modOf R = 0 from dif_pos hR, show lenOf R = 256 from if_pos hR]
    rw [show (⟨R.val / 256 * 256 + R.val % 256, by omega⟩ : Fin 12288) = R from
      Fin.ext (by show R.val / 256 * 256 + R.val % 256 = R.val; omega)]
  · rw [dif_neg hR, rows171, show modOf R = ⟨1 + (R.val - 4096) / 1024, by omega⟩ from dif_neg hR,
      show lenOf R = 1024 from if_neg hR]
    rw [show (⟨4096 + ((R.val - 4096) / 1024 * 1024 + (R.val - 4096) % 1024), by omega⟩ : Fin 12288) = R from
      Fin.ext (by show 4096 + ((R.val - 4096) / 1024 * 1024 + (R.val - 4096) % 1024) = R.val; omega)]

end Cert.Ffn.Ref
-- ==== Proof.FfnClaims.lean ====
/- The claim about the feed-forward call's value. -/
module

public import proofs.«01_k».proof.Defs
public import proofs.«01_k».proof.Proof.FfnValue
public import proofs.«01_k».proof.Proof.FfnRef
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Ffn.Claims

open Idealize.ShloMosaic.TcCoe Idealize.SL.Sem Idealize.ShloMosaic Cert.Ffn Cert.Ffn.Val

section
open Cert.Kernel2Ideal

variable (m : (ℓ : Loc nD τ sig) → Buf (Elt Ideal) ℓ) (c : Dev nD)

/-- The reference's result is what the kernel's run leaves in its result. -/
theorem same : (Cert.Reference2Ideal.Read.val_main_v174 (F := Ideal) (a0 m c) (a1 m c) (a2 m c) (a3 m c) (a4 m c) (a5 m c) (a6 m c) (a7 m c)
      (a8 m c) (a9 m c) : Vec Ideal S12288x1024 .f32)
    = (Cert.Kernel2Ideal.Gen.dats m 0 c).arrAt 10 Cert.Kernel2Ideal.cfg0.N := by
  refine Eq.trans ?_ (arr10 m c).symm
  funext i
  have h0 : (i 0).val < 12288 := (i 0).isLt
  have h1 : (i 1).val < 1024 := (i 1).isLt
  show _ = entryK m c (i 0).val (i 1).val
  rw [entryK, dif_pos ⟨h0, h1⟩]
  refine (congrArg _ (eq_ix2 i)).trans ?_
  exact Cert.Ffn.Ref.result_at _ _ _ _ _ _ _ _ _ _ (i 0) (i 1)

end

section
open Cert.Reference2Ideal

/-- The reference's run, its result as a function of its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v174) = Read.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run _ _ _).mono (fun r h c => ⟨(h c).1.trans (Read.val_main_v174_eq _), (h c).2⟩)
    (Value.run (F := Ideal) m ρ)

end

/-- Every entry of the feed-forward call's result agrees, whatever the inputs. -/
theorem value : Cert.algebraic_Kernel2Ideal_Reference2Ideal := by
  intro m g m' g' hpre hagree
  refine ⟨fun c => (Cert.Kernel2Ideal.Gen.dats m 0 c).arrAt 10 Cert.Kernel2Ideal.cfg0.N, ?_, ?_⟩
  · exact Cert.Kernel2Ideal.Value.run_blocks (F := Ideal) m g
  · refine (θ_run _ _ _).mono (fun r h c => ?_) (run_ref m' g')
    obtain ⟨e, k⟩ := h c
    obtain ⟨g0, g1, g2, g3, g4, g5, g6, g7, g8, g9⟩ := hagree c
    rw [g0, g1, g2, g3, g4, g5, g6, g7, g8, g9] at e
    exact ⟨e.trans (same m c), k⟩

end Cert.Ffn.Claims
-- ==== Proof.FfnEvenBlock.lean ====
/- What one grid point of the feed-forward call of an even layer stores: two mixed rows added, the norm, eleven
slices of the hidden width added up one after the other. -/
module

public import proofs.«01_k».proof.Proof.Gen.Kernel3Ideal.Value
public import proofs.«01_k».proof.Proof.FfnBlock

@[expose] public section

set_option maxRecDepth 16384

noncomputable section

namespace Cert.Ffn.Even

open Cert.Kernel3Ideal Cert.Kernel3Ideal.Gen Idealize.ShloMosaic Cert.Ffn.Blk

variable {F : FTy → Type} [FloatOps F]

/-- Up projections of a slice: all the same product. -/
theorem ups :
    @k0_pay12 F _ = Cert.Kernel2Ideal.Gen.k0_pay17 ∧ @k0_pay13 F _ = Cert.Kernel2Ideal.Gen.k0_pay17 ∧ @k0_pay14 F _
    = Cert.Kernel2Ideal.Gen.k0_pay17 ∧ @k0_pay15 F _ = Cert.Kernel2Ideal.Gen.k0_pay17 ∧ @k0_pay18 F _ =
    Cert.Kernel2Ideal.Gen.k0_pay17 ∧ @k0_pay19 F _ = Cert.Kernel2Ideal.Gen.k0_pay17 ∧ @k0_pay23 F _ =
    Cert.Kernel2Ideal.Gen.k0_pay17 ∧ @k0_pay24 F _ = Cert.Kernel2Ideal.Gen.k0_pay17 ∧ @k0_pay28 F _ =
    Cert.Kernel2Ideal.Gen.k0_pay17 ∧ @k0_pay29 F _ = Cert.Kernel2Ideal.Gen.k0_pay17 ∧ @k0_pay31 F _ =
    Cert.Kernel2Ideal.Gen.k0_pay17 ∧ @k0_pay32 F _ = Cert.Kernel2Ideal.Gen.k0_pay17 ∧ @k0_pay36 F _ =
    Cert.Kernel2Ideal.Gen.k0_pay17 ∧ @k0_pay37 F _ = Cert.Kernel2Ideal.Gen.k0_pay17 ∧ @k0_pay42 F _ =
    Cert.Kernel2Ideal.Gen.k0_pay17 ∧ @k0_pay43 F _ = Cert.Kernel2Ideal.Gen.k0_pay17 ∧ @k0_pay47 F _ =
    Cert.Kernel2Ideal.Gen.k0_pay17 ∧ @k0_pay48 F _ = Cert.Kernel2Ideal.Gen.k0_pay17 ∧ @k0_pay51 F _ =
    Cert.Kernel2Ideal.Gen.k0_pay17 ∧ @k0_pay52 F _ = Cert.Kernel2Ideal.Gen.k0_pay17 ∧ @k0_pay56 F _ =
    Cert.Kernel2Ideal.Gen.k0_pay17 ∧ @k0_pay57 F _ = Cert.Kernel2Ideal.Gen.k0_pay17 :=
  ⟨rfl, rfl, rfl, rfl, rfl, rfl, rfl, rfl, rfl, rfl, rfl, rfl, rfl, rfl, rfl, rfl, rfl, rfl, rfl, rfl, rfl, rfl⟩

section slices
variable (f l : IVec S1024x1 1) (A B : FVec F S1024x256 .f32) (w : Vec F S3x256 .f32) (b : Vec F S1x256 .f32)
  (acc : Vec F S1024x1024 .f32) (wd : Vec F S256x1024 .bf16)

/-- Slice 0 of the hidden width adds its part as every slice does. -/
theorem slice0 : k0_pay17 acc (k0_pay16 f l A B w b wd) =
    Cert.Kernel2Ideal.Gen.k0_pay20 (Cert.Kernel2Ideal.Gen.k0_pay19 f l A B w b) acc wd := rfl

/-- Slice 1 of the hidden width adds its part as every slice does. -/
theorem slice1 : k0_pay22 B (k0_pay20 f l A w b) (k0_pay21 f l A w b) acc wd =
    Cert.Kernel2Ideal.Gen.k0_pay20 (Cert.Kernel2Ideal.Gen.k0_pay19 f l A B w b) acc wd := rfl

/-- Slice 2 of the hidden width adds its part as every slice does. -/
theorem slice2 : k0_pay27 A B w (k0_pay25 l A) (k0_pay26 f A w) b acc wd =
    Cert.Kernel2Ideal.Gen.k0_pay20 (Cert.Kernel2Ideal.Gen.k0_pay19 f l A B w b) acc wd := rfl

/-- Slice 3 of the hidden width adds its part as every slice does. -/
theorem slice3 : k0_pay30 f l A B w b acc wd =
    Cert.Kernel2Ideal.Gen.k0_pay20 (Cert.Kernel2Ideal.Gen.k0_pay19 f l A B w b) acc wd := rfl

/-- Slice 4 of the hidden width adds its part as every slice does. -/
theorem slice4 : k0_pay35 B (k0_pay33 f l A w b) (k0_pay34 f l A w b) acc wd =
    Cert.Kernel2Ideal.Gen.k0_pay20 (Cert.Kernel2Ideal.Gen.k0_pay19 f l A B w b) acc wd := rfl

/-- Slice 5 of the hidden width adds its part as every slice does. -/
theorem slice5 : k0_pay41 B (k0_pay38 l A) (k0_pay39 f A w) (k0_pay40 w) b acc wd =
    Cert.Kernel2Ideal.Gen.k0_pay20 (Cert.Kernel2Ideal.Gen.k0_pay19 f l A B w b) acc wd := rfl

/-- Slice 6 of the hidden width adds its part as every slice does. -/
theorem slice6 : k0_pay46 l A B w (k0_pay44 A) (FloatOps.ofBits FTy.f32 0#32) (k0_pay45 f) b acc wd =
    Cert.Kernel2Ideal.Gen.k0_pay20 (Cert.Kernel2Ideal.Gen.k0_pay19 f l A B w b) acc wd := rfl

/-- Slice 7 of the hidden width adds its part as every slice does. -/
theorem slice7 : k0_pay50 (k0_pay49 f l A B w b) acc wd =
    Cert.Kernel2Ideal.Gen.k0_pay20 (Cert.Kernel2Ideal.Gen.k0_pay19 f l A B w b) acc wd := rfl

/-- Slice 8 of the hidden width adds its part as every slice does. -/
theorem slice8 : k0_pay55 B (k0_pay53 f l A w) (k0_pay54 b) acc wd =
    Cert.Kernel2Ideal.Gen.k0_pay20 (Cert.Kernel2Ideal.Gen.k0_pay19 f l A B w b) acc wd := rfl

/-- Slice 9 of the hidden width adds its part as every slice does. -/
theorem slice9 : k0_pay61 A B w (k0_pay58 f A) (k0_pay59 A) (FloatOps.ofBits FTy.f32 0#32) (k0_pay60 l) b acc wd =
    Cert.Kernel2Ideal.Gen.k0_pay20 (Cert.Kernel2Ideal.Gen.k0_pay19 f l A B w b) acc wd := rfl

/-- Slice 10 of the hidden width adds its part as every slice does. -/
theorem slice10 : k0_pay63 l A B w (k0_pay62 f A) 1023#32 b acc wd =
    Cert.Kernel2Ideal.Gen.k0_pay20 (Cert.Kernel2Ideal.Gen.k0_pay19 f l A B w b) acc wd := rfl

end slices

/-- A load of all of a mixed half is that half. -/
theorem wholeHalf {e : EltTy} (inb) (X : Vec F S1024x512 e) :
    View.ld (Val := Elt F) X (Rect.unit ![0, 0] (no_index S1024x512.size) inb) = X :=
  View.ld_unit_lit' inb X (by intro a; fin_cases a <;> rfl)

/-- A load of all of a half of the output projection is that half. -/
theorem wholeOut {e : EltTy} (inb) (X : Vec F S512x1024 e) :
    View.ld (Val := Elt F) X (Rect.unit ![0, 0] (no_index S512x1024.size) inb) = X :=
  View.ld_unit_lit' inb X (by intro a; fin_cases a <;> rfl)

/-- The rows a grid point leaves, from the blocks it reads. -/
def blockRows (i : grid0.Coords) (x0 : Vec F S1024x1024 .f32) (x1 : Vec F S1024x512 .f32) (x2 : Vec F S1024x512 .f32) (x3 : Vec F S512x1024 .bf16) (x4 : Vec F S512x1024 .bf16) (x5 : Vec F S1x6x1024 .f32) (x6 : Vec F S1x1024 .f32) (x7 : Vec F S1024x5632 .bf16) (x8 : Vec F S3x2816 .f32) (x9 : Vec F S1x2816 .f32) (x10 : Vec F S2816x1024 .bf16) : FVec F S1024x1024 .f32 :=
  k0_pay1 (k0_pay64 (k0_pay3 x5 x1 x3 x2 x4 x0)) (k0_pay65 (k0_pay2 x5))
    (allSlices (k0_pay10 (BitVec.ofNat 32 (i 0).val)) (k0_pay11 (BitVec.ofNat 32 (i 0).val))
      (k0_pay7 (k0_pay2 x5) (k0_pay4 x5 x1 x3 x2 x4 x0 x6) (k0_pay5 x5) k0_pay6) x7 x8 x9 x10)

set_option maxHeartbeats 1000000 in
/-- The run of a grid point leaves those rows. -/
theorem out_eq (c i) (arg1 : Memref sig .tc .vmem S1024x1024 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x6x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x1024 .f32) (harg14 : arg14.IsWhole)
    (x0 : Vec F S1024x1024 .f32) (x1 : Vec F S1024x512 .f32) (x2 : Vec F S1024x512 .f32) (x3 : Vec F S512x1024 .bf16) (x4 : Vec F S512x1024 .bf16) (x5 : Vec F S1x6x1024 .f32) (x6 : Vec F S1x1024 .f32) (x7 : Vec F S1024x5632 .bf16) (x8 : Vec F S3x2816 .f32) (x9 : Vec F S1x2816 .f32) (x10 : Vec F S2816x1024 .bf16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10
      = blockRows i x0 x1 x2 x3 x4 x5 x6 x7 x8 x9 x10 := by
  unfold out0_A_11 kernelRun0_A
  dsimp only
  simp only [
    kernelRun0_A.sl.H11_1, kernelRun0_A.sl.r_51, kernelRun0_A.sl.r_52, kernelRun0_A.sl.v622, kernelRun0_A.sl.HS1_12,
    kernelRun0_A.sl.r, kernelRun0_A.sl.v619, kernelRun0_A.sl.HS1_11, kernelRun0_A.sl.r_4, kernelRun0_A.sl.r_43,
    kernelRun0_A.sl.r_44, kernelRun0_A.sl.r_49, kernelRun0_A.sl.r_50, kernelRun0_A.sl.v611, kernelRun0_A.sl.HS1_10,
    kernelRun0_A.sl.cst_185, kernelRun0_A.sl.r_3, kernelRun0_A.sl.r_39, kernelRun0_A.sl.r_40, kernelRun0_A.sl.r_45,
    kernelRun0_A.sl.r_46, kernelRun0_A.sl.r_47, kernelRun0_A.sl.r_48, kernelRun0_A.sl.v567, kernelRun0_A.sl.v58,
    kernelRun0_A.sl.HS0_1, kernelRun0_A.sl.HS1_9, kernelRun0_A.sl.r_37, kernelRun0_A.sl.r_41, kernelRun0_A.sl.r_42,
    kernelRun0_A.sl.v516, kernelRun0_A.sl.HS1_8, kernelRun0_A.sl.r_1, kernelRun0_A.sl.r_2, kernelRun0_A.sl.r_36,
    kernelRun0_A.sl.r_38, kernelRun0_A.sl.v465, kernelRun0_A.sl.HS1_7, kernelRun0_A.sl.r_26, kernelRun0_A.sl.r_27,
    kernelRun0_A.sl.r_31, kernelRun0_A.sl.r_32, kernelRun0_A.sl.r_33, kernelRun0_A.sl.r_34, kernelRun0_A.sl.r_35,
    kernelRun0_A.sl.v414, kernelRun0_A.sl.HS1_6, kernelRun0_A.sl.r_23, kernelRun0_A.sl.r_28, kernelRun0_A.sl.r_29,
    kernelRun0_A.sl.r_30, kernelRun0_A.sl.v363, kernelRun0_A.sl.HS1_5, kernelRun0_A.sl.r_20, kernelRun0_A.sl.r_22,
    kernelRun0_A.sl.r_24, kernelRun0_A.sl.r_25, kernelRun0_A.sl.v312, kernelRun0_A.sl.HS1_4, kernelRun0_A.sl.r_19,
    kernelRun0_A.sl.r_21, kernelRun0_A.sl.HS1_3, kernelRun0_A.sl.r_10, kernelRun0_A.sl.r_11, kernelRun0_A.sl.r_14,
    kernelRun0_A.sl.r_15, kernelRun0_A.sl.r_16, kernelRun0_A.sl.r_17, kernelRun0_A.sl.r_18, kernelRun0_A.sl.v210,
    kernelRun0_A.sl.v261, kernelRun0_A.sl.HS1_2, kernelRun0_A.sl.r_12, kernelRun0_A.sl.r_13, kernelRun0_A.sl.r_8,
    kernelRun0_A.sl.v159, kernelRun0_A.sl.HS1_1, kernelRun0_A.sl.r_7, kernelRun0_A.sl.r_9, kernelRun0_A.sl.v108,
    kernelRun0_A.sl.r_5, kernelRun0_A.sl.r_6,
    readBack, readAll, loadAt, wholeMatrix, wholeRow, wholeMod, wholeHalf, wholeOut, ups,
    slice0, slice1, slice2, slice3, slice4, slice5, slice6, slice7, slice8, slice9, slice10]
  rfl

end Cert.Ffn.Even
-- ==== Proof.FfnEvenValue.lean ====
/- The result of the even layers' feed-forward call after the run, row by row. -/
module

public import proofs.«01_k».proof.Proof.FfnEvenBlock
public import proofs.«01_k».proof.Proof.FfnTile
public import Idealize.ShloMosaic.Lib.Pipeline.ValueKit.Partial

@[expose] public section

set_option maxRecDepth 16384

noncomputable section

namespace Cert.Ffn.EvenVal

open Idealize.ShloMosaic.TcCoe Idealize.SL.Sem Cert.Kernel3Ideal Cert.Kernel3Ideal.Gen Idealize.ShloMosaic Cert.Ffn
  Cert.Ffn.Tile

variable (m : (ℓ : Loc nD τ sig) → Buf (Elt Ideal) ℓ) (c : Dev nD)

/-- The ten arguments. -/
abbrev a0 : Vec Ideal S12288x1024 .f32 := m ((c : Thread nD τ).loc main_arg0)
abbrev a1 : Vec Ideal S12288x512 .f32 := m ((c : Thread nD τ).loc main_arg1)
abbrev a2 : Vec Ideal S12288x512 .f32 := m ((c : Thread nD τ).loc main_arg2)
abbrev a3 : Vec Ideal S16x6x1024 .f32 := m ((c : Thread nD τ).loc main_arg3)
abbrev a4 : Vec Ideal S1024x1024 .f32 := m ((c : Thread nD τ).loc main_arg4)
abbrev a5 : Vec Ideal S1024 .f32 := m ((c : Thread nD τ).loc main_arg5)
abbrev a6 : Vec Ideal S1024x5632 .f32 := m ((c : Thread nD τ).loc main_arg6)
abbrev a7 : Vec Ideal S3x2816 .f32 := m ((c : Thread nD τ).loc main_arg7)
abbrev a8 : Vec Ideal S2816 .f32 := m ((c : Thread nD τ).loc main_arg8)
abbrev a9 : Vec Ideal S2816x1024 .f32 := m ((c : Thread nD τ).loc main_arg9)

section tile
variable (i : grid0.Coords) (x0 : Vec Ideal S1024x1024 .f32) (x1 x2 : Vec Ideal S1024x512 .f32) (x3 x4 : Vec Ideal S512x1024 .bf16)
  (x5 : Vec Ideal S1x6x1024 .f32) (x6 : Vec Ideal S1x1024 .f32) (x7 : Vec Ideal S1024x5632 .bf16) (x8 : Vec Ideal S3x2816 .f32)
  (x9 : Vec Ideal S1x2816 .f32) (x10 : Vec Ideal S2816x1024 .bf16)

/-- The tile's row `r` with both its mixed halves added. -/
def mixedE (r d : Fin 1024) : EReal :=
  x0 (ix2 r d) + x5 (ix3 0 2 d) * ((∑ k, x1 (ix2 r k) * x3 (ix2 k d)) + ∑ k, x2 (ix2 r k) * x4 (ix2 k d))

/-- The tile's row `r`, normalised and modulated. -/
def modE (r d : Fin 1024) : EReal :=
  normRow (mixedE x0 x1 x2 x3 x4 x5 r) (fun k => x6 (ix2 0 k)) d * (1 + x5 (ix3 0 4 d)) + x5 (ix3 0 3 d)

/-- The stored rows with the mixed rows added. -/
theorem mixed_at (r d : Fin 1024) :
    k0_pay64 (F := Ideal) (k0_pay3 (F := Ideal) x5 x1 x3 x2 x4 x0) (ix2 r d) = mixedE x0 x1 x2 x3 x4 x5 r d := by
  pointwise [k0_pay64, k0_pay3, k0_pay2]
  rfl

/-- The stored normalised and modulated rows. -/
theorem mod_at (r d : Fin 1024) :
    k0_pay7 (F := Ideal) (k0_pay2 x5) (k0_pay4 (F := Ideal) x5 x1 x3 x2 x4 x0 x6) (k0_pay5 x5) k0_pay6 (ix2 r d)
      = modE x0 x1 x2 x3 x4 x5 x6 r d := by
  pointwise [k0_pay7, k0_pay6, k0_pay5, k0_pay4, k0_pay3, k0_pay2]
  rfl

/-- The rows a grid point leaves. -/
theorem block_at (r d : Fin 1024) :
    Even.blockRows (F := Ideal) i x0 x1 x2 x3 x4 x5 x6 x7 x8 x9 x10 (ix2 r d)
      = midRow (mixedE x0 x1 x2 x3 x4 x5 r) (fun k => x5 (ix3 0 5 k)) (hiddenOf (seqLen (i 0)) (modE x0 x1 x2 x3 x4 x5 x6)
          (fun k j => x7 (ix2 k j)) (fun a j => x8 (ix2 a j)) (fun j => x9 (ix2 0 j)) r) (fun j k => x10 (ix2 j k)) d := by
  have key : ∀ acc : FVec Ideal S1024x1024 .f32, ∀ y : FVec Ideal S1024x1024 .f32,
      k0_pay1 (F := Ideal) y (k0_pay65 (k0_pay2 x5)) acc (ix2 r d) = y (ix2 r d) + x5 (ix3 0 5 d) * acc (ix2 r d) := by
    intro acc y
    pointwise [k0_pay1, k0_pay65, k0_pay2]
  unfold Even.blockRows midRow
  rw [key, mixed_at]
  exact congrArg (fun z => mixedE x0 x1 x2 x3 x4 x5 r d + x5 (ix3 0 5 d) * z)
    (all_at (i 0) _ _ (mod_at x0 x1 x2 x3 x4 x5 x6) x7 x8 x9 x10 r d)

end tile

/-- The row of the modulation that grid point `t` reads. -/
def modT' (t : Nat) : Nat := if t < 4 then 0 else 1 + (t - 4)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![modT' (grid0.coords t 0).val, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![(grid0.coords t 0).val, 0] := (by decide +kernel : ∀ t : Fin grid0.N, _)
theorem coord0 : ∀ t : Fin cfg0.N, (grid0.coords t 0).val = t.val := (by decide +kernel : ∀ t : Fin grid0.N, _)

/-- The first half of the output projection as the kernel is given it. -/
theorem host_v1 : (V m c main_v1 : Vec Ideal S512x1024 .bf16) = extractStridedSlice S512x1024 ![0, 0] (truncf (F := Ideal) .bf16 (a4 m c) bitsLt_bf16_f32) slices_S1024x1024_S512x1024_0_0 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The second half of the output projection as the kernel is given it. -/
theorem host_v2 : (V m c main_v2 : Vec Ideal S512x1024 .bf16) = extractStridedSlice S512x1024 ![512, 0] (truncf (F := Ideal) .bf16 (a4 m c) bitsLt_bf16_f32) slices_S1024x1024_S512x1024_512_0 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The up projection as the kernel is given it. -/
theorem host_v3 : (V m c main_v3 : Vec Ideal S1024x5632 .bf16) = truncf (F := Ideal) .bf16 (a6 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The bias, as a row. -/
theorem host_v4 : (V m c main_v4 : Vec Ideal S1x2816 .f32) = shapeCast S1x2816 (a8 m c) shapeCasts_S2816_S1x2816 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The down projection as the kernel is given it. -/
theorem host_v5 : (V m c main_v5 : Vec Ideal S2816x1024 .bf16) = truncf (F := Ideal) .bf16 (a9 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gains, as a row. -/
theorem host_v6 : (V m c main_v6 : Vec Ideal S1x1024 .f32) = shapeCast S1x1024 (a5 m c) shapeCasts_S1024_S1x1024 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The rows of a block. -/
theorem blk0 (t : Fin cfg0.N) (r k : Fin 1024) : iblk m c 0 t (ix2 r k) = a0 m c (ix2 ⟨t.val * 1024 + r.val, by have h : t.val < 12 := t.isLt; omega⟩ k) := by
  have ht : t.val < 12 := t.isLt
  have h : iblk m c 0 t (ix2 r k) = (V m c main_arg0 : Vec Ideal S12288x1024 .f32) (ix2 ⟨t.val * 1024 + r.val, by have h : t.val < 12 := t.isLt; omega⟩ k) := by
    blk_simp [iblk]
    refine congrArg _ ?_
    blk_ext [idx0 t, coord0 t]
  rw [h, V_main_arg0]

/-- The first mixed half of a block. -/
theorem blk1 (t : Fin cfg0.N) (r : Fin 1024) (k : Fin 512) : iblk m c 1 t (ix2 r k) = a1 m c (ix2 ⟨t.val * 1024 + r.val, by have h : t.val < 12 := t.isLt; omega⟩ k) := by
  have ht : t.val < 12 := t.isLt
  have h : iblk m c 1 t (ix2 r k) = (V m c main_arg1 : Vec Ideal S12288x512 .f32) (ix2 ⟨t.val * 1024 + r.val, by have h : t.val < 12 := t.isLt; omega⟩ k) := by
    blk_simp [iblk]
    refine congrArg _ ?_
    blk_ext [idx1 t, coord0 t]
  rw [h, V_main_arg1]

/-- The second mixed half of a block. -/
theorem blk2 (t : Fin cfg0.N) (r : Fin 1024) (k : Fin 512) : iblk m c 2 t (ix2 r k) = a2 m c (ix2 ⟨t.val * 1024 + r.val, by have h : t.val < 12 := t.isLt; omega⟩ k) := by
  have ht : t.val < 12 := t.isLt
  have h : iblk m c 2 t (ix2 r k) = (V m c main_arg2 : Vec Ideal S12288x512 .f32) (ix2 ⟨t.val * 1024 + r.val, by have h : t.val < 12 := t.isLt; omega⟩ k) := by
    blk_simp [iblk]
    refine congrArg _ ?_
    blk_ext [idx2 t, coord0 t]
  rw [h, V_main_arg2]

/-- The first half of the output projection, in the block. -/
theorem blk3 (t : Fin cfg0.N) (k : Fin 512) (d : Fin 1024) : iblk m c 3 t (ix2 k d) = a4 m c (ix2 ⟨k.val, by omega⟩ d) := by
  have ht : t.val < 12 := t.isLt
  have h : iblk m c 3 t (ix2 k d) = (V m c main_v1 : Vec Ideal S512x1024 .bf16) (ix2 k d) := by
    blk_simp [iblk]
    refine congrArg _ ?_
    blk_ext [idx3 t, coord0 t]
  rw [h, host_v1]
  pointwise []

/-- The second half of the output projection, in the block. -/
theorem blk4 (t : Fin cfg0.N) (k : Fin 512) (d : Fin 1024) : iblk m c 4 t (ix2 k d) = a4 m c (ix2 ⟨512 + k.val, by omega⟩ d) := by
  have ht : t.val < 12 := t.isLt
  have h : iblk m c 4 t (ix2 k d) = (V m c main_v2 : Vec Ideal S512x1024 .bf16) (ix2 k d) := by
    blk_simp [iblk]
    refine congrArg _ ?_
    blk_ext [idx4 t, coord0 t]
  rw [h, host_v2]
  pointwise []

/-- The modulation of a block. -/
theorem blk5 (t : Fin cfg0.N) (a : Fin 6) (k : Fin 1024) : iblk m c 5 t (ix3 0 a k) = a3 m c (ix3 ⟨modT' t.val, by have h : t.val < 12 := t.isLt; unfold modT'; split <;> omega⟩ a k) := by
  have ht : t.val < 12 := t.isLt
  have h : iblk m c 5 t (ix3 0 a k) = (V m c main_arg3 : Vec Ideal S16x6x1024 .f32) (ix3 ⟨modT' t.val, by have h : t.val < 12 := t.isLt; unfold modT'; split <;> omega⟩ a k) := by
    blk_simp [iblk]
    refine congrArg _ ?_
    blk_ext [idx5 t, coord0 t]
  rw [h, V_main_arg3]

/-- The gains, in the block. -/
theorem blk6 (t : Fin cfg0.N) (k : Fin 1024) : iblk m c 6 t (ix2 0 k) = a5 m c (ix1 k) := by
  have ht : t.val < 12 := t.isLt
  have h : iblk m c 6 t (ix2 0 k) = (V m c main_v6 : Vec Ideal S1x1024 .f32) (ix2 0 k) := by
    blk_simp [iblk]
    refine congrArg _ ?_
    blk_ext [idx6 t, coord0 t]
  rw [h, host_v6]
  pointwise []

/-- The up projection, in the block. -/
theorem blk7 (t : Fin cfg0.N) (k : Fin 1024) (j : Fin 5632) : iblk m c 7 t (ix2 k j) = a6 m c (ix2 k j) := by
  have ht : t.val < 12 := t.isLt
  have h : iblk m c 7 t (ix2 k j) = (V m c main_v3 : Vec Ideal S1024x5632 .bf16) (ix2 k j) := by
    blk_simp [iblk]
    refine congrArg _ ?_
    blk_ext [idx7 t, coord0 t]
  rw [h, host_v3]
  pointwise []

/-- The filter, in the block. -/
theorem blk8 (t : Fin cfg0.N) (a : Fin 3) (j : Fin 2816) : iblk m c 8 t (ix2 a j) = a7 m c (ix2 a j) := by
  have ht : t.val < 12 := t.isLt
  have h : iblk m c 8 t (ix2 a j) = (V m c main_arg7 : Vec Ideal S3x2816 .f32) (ix2 a j) := by
    blk_simp [iblk]
    refine congrArg _ ?_
    blk_ext [idx8 t, coord0 t]
  rw [h, V_main_arg7]

/-- The bias, in the block. -/
theorem blk9 (t : Fin cfg0.N) (j : Fin 2816) : iblk m c 9 t (ix2 0 j) = a8 m c (ix1 j) := by
  have ht : t.val < 12 := t.isLt
  have h : iblk m c 9 t (ix2 0 j) = (V m c main_v4 : Vec Ideal S1x2816 .f32) (ix2 0 j) := by
    blk_simp [iblk]
    refine congrArg _ ?_
    blk_ext [idx9 t, coord0 t]
  rw [h, host_v4]
  pointwise []

/-- The down projection, in the block. -/
theorem blk10 (t : Fin cfg0.N) (j : Fin 2816) (k : Fin 1024) : iblk m c 10 t (ix2 j k) = a9 m c (ix2 j k) := by
  have ht : t.val < 12 := t.isLt
  have h : iblk m c 10 t (ix2 j k) = (V m c main_v5 : Vec Ideal S2816x1024 .bf16) (ix2 j k) := by
    blk_simp [iblk]
    refine congrArg _ ?_
    blk_ext [idx10 t, coord0 t]
  rw [h, host_v5]
  pointwise []

/-- The two mixed halves of row `R` side by side. -/
def joinRow (R : Fin 12288) (k : Fin 1024) : EReal :=
  if h : k.val < 512 then a1 m c (ix2 R ⟨k.val, h⟩) else a2 m c (ix2 R ⟨k.val - 512, by omega⟩)

/-- The whole block but its final norm for row `R`, from the arguments. -/
def trunkK (M : Fin 16) (L : ℕ) (R : Fin 12288) : Fin 1024 → EReal :=
  trunkMid (fun R k => a0 m c (ix2 R k)) (joinRow m c) (fun M a k => a3 m c (ix3 M a k)) (fun k d => a4 m c (ix2 k d))
    (fun k => a5 m c (ix1 k)) (fun k j => a6 m c (ix2 k j)) (fun a j => a7 m c (ix2 a j)) (fun j => a8 m c (ix1 j))
    (fun j k => a9 m c (ix2 j k)) M L R

/-- A block's row with its mixed halves added, from the arguments. -/
theorem mixed_blk (t : Fin cfg0.N) (r : Fin 1024) :
    mixedE (iblk m c 0 t) (iblk m c 1 t) (iblk m c 2 t) (iblk m c 3 t) (iblk m c 4 t) (iblk m c 5 t) r
      = mixedRow (fun k => a0 m c (ix2 ⟨t.val * 1024 + r.val, by have h : t.val < 12 := t.isLt; omega⟩ k)) (joinRow m c ⟨t.val * 1024 + r.val, by have h : t.val < 12 := t.isLt; omega⟩) (fun k => a3 m c (ix3 ⟨modT' t.val, by have h : t.val < 12 := t.isLt; unfold modT'; split <;> omega⟩ 2 k))
          (fun k d => a4 m c (ix2 k d)) := by
  funext d
  unfold mixedE mixedRow
  simp only [blk0, blk1, blk2, blk3, blk4, blk5]
  exact congrArg (fun z => _ + _ * z) (sum_halves (fun k => a1 m c (ix2 ⟨t.val * 1024 + r.val, by have h : t.val < 12 := t.isLt; omega⟩ k)) (fun k => a2 m c (ix2 ⟨t.val * 1024 + r.val, by have h : t.val < 12 := t.isLt; omega⟩ k))
    (fun k => a4 m c (ix2 k d))).symm

/-- A block's row, normalised and modulated, from the arguments. -/
theorem mod_blk (t : Fin cfg0.N) :
    modE (iblk m c 0 t) (iblk m c 1 t) (iblk m c 2 t) (iblk m c 3 t) (iblk m c 4 t) (iblk m c 5 t) (iblk m c 6 t)
      = fun r => modRow (fun k => a0 m c (ix2 ⟨t.val * 1024 + r.val, by have h : t.val < 12 := t.isLt; omega⟩ k)) (joinRow m c ⟨t.val * 1024 + r.val, by have h : t.val < 12 := t.isLt; omega⟩) (fun a k => a3 m c (ix3 ⟨modT' t.val, by have h : t.val < 12 := t.isLt; unfold modT'; split <;> omega⟩ a k))
          (fun k d => a4 m c (ix2 k d)) (fun k => a5 m c (ix1 k)) := by
  funext r d
  unfold modE
  rw [mixed_blk]
  simp only [blk5, blk6]
  rfl

/-- The row that a grid point leaves. -/
theorem after11 (t : Fin cfg0.N) (r d : Fin 1024) :
    Even.blockRows (F := Ideal) (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (ix2 r d)
      = trunkK m c ⟨modT' t.val, by have h : t.val < 12 := t.isLt; unfold modT'; split <;> omega⟩ (if t.val < 4 then 256 else 1024) ⟨t.val * 1024 + r.val, by have h : t.val < 12 := t.isLt; omega⟩ d := by
  have ht : t.val < 12 := t.isLt
  have hL : seqLen (grid0.coords t 0) = if t.val < 4 then 256 else 1024 := by unfold seqLen; rw [coord0 t]
  rw [block_at]
  rw [hL]
  simp only [mod_blk, mixed_blk, blk5, blk7, blk8, blk9, blk10]
  exact congrArg (fun hid => midRow _ _ hid _ d) (hidden_tile t.val ht (fun R => modRow (fun k => a0 m c (ix2 R k))
    (joinRow m c R) _ (fun k d => a4 m c (ix2 k d)) (fun k => a5 m c (ix1 k))) _ _ _ r)

/-- The same at any index of the block, in terms of the row of the whole array. -/
theorem after11' (t : Fin cfg0.N) (y : S1024x1024.Idx) (R : Fin 12288) (hR : R.val = t.val * 1024 + (y 0).val) :
    outsAt0 m c t y = trunkK m c (modOf R) (lenOf R) R (y 1) := by
  have ht : t.val < 12 := t.isLt
  have hy : (y 0).val < 1024 := (y 0).isLt
  have e : y = ix2 (y 0) (y 1) := by funext a; match a with | ⟨0, _⟩ => rfl | ⟨1, _⟩ => rfl
  have e1 : (⟨t.val * 1024 + (y 0).val, by omega⟩ : Fin 12288) = R := Fin.ext hR.symm
  have e2 : (⟨modT' t.val, by unfold modT'; split <;> omega⟩ : Fin 16) = modOf R := by
    unfold modOf modT'
    split <;> split <;> refine Fin.ext ?_ <;> simp only [Fin.val_zero] <;> omega
  have e3 : (if t.val < 4 then 256 else 1024) = lenOf R := by
    unfold lenOf
    split <;> split <;> omega
  unfold outsAt0
  rw [Even.out_eq]
  refine (congrArg _ e).trans ((after11 m c t (y 0) (y 1)).trans ?_)
  rw [e1, e2, e3]

/-- Entry `d` of row `R` of the result. -/
def entryK (R d : ℕ) : EReal :=
  if h : R < 12288 ∧ d < 1024 then trunkK m c (modOf ⟨R, h.1⟩) (lenOf ⟨R, h.1⟩) ⟨R, h.1⟩ ⟨d, h.2⟩ else 0

/-- The same for the rows of a block. -/
theorem after11N (t : Fin cfg0.N) (y : S1024x1024.Idx) :
    outsAt0 m c t y = entryK m c (t.val * 1024 + (y 0).val) (y 1).val := by
  have ht : t.val < 12 := t.isLt
  have hy : (y 0).val < 1024 := (y 0).isLt
  have hy1 : (y 1).val < 1024 := (y 1).isLt
  rw [entryK, dif_pos ⟨by omega, hy1⟩]
  exact after11' m c t y _ rfl

/-- The result array after the run. -/
theorem arr11 : ((dats m 0 c).arrAt 11 cfg0.N : Vec Ideal S12288x1024 .f32) = fun i => entryK m c (i 0).val (i 1).val := by
  refine (dats m 0 c).arrAt_eq_of_covers 11 _ (by decide +kernel) fun t hf y => ?_
  blk_simp [idx11 t, coord0 t]
  rw [after0_11]
  exact after11N m c t y

end Cert.Ffn.EvenVal
-- ==== Proof.FfnMidRef.lean ====
/- The feed-forward references of the layers that have no final norm, read at an index: they are the last layer's reference
up to that norm, the even layers' with their two mixed halves side by side. -/
module

public import proofs.«01_k».proof.Proof.Gen.Reference3Ideal.Read
public import proofs.«01_k».proof.Proof.Gen.Reference4Ideal.Read
public import proofs.«01_k».proof.Proof.FfnRef

@[expose] public section

set_option maxRecDepth 16384

noncomputable section

namespace Cert.Ffn.MidRef

open Idealize.ShloMosaic Cert.Ffn Cert.Ffn.Ref
open Cert.Reference2Ideal (S12288x1024 S16x6x1024 S1024x1024 S1024 S1024x5632 S3x2816 S2816 S2816x1024)
open Cert.Reference3Ideal (S12288x512)

variable (x0 x1 : Vec Ideal S12288x1024 .f32) (o y : Vec Ideal S12288x512 .f32) (x2 : Vec Ideal S16x6x1024 .f32)
  (x3 : Vec Ideal S1024x1024 .f32) (x4 : Vec Ideal S1024 .f32) (x5 : Vec Ideal S1024x5632 .f32) (x6 : Vec Ideal S3x2816 .f32)
  (x7 : Vec Ideal S2816 .f32) (x8 : Vec Ideal S2816x1024 .f32)

/-- The context rows are the last layer's before its final norm. -/
theorem ctx4 (b : Fin 16) (l : Fin 256) (d : Fin 1024) :
    Cert.Reference4Ideal.Read.val_main_v72 (F := Ideal) x0 x1 x2 x3 x4 x5 x6 x7 x8 (ix3 b l d)
      = midG x0 x1 x2 x3 x4 x5 x6 x7 x8 0 256 ⟨b.val * 256 + l.val, by omega⟩ d :=
  (congrFun (show Cert.Reference4Ideal.Read.val_main_v72 (F := Ideal) x0 x1 x2 x3 x4 x5 x6 x7 x8
    = Cert.Reference2Ideal.Read.val_main_v72 (F := Ideal) x0 x1 x2 x3 x4 x5 x6 x7 x8 from rfl) _).trans
    (rows72 x0 x1 x2 x3 x4 x5 x6 x7 x8 b l d)

/-- The sample rows are the last layer's before its final norm. -/
theorem lat4 (b : Fin 8) (l : Fin 1024) (d : Fin 1024) :
    Cert.Reference4Ideal.Read.val_main_v145 (F := Ideal) x0 x1 x2 x3 x4 x5 x6 x7 x8 (ix3 b l d)
      = midG x0 x1 x2 x3 x4 x5 x6 x7 x8 (⟨1 + b.val, by omega⟩) 1024 ⟨4096 + (b.val * 1024 + l.val), by omega⟩ d :=
  (congrFun (show Cert.Reference4Ideal.Read.val_main_v145 (F := Ideal) x0 x1 x2 x3 x4 x5 x6 x7 x8
    = Cert.Reference2Ideal.Read.val_main_v158 (F := Ideal) x0 x1 x2 x3 x4 x5 x6 x7 x8 from rfl) _).trans
    (rows158 x0 x1 x2 x3 x4 x5 x6 x7 x8 b l d)

/-- The result at row `R`. -/
theorem result4 (R : Fin 12288) (d : Fin 1024) :
    Cert.Reference4Ideal.Read.val_main_v148 (F := Ideal) x0 x1 x2 x3 x4 x5 x6 x7 x8 (ix2 R d)
      = midG x0 x1 x2 x3 x4 x5 x6 x7 x8 (modOf R) (lenOf R) R d := by
  pointwise [Cert.Reference4Ideal.Read.val_main_v148, Cert.Reference4Ideal.Read.val_main_v147, Cert.Reference4Ideal.Read.val_main_v146]
  by_cases hR : R.val < 4096
  · rw [dif_pos hR, ctx4, show modOf R = 0 from dif_pos hR, show lenOf R = 256 from if_pos hR]
    rw [show (⟨R.val / 256 * 256 + R.val % 256, by omega⟩ : Fin 12288) = R from
      Fin.ext (by show R.val / 256 * 256 + R.val % 256 = R.val; omega)]
  · rw [dif_neg hR, lat4, show modOf R = ⟨1 + (R.val - 4096) / 1024, by omega⟩ from dif_neg hR,
      show lenOf R = 1024 from if_neg hR]
    rw [show (⟨4096 + ((R.val - 4096) / 1024 * 1024 + (R.val - 4096) % 1024), by omega⟩ : Fin 12288) = R from
      Fin.ext (by show 4096 + ((R.val - 4096) / 1024 * 1024 + (R.val - 4096) % 1024) = R.val; omega)]

/-- With the two mixed halves side by side, the even layers' reference is the other's. -/
theorem even_eq : Cert.Reference3Ideal.Read.val_main_v149 (F := Ideal) x0 o y x2 x3 x4 x5 x6 x7 x8
    = Cert.Reference4Ideal.Read.val_main_v148 (F := Ideal) x0 (Cert.Reference3Ideal.Read.val_main_v0 (F := Ideal) o y)
        x2 x3 x4 x5 x6 x7 x8 := rfl

/-- The two mixed halves side by side. -/
theorem joined (R : Fin 12288) (k : Fin 1024) :
    Cert.Reference3Ideal.Read.val_main_v0 (F := Ideal) o y (ix2 R k)
      = if h : k.val < 512 then o (ix2 R ⟨k.val, h⟩) else y (ix2 R ⟨k.val - 512, by omega⟩) := by
  pointwise [Cert.Reference3Ideal.Read.val_main_v0]

/-- The even layers' result at row `R`. -/
theorem result3 (R : Fin 12288) (d : Fin 1024) :
    Cert.Reference3Ideal.Read.val_main_v149 (F := Ideal) x0 o y x2 x3 x4 x5 x6 x7 x8 (ix2 R d)
      = midG x0 (Cert.Reference3Ideal.Read.val_main_v0 (F := Ideal) o y) x2 x3 x4 x5 x6 x7 x8 (modOf R) (lenOf R) R d := by
  exact (congrFun (even_eq x0 o y x2 x3 x4 x5 x6 x7 x8) _).trans (result4 _ _ _ _ _ _ _ _ _ R d)

end Cert.Ffn.MidRef
-- ==== Proof.FfnEvenClaims.lean ====
/- The claim about the value of the even layers' feed-forward call. -/
module

public import proofs.«01_k».proof.Defs
public import proofs.«01_k».proof.Proof.FfnEvenValue
public import proofs.«01_k».proof.Proof.FfnMidRef
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Ffn.EvenClaims

open Idealize.ShloMosaic.TcCoe Idealize.SL.Sem Idealize.ShloMosaic Cert.Ffn Cert.Ffn.EvenVal

section
open Cert.Kernel3Ideal

variable (m : (ℓ : Loc nD τ sig) → Buf (Elt Ideal) ℓ) (c : Dev nD)

/-- The reference's result is what the kernel's run leaves in its result. -/
theorem same : (Cert.Reference3Ideal.Read.val_main_v149 (F := Ideal) (a0 m c) (a1 m c) (a2 m c) (a3 m c) (a4 m c) (a5 m c) (a6 m c) (a7 m c)
      (a8 m c) (a9 m c) : Vec Ideal S12288x1024 .f32)
    = (Cert.Kernel3Ideal.Gen.dats m 0 c).arrAt 11 Cert.Kernel3Ideal.cfg0.N := by
  refine Eq.trans ?_ (arr11 m c).symm
  funext i
  have h0 : (i 0).val < 12288 := (i 0).isLt
  have h1 : (i 1).val < 1024 := (i 1).isLt
  show _ = entryK m c (i 0).val (i 1).val
  rw [entryK, dif_pos ⟨h0, h1⟩]
  refine (congrArg _ (eq_ix2 i)).trans ?_
  refine (Cert.Ffn.MidRef.result3 _ _ _ _ _ _ _ _ _ _ (i 0) (i 1)).trans ?_
  exact congrArg (fun Mx => trunkMid _ Mx _ _ _ _ _ _ _ _ _ (i 0) (i 1)) (funext fun R => funext fun k =>
    Cert.Ffn.MidRef.joined (a1 m c) (a2 m c) R k)

end

section
open Cert.Reference3Ideal

/-- The reference's run, its result as a function of its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v149) = Read.val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9) :=
  (θ_run _ _ _).mono (fun r h c => ⟨(h c).1.trans (Read.val_main_v149_eq _ _), (h c).2⟩)
    (Value.run (F := Ideal) m ρ)

end

/-- Every entry of that call's result agrees, whatever the inputs. -/
theorem value : Cert.algebraic_Kernel3Ideal_Reference3Ideal := by
  intro m g m' g' hpre hagree
  refine ⟨fun c => (Cert.Kernel3Ideal.Gen.dats m 0 c).arrAt 11 Cert.Kernel3Ideal.cfg0.N, ?_, ?_⟩
  · exact Cert.Kernel3Ideal.Value.run_blocks (F := Ideal) m g
  · refine (θ_run _ _ _).mono (fun r h c => ?_) (run_ref m' g')
    obtain ⟨e, k⟩ := h c
    obtain ⟨g0, g1, g2, g3, g4, g5, g6, g7, g8, g9⟩ := hagree c
    rw [g0, g1, g2, g3, g4, g5, g6, g7, g8, g9] at e
    exact ⟨e.trans (same m c), k⟩

end Cert.Ffn.EvenClaims
-- ==== Proof.FfnMidBlock.lean ====
/- What one grid point of the feed-forward call without the final norm stores: the mixed rows added, the norm,
eleven slices of the hidden width added up one after the other. -/
module

public import proofs.«01_k».proof.Proof.Gen.Kernel4Ideal.Value
public import proofs.«01_k».proof.Proof.FfnBlock

@[expose] public section

set_option maxRecDepth 16384

noncomputable section

namespace Cert.Ffn.Mid

open Cert.Kernel4Ideal Cert.Kernel4Ideal.Gen Idealize.ShloMosaic Cert.Ffn.Blk

variable {F : FTy → Type} [FloatOps F]

/-- Up projections of a slice: all the same product. -/
theorem ups :
    @k0_pay10 F _ = Cert.Kernel2Ideal.Gen.k0_pay17 ∧ @k0_pay11 F _ = Cert.Kernel2Ideal.Gen.k0_pay17 ∧ @k0_pay12 F _
    = Cert.Kernel2Ideal.Gen.k0_pay17 ∧ @k0_pay13 F _ = Cert.Kernel2Ideal.Gen.k0_pay17 ∧ @k0_pay17 F _ =
    Cert.Kernel2Ideal.Gen.k0_pay17 ∧ @k0_pay18 F _ = Cert.Kernel2Ideal.Gen.k0_pay17 ∧ @k0_pay21 F _ =
    Cert.Kernel2Ideal.Gen.k0_pay17 ∧ @k0_pay22 F _ = Cert.Kernel2Ideal.Gen.k0_pay17 ∧ @k0_pay25 F _ =
    Cert.Kernel2Ideal.Gen.k0_pay17 ∧ @k0_pay26 F _ = Cert.Kernel2Ideal.Gen.k0_pay17 ∧ @k0_pay30 F _ =
    Cert.Kernel2Ideal.Gen.k0_pay17 ∧ @k0_pay31 F _ = Cert.Kernel2Ideal.Gen.k0_pay17 ∧ @k0_pay35 F _ =
    Cert.Kernel2Ideal.Gen.k0_pay17 ∧ @k0_pay36 F _ = Cert.Kernel2Ideal.Gen.k0_pay17 ∧ @k0_pay40 F _ =
    Cert.Kernel2Ideal.Gen.k0_pay17 ∧ @k0_pay41 F _ = Cert.Kernel2Ideal.Gen.k0_pay17 ∧ @k0_pay46 F _ =
    Cert.Kernel2Ideal.Gen.k0_pay17 ∧ @k0_pay47 F _ = Cert.Kernel2Ideal.Gen.k0_pay17 ∧ @k0_pay50 F _ =
    Cert.Kernel2Ideal.Gen.k0_pay17 ∧ @k0_pay51 F _ = Cert.Kernel2Ideal.Gen.k0_pay17 ∧ @k0_pay56 F _ =
    Cert.Kernel2Ideal.Gen.k0_pay17 ∧ @k0_pay57 F _ = Cert.Kernel2Ideal.Gen.k0_pay17 :=
  ⟨rfl, rfl, rfl, rfl, rfl, rfl, rfl, rfl, rfl, rfl, rfl, rfl, rfl, rfl, rfl, rfl, rfl, rfl, rfl, rfl, rfl, rfl⟩

/-- The first slice's rows moved by one. -/
theorem turned14 (H : FVec F S1024x1024 .bf16) (w : Vec F S1024x256 .bf16) :
    k0_pay14 H w = dynamicRotate 0 1#32 none (Cert.Kernel2Ideal.Gen.k0_pay17 H w) rotates_S1024x256_d0 := rfl

/-- The first slice's mask of first rows. -/
theorem mask15 (a : BitVec 32) : k0_pay15 a = shapeCast S1024x1 (k0_pay8 a) shapeCasts_S1024x1_S1024x1 := rfl

section slices
variable (f l : IVec S1024x1 1) (A B : FVec F S1024x256 .f32) (w : Vec F S3x256 .f32) (b : Vec F S1x256 .f32)
  (acc : Vec F S1024x1024 .f32) (wd : Vec F S256x1024 .bf16)

/-- Slice 0 of the hidden width adds its part as every slice does. -/
theorem slice0 : k0_pay16 l A B w (dynamicRotate 0 1#32 none A rotates_S1024x256_d0) (FloatOps.ofBits FTy.f32 0#32) (shapeCast S1024x1 f shapeCasts_S1024x1_S1024x1) b acc wd =
    Cert.Kernel2Ideal.Gen.k0_pay20 (Cert.Kernel2Ideal.Gen.k0_pay19 f l A B w b) acc wd := rfl

/-- Slice 1 of the hidden width adds its part as every slice does. -/
theorem slice1 : k0_pay20 (k0_pay19 f l A B w b) acc wd =
    Cert.Kernel2Ideal.Gen.k0_pay20 (Cert.Kernel2Ideal.Gen.k0_pay19 f l A B w b) acc wd := rfl

/-- Slice 2 of the hidden width adds its part as every slice does. -/
theorem slice2 : k0_pay24 B (k0_pay23 f l A w) b acc wd =
    Cert.Kernel2Ideal.Gen.k0_pay20 (Cert.Kernel2Ideal.Gen.k0_pay19 f l A B w b) acc wd := rfl

/-- Slice 3 of the hidden width adds its part as every slice does. -/
theorem slice3 : k0_pay29 l A B w (k0_pay27 f A) (k0_pay28 A) (FloatOps.ofBits FTy.f32 0#32) b acc wd =
    Cert.Kernel2Ideal.Gen.k0_pay20 (Cert.Kernel2Ideal.Gen.k0_pay19 f l A B w b) acc wd := rfl

/-- Slice 4 of the hidden width adds its part as every slice does. -/
theorem slice4 : k0_pay34 (k0_pay32 f l A B w b) acc (k0_pay33 wd) (constant S1024x1024 FTy.f32 0#32) =
    Cert.Kernel2Ideal.Gen.k0_pay20 (Cert.Kernel2Ideal.Gen.k0_pay19 f l A B w b) acc wd := rfl

/-- Slice 5 of the hidden width adds its part as every slice does. -/
theorem slice5 : k0_pay39 B (k0_pay37 f l A w b) (k0_pay38 f l A w b) acc wd =
    Cert.Kernel2Ideal.Gen.k0_pay20 (Cert.Kernel2Ideal.Gen.k0_pay19 f l A B w b) acc wd := rfl

/-- Slice 6 of the hidden width adds its part as every slice does. -/
theorem slice6 : k0_pay45 A B w (k0_pay42 f A) (k0_pay43 l A) (k0_pay44 w) b acc wd =
    Cert.Kernel2Ideal.Gen.k0_pay20 (Cert.Kernel2Ideal.Gen.k0_pay19 f l A B w b) acc wd := rfl

/-- Slice 7 of the hidden width adds its part as every slice does. -/
theorem slice7 : k0_pay49 (k0_pay48 f l A B w b acc wd) =
    Cert.Kernel2Ideal.Gen.k0_pay20 (Cert.Kernel2Ideal.Gen.k0_pay19 f l A B w b) acc wd := rfl

/-- Slice 8 of the hidden width adds its part as every slice does. -/
theorem slice8 : k0_pay55 B (k0_pay52 f l A w b) (k0_pay53 f l A w b) k0_pay54 acc wd =
    Cert.Kernel2Ideal.Gen.k0_pay20 (Cert.Kernel2Ideal.Gen.k0_pay19 f l A B w b) acc wd := rfl

/-- Slice 9 of the hidden width adds its part as every slice does. -/
theorem slice9 : k0_pay61 B (k0_pay58 l A) (k0_pay59 f A w) (k0_pay60 w) b acc wd =
    Cert.Kernel2Ideal.Gen.k0_pay20 (Cert.Kernel2Ideal.Gen.k0_pay19 f l A B w b) acc wd := rfl

/-- Slice 10 of the hidden width adds its part as every slice does. -/
theorem slice10 : k0_pay65 A B w (k0_pay62 l A) (k0_pay63 f A w) (k0_pay64 w) b acc wd =
    Cert.Kernel2Ideal.Gen.k0_pay20 (Cert.Kernel2Ideal.Gen.k0_pay19 f l A B w b) acc wd := rfl

end slices

/-- The rows a grid point leaves, from the blocks it reads. -/
def blockRows (i : grid0.Coords) (x0 : Vec F S1024x1024 .f32) (x1 : Vec F S1024x1024 .f32) (x2 : Vec F S1024x1024 .bf16) (x3 : Vec F S1x6x1024 .f32) (x4 : Vec F S1x1024 .f32) (x5 : Vec F S1024x5632 .bf16) (x6 : Vec F S3x2816 .f32) (x7 : Vec F S1x2816 .f32) (x8 : Vec F S2816x1024 .bf16) : FVec F S1024x1024 .f32 :=
  k0_pay1 (k0_pay2 x3) (k0_pay66 (k0_pay3 x3 x1 x2 x0))
    (allSlices (k0_pay8 (BitVec.ofNat 32 (i 0).val)) (k0_pay9 (BitVec.ofNat 32 (i 0).val)) (k0_pay5 (k0_pay4 x3 x1 x2 x0 x4)) x5 x6 x7 x8)

set_option maxHeartbeats 1000000 in
/-- The run of a grid point leaves those rows. -/
theorem out_eq (c i) (arg1 : Memref sig .tc .vmem S1024x1024 .f32) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S3x2816 .f32) (harg7 : arg7.IsWhole) (arg8 : Memref sig .tc .vmem S1x2816 .f32) (harg8 : arg8.IsWhole) (arg9 : Memref sig .tc .vmem S2816x1024 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole)
    (x0 : Vec F S1024x1024 .f32) (x1 : Vec F S1024x1024 .f32) (x2 : Vec F S1024x1024 .bf16) (x3 : Vec F S1x6x1024 .f32) (x4 : Vec F S1x1024 .f32) (x5 : Vec F S1024x5632 .bf16) (x6 : Vec F S3x2816 .f32) (x7 : Vec F S1x2816 .f32) (x8 : Vec F S2816x1024 .bf16) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = blockRows i x0 x1 x2 x3 x4 x5 x6 x7 x8 := by
  unfold out0_A_9 kernelRun0_A
  dsimp only
  simp only [
    kernelRun0_A.sl.H9_1, kernelRun0_A.sl.r, kernelRun0_A.sl.r_53, kernelRun0_A.sl.v616, kernelRun0_A.sl.HS1_12,
    kernelRun0_A.sl.v613, kernelRun0_A.sl.HS1_11, kernelRun0_A.sl.r_44, kernelRun0_A.sl.r_45, kernelRun0_A.sl.r_49,
    kernelRun0_A.sl.r_50, kernelRun0_A.sl.r_51, kernelRun0_A.sl.r_52, kernelRun0_A.sl.v605, kernelRun0_A.sl.HS1_10,
    kernelRun0_A.sl.r_2, kernelRun0_A.sl.r_3, kernelRun0_A.sl.r_41, kernelRun0_A.sl.r_46, kernelRun0_A.sl.r_47,
    kernelRun0_A.sl.r_48, kernelRun0_A.sl.v52, kernelRun0_A.sl.v561, kernelRun0_A.sl.HS0_1, kernelRun0_A.sl.HS1_9,
    kernelRun0_A.sl.r_38, kernelRun0_A.sl.r_40, kernelRun0_A.sl.r_42, kernelRun0_A.sl.r_43, kernelRun0_A.sl.v510,
    kernelRun0_A.sl.HS1_8, kernelRun0_A.sl.r_1, kernelRun0_A.sl.r_37, kernelRun0_A.sl.r_39, kernelRun0_A.sl.HS1_7,
    kernelRun0_A.sl.r_27, kernelRun0_A.sl.r_28, kernelRun0_A.sl.r_31, kernelRun0_A.sl.r_32, kernelRun0_A.sl.r_33,
    kernelRun0_A.sl.r_34, kernelRun0_A.sl.r_35, kernelRun0_A.sl.r_36, kernelRun0_A.sl.v408, kernelRun0_A.sl.v459,
    kernelRun0_A.sl.HS1_6, kernelRun0_A.sl.r_24, kernelRun0_A.sl.r_29, kernelRun0_A.sl.r_30, kernelRun0_A.sl.v357,
    kernelRun0_A.sl.HS1_5, kernelRun0_A.sl.cst_144, kernelRun0_A.sl.r_23, kernelRun0_A.sl.r_25,
    kernelRun0_A.sl.r_26, kernelRun0_A.sl.v306, kernelRun0_A.sl.HS1_4, kernelRun0_A.sl.cst_36, kernelRun0_A.sl.r_14,
    kernelRun0_A.sl.r_15, kernelRun0_A.sl.r_18, kernelRun0_A.sl.r_19, kernelRun0_A.sl.r_20, kernelRun0_A.sl.r_21,
    kernelRun0_A.sl.r_22, kernelRun0_A.sl.v255, kernelRun0_A.sl.HS1_3, kernelRun0_A.sl.r_12, kernelRun0_A.sl.r_16,
    kernelRun0_A.sl.r_17, kernelRun0_A.sl.v204, kernelRun0_A.sl.HS1_2, kernelRun0_A.sl.r_11, kernelRun0_A.sl.r_13,
    kernelRun0_A.sl.v153, kernelRun0_A.sl.HS1_1, kernelRun0_A.sl.r_10, kernelRun0_A.sl.r_4, kernelRun0_A.sl.r_5,
    kernelRun0_A.sl.r_6, kernelRun0_A.sl.r_7, kernelRun0_A.sl.r_8, kernelRun0_A.sl.r_9, kernelRun0_A.sl.v102,
    readBack, readAll, loadAt, wholeMatrix, wholeRow, wholeMod, ups, turned14, mask15,
    slice0, slice1, slice2, slice3, slice4, slice5, slice6, slice7, slice8, slice9, slice10]
  rfl

end Cert.Ffn.Mid
-- ==== Proof.FfnMidValue.lean ====
/- The result of the feed-forward call without the final norm after the run, row by row. -/
module

public import proofs.«01_k».proof.Proof.FfnMidBlock
public import proofs.«01_k».proof.Proof.FfnTile
public import Idealize.ShloMosaic.Lib.Pipeline.ValueKit.Partial

@[expose] public section

set_option maxRecDepth 16384

noncomputable section

namespace Cert.Ffn.MidVal

open Idealize.ShloMosaic.TcCoe Idealize.SL.Sem Cert.Kernel4Ideal Cert.Kernel4Ideal.Gen Idealize.ShloMosaic Cert.Ffn
  Cert.Ffn.Tile

variable (m : (ℓ : Loc nD τ sig) → Buf (Elt Ideal) ℓ) (c : Dev nD)

/-- The nine arguments. -/
abbrev a0 : Vec Ideal S12288x1024 .f32 := m ((c : Thread nD τ).loc main_arg0)
abbrev a1 : Vec Ideal S12288x1024 .f32 := m ((c : Thread nD τ).loc main_arg1)
abbrev a2 : Vec Ideal S16x6x1024 .f32 := m ((c : Thread nD τ).loc main_arg2)
abbrev a3 : Vec Ideal S1024x1024 .f32 := m ((c : Thread nD τ).loc main_arg3)
abbrev a4 : Vec Ideal S1024 .f32 := m ((c : Thread nD τ).loc main_arg4)
abbrev a5 : Vec Ideal S1024x5632 .f32 := m ((c : Thread nD τ).loc main_arg5)
abbrev a6 : Vec Ideal S3x2816 .f32 := m ((c : Thread nD τ).loc main_arg6)
abbrev a7 : Vec Ideal S2816 .f32 := m ((c : Thread nD τ).loc main_arg7)
abbrev a8 : Vec Ideal S2816x1024 .f32 := m ((c : Thread nD τ).loc main_arg8)

section tile
variable (i : grid0.Coords) (x0 x1 : Vec Ideal S1024x1024 .f32) (x2 : Vec Ideal S1024x1024 .bf16) (x3 : Vec Ideal S1x6x1024 .f32)
  (x4 : Vec Ideal S1x1024 .f32) (x5 : Vec Ideal S1024x5632 .bf16) (x6 : Vec Ideal S3x2816 .f32) (x7 : Vec Ideal S1x2816 .f32)
  (x8 : Vec Ideal S2816x1024 .bf16)

/-- The stored rows with the mixed rows added: the last layer's. -/
theorem mixed_at (r d : Fin 1024) : k0_pay66 (F := Ideal) (k0_pay3 (F := Ideal) x3 x1 x2 x0) (ix2 r d) = mixedT x0 x1 x2 x3 r d := by
  pointwise [k0_pay66]
  exact Cert.Ffn.Tile.mixed_at x0 x1 x2 x3 r d

/-- The stored normalised and modulated rows: the last layer's. -/
theorem mod_at (r d : Fin 1024) :
    k0_pay5 (F := Ideal) (k0_pay4 (F := Ideal) x3 x1 x2 x0 x4) (ix2 r d) = modT x0 x1 x2 x3 x4 r d :=
  Cert.Ffn.Tile.mod_at x0 x1 x2 x3 x4 r d

/-- The rows a grid point leaves. -/
theorem block_at (r d : Fin 1024) :
    Mid.blockRows (F := Ideal) i x0 x1 x2 x3 x4 x5 x6 x7 x8 (ix2 r d)
      = midRow (mixedT x0 x1 x2 x3 r) (fun k => x3 (ix3 0 5 k)) (hiddenOf (seqLen (i 0)) (modT x0 x1 x2 x3 x4)
          (fun k j => x5 (ix2 k j)) (fun a j => x6 (ix2 a j)) (fun j => x7 (ix2 0 j)) r) (fun j k => x8 (ix2 j k)) d := by
  have key : ∀ acc : FVec Ideal S1024x1024 .f32, ∀ y : FVec Ideal S1024x1024 .f32,
      k0_pay1 (F := Ideal) (k0_pay2 x3) y acc (ix2 r d) = y (ix2 r d) + x3 (ix3 0 5 d) * acc (ix2 r d) := by
    intro acc y
    pointwise [k0_pay1, k0_pay2]
  unfold Mid.blockRows midRow
  rw [key, mixed_at]
  exact congrArg (fun z => mixedT x0 x1 x2 x3 r d + x3 (ix3 0 5 d) * z)
    (all_at (i 0) _ _ (mod_at x0 x1 x2 x3 x4) x5 x6 x7 x8 r d)

end tile

/-- The row of the modulation that grid point `t` reads. -/
def modT' (t : Nat) : Nat := if t < 4 then 0 else 1 + (t - 4)

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![modT' (grid0.coords t 0).val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![(grid0.coords t 0).val, 0] := (by decide +kernel : ∀ t : Fin grid0.N, _)
theorem coord0 : ∀ t : Fin cfg0.N, (grid0.coords t 0).val = t.val := (by decide +kernel : ∀ t : Fin grid0.N, _)

/-- The output projection as the kernel is given it. -/
theorem host_v0 : (V m c main_v0 : Vec Ideal S1024x1024 .bf16) = truncf (F := Ideal) .bf16 (a3 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The up projection as the kernel is given it. -/
theorem host_v1 : (V m c main_v1 : Vec Ideal S1024x5632 .bf16) = truncf (F := Ideal) .bf16 (a5 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The bias, as a row. -/
theorem host_v2 : (V m c main_v2 : Vec Ideal S1x2816 .f32) = shapeCast S1x2816 (a7 m c) shapeCasts_S2816_S1x2816 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The down projection as the kernel is given it. -/
theorem host_v3 : (V m c main_v3 : Vec Ideal S2816x1024 .bf16) = truncf (F := Ideal) .bf16 (a8 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gains, as a row. -/
theorem host_v4 : (V m c main_v4 : Vec Ideal S1x1024 .f32) = shapeCast S1x1024 (a4 m c) shapeCasts_S1024_S1x1024 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The rows of a block. -/
theorem blk0 (t : Fin cfg0.N) (r k : Fin 1024) : iblk m c 0 t (ix2 r k) = a0 m c (ix2 ⟨t.val * 1024 + r.val, by have h : t.val < 12 := t.isLt; omega⟩ k) := by
  have ht : t.val < 12 := t.isLt
  have h : iblk m c 0 t (ix2 r k) = (V m c main_arg0 : Vec Ideal S12288x1024 .f32) (ix2 ⟨t.val * 1024 + r.val, by have h : t.val < 12 := t.isLt; omega⟩ k) := by
    blk_simp [iblk]
    refine congrArg _ ?_
    blk_ext [idx0 t, coord0 t]
  rw [h, V_main_arg0]

/-- The mixed rows of a block. -/
theorem blk1 (t : Fin cfg0.N) (r k : Fin 1024) : iblk m c 1 t (ix2 r k) = a1 m c (ix2 ⟨t.val * 1024 + r.val, by have h : t.val < 12 := t.isLt; omega⟩ k) := by
  have ht : t.val < 12 := t.isLt
  have h : iblk m c 1 t (ix2 r k) = (V m c main_arg1 : Vec Ideal S12288x1024 .f32) (ix2 ⟨t.val * 1024 + r.val, by have h : t.val < 12 := t.isLt; omega⟩ k) := by
    blk_simp [iblk]
    refine congrArg _ ?_
    blk_ext [idx1 t, coord0 t]
  rw [h, V_main_arg1]

/-- The output projection, in the block. -/
theorem blk2 (t : Fin cfg0.N) (k d : Fin 1024) : iblk m c 2 t (ix2 k d) = a3 m c (ix2 k d) := by
  have ht : t.val < 12 := t.isLt
  have h : iblk m c 2 t (ix2 k d) = (V m c main_v0 : Vec Ideal S1024x1024 .bf16) (ix2 k d) := by
    blk_simp [iblk]
    refine congrArg _ ?_
    blk_ext [idx2 t, coord0 t]
  rw [h, host_v0]
  pointwise []

/-- The modulation of a block. -/
theorem blk3 (t : Fin cfg0.N) (a : Fin 6) (k : Fin 1024) : iblk m c 3 t (ix3 0 a k) = a2 m c (ix3 ⟨modT' t.val, by have h : t.val < 12 := t.isLt; unfold modT'; split <;> omega⟩ a k) := by
  have ht : t.val < 12 := t.isLt
  have h : iblk m c 3 t (ix3 0 a k) = (V m c main_arg2 : Vec Ideal S16x6x1024 .f32) (ix3 ⟨modT' t.val, by have h : t.val < 12 := t.isLt; unfold modT'; split <;> omega⟩ a k) := by
    blk_simp [iblk]
    refine congrArg _ ?_
    blk_ext [idx3 t, coord0 t]
  rw [h, V_main_arg2]

/-- The gains, in the block. -/
theorem blk4 (t : Fin cfg0.N) (k : Fin 1024) : iblk m c 4 t (ix2 0 k) = a4 m c (ix1 k) := by
  have ht : t.val < 12 := t.isLt
  have h : iblk m c 4 t (ix2 0 k) = (V m c main_v4 : Vec Ideal S1x1024 .f32) (ix2 0 k) := by
    blk_simp [iblk]
    refine congrArg _ ?_
    blk_ext [idx4 t, coord0 t]
  rw [h, host_v4]
  pointwise []

/-- The up projection, in the block. -/
theorem blk5 (t : Fin cfg0.N) (k : Fin 1024) (j : Fin 5632) : iblk m c 5 t (ix2 k j) = a5 m c (ix2 k j) := by
  have ht : t.val < 12 := t.isLt
  have h : iblk m c 5 t (ix2 k j) = (V m c main_v1 : Vec Ideal S1024x5632 .bf16) (ix2 k j) := by
    blk_simp [iblk]
    refine congrArg _ ?_
    blk_ext [idx5 t, coord0 t]
  rw [h, host_v1]
  pointwise []

/-- The filter, in the block. -/
theorem blk6 (t : Fin cfg0.N) (a : Fin 3) (j : Fin 2816) : iblk m c 6 t (ix2 a j) = a6 m c (ix2 a j) := by
  have ht : t.val < 12 := t.isLt
  have h : iblk m c 6 t (ix2 a j) = (V m c main_arg6 : Vec Ideal S3x2816 .f32) (ix2 a j) := by
    blk_simp [iblk]
    refine congrArg _ ?_
    blk_ext [idx6 t, coord0 t]
  rw [h, V_main_arg6]

/-- The bias, in the block. -/
theorem blk7 (t : Fin cfg0.N) (j : Fin 2816) : iblk m c 7 t (ix2 0 j) = a7 m c (ix1 j) := by
  have ht : t.val < 12 := t.isLt
  have h : iblk m c 7 t (ix2 0 j) = (V m c main_v2 : Vec Ideal S1x2816 .f32) (ix2 0 j) := by
    blk_simp [iblk]
    refine congrArg _ ?_
    blk_ext [idx7 t, coord0 t]
  rw [h, host_v2]
  pointwise []

/-- The down projection, in the block. -/
theorem blk8 (t : Fin cfg0.N) (j : Fin 2816) (k : Fin 1024) : iblk m c 8 t (ix2 j k) = a8 m c (ix2 j k) := by
  have ht : t.val < 12 := t.isLt
  have h : iblk m c 8 t (ix2 j k) = (V m c main_v3 : Vec Ideal S2816x1024 .bf16) (ix2 j k) := by
    blk_simp [iblk]
    refine congrArg _ ?_
    blk_ext [idx8 t, coord0 t]
  rw [h, host_v3]
  pointwise []

/-- The whole block but its final norm for row `R`, from the arguments. -/
def trunkK (M : Fin 16) (L : ℕ) (R : Fin 12288) : Fin 1024 → EReal :=
  trunkMid (fun R k => a0 m c (ix2 R k)) (fun R k => a1 m c (ix2 R k)) (fun M a k => a2 m c (ix3 M a k)) (fun k d => a3 m c (ix2 k d))
    (fun k => a4 m c (ix1 k)) (fun k j => a5 m c (ix2 k j)) (fun a j => a6 m c (ix2 a j)) (fun j => a7 m c (ix1 j))
    (fun j k => a8 m c (ix2 j k)) M L R

/-- A block's row, normalised and modulated, from the arguments. -/
theorem mod_blk (t : Fin cfg0.N) :
    modT (iblk m c 0 t) (iblk m c 1 t) (iblk m c 2 t) (iblk m c 3 t) (iblk m c 4 t)
      = fun r => modRow (fun k => a0 m c (ix2 ⟨t.val * 1024 + r.val, by have h : t.val < 12 := t.isLt; omega⟩ k)) (fun k => a1 m c (ix2 ⟨t.val * 1024 + r.val, by have h : t.val < 12 := t.isLt; omega⟩ k)) (fun a k => a2 m c (ix3 ⟨modT' t.val, by have h : t.val < 12 := t.isLt; unfold modT'; split <;> omega⟩ a k))
          (fun k d => a3 m c (ix2 k d)) (fun k => a4 m c (ix1 k)) := by
  funext r
  unfold modT
  simp only [blk0, blk1, blk2, blk3, blk4]

/-- A block's row with its mixed row added, from the arguments. -/
theorem mixed_blk (t : Fin cfg0.N) (r : Fin 1024) :
    mixedT (iblk m c 0 t) (iblk m c 1 t) (iblk m c 2 t) (iblk m c 3 t) r
      = mixedRow (fun k => a0 m c (ix2 ⟨t.val * 1024 + r.val, by have h : t.val < 12 := t.isLt; omega⟩ k)) (fun k => a1 m c (ix2 ⟨t.val * 1024 + r.val, by have h : t.val < 12 := t.isLt; omega⟩ k)) (fun k => a2 m c (ix3 ⟨modT' t.val, by have h : t.val < 12 := t.isLt; unfold modT'; split <;> omega⟩ 2 k))
          (fun k d => a3 m c (ix2 k d)) := by
  unfold mixedT
  simp only [blk0, blk1, blk2, blk3]

/-- The row that a grid point leaves. -/
theorem after9 (t : Fin cfg0.N) (r d : Fin 1024) :
    Mid.blockRows (F := Ideal) (grid0.coords t) (iblk m c 0 t) (iblk m c 1 t) (iblk m c 2 t) (iblk m c 3 t) (iblk m c 4 t) (iblk m c 5 t)
        (iblk m c 6 t) (iblk m c 7 t) (iblk m c 8 t) (ix2 r d)
      = trunkK m c ⟨modT' t.val, by have h : t.val < 12 := t.isLt; unfold modT'; split <;> omega⟩ (if t.val < 4 then 256 else 1024) ⟨t.val * 1024 + r.val, by have h : t.val < 12 := t.isLt; omega⟩ d := by
  have ht : t.val < 12 := t.isLt
  have hL : seqLen (grid0.coords t 0) = if t.val < 4 then 256 else 1024 := by unfold seqLen; rw [coord0 t]
  rw [block_at]
  rw [hL]
  simp only [mod_blk, mixed_blk, blk3, blk5, blk6, blk7, blk8]
  exact congrArg (fun hid => midRow _ _ hid _ d) (hidden_tile t.val ht (fun R => modRow (fun k => a0 m c (ix2 R k))
    (fun k => a1 m c (ix2 R k)) _ (fun k d => a3 m c (ix2 k d)) (fun k => a4 m c (ix1 k))) _ _ _ r)

/-- The same at any index of the block, in terms of the row of the whole array. -/
theorem after9' (t : Fin cfg0.N) (y : S1024x1024.Idx) (R : Fin 12288) (hR : R.val = t.val * 1024 + (y 0).val) :
    outsAt0 m c t y = trunkK m c (modOf R) (lenOf R) R (y 1) := by
  have ht : t.val < 12 := t.isLt
  have hy : (y 0).val < 1024 := (y 0).isLt
  have e : y = ix2 (y 0) (y 1) := by funext a; match a with | ⟨0, _⟩ => rfl | ⟨1, _⟩ => rfl
  have e1 : (⟨t.val * 1024 + (y 0).val, by omega⟩ : Fin 12288) = R := Fin.ext hR.symm
  have e2 : (⟨modT' t.val, by unfold modT'; split <;> omega⟩ : Fin 16) = modOf R := by
    unfold modOf modT'
    split <;> split <;> refine Fin.ext ?_ <;> simp only [Fin.val_zero] <;> omega
  have e3 : (if t.val < 4 then 256 else 1024) = lenOf R := by
    unfold lenOf
    split <;> split <;> omega
  unfold outsAt0
  rw [Mid.out_eq]
  refine (congrArg _ e).trans ((after9 m c t (y 0) (y 1)).trans ?_)
  rw [e1, e2, e3]

/-- Entry `d` of row `R` of the result. -/
def entryK (R d : ℕ) : EReal :=
  if h : R < 12288 ∧ d < 1024 then trunkK m c (modOf ⟨R, h.1⟩) (lenOf ⟨R, h.1⟩) ⟨R, h.1⟩ ⟨d, h.2⟩ else 0

/-- The same for the rows of a block. -/
theorem after9N (t : Fin cfg0.N) (y : S1024x1024.Idx) :
    outsAt0 m c t y = entryK m c (t.val * 1024 + (y 0).val) (y 1).val := by
  have ht : t.val < 12 := t.isLt
  have hy : (y 0).val < 1024 := (y 0).isLt
  have hy1 : (y 1).val < 1024 := (y 1).isLt
  rw [entryK, dif_pos ⟨by omega, hy1⟩]
  exact after9' m c t y _ rfl

/-- The result array after the run. -/
theorem arr9 : ((dats m 0 c).arrAt 9 cfg0.N : Vec Ideal S12288x1024 .f32) = fun i => entryK m c (i 0).val (i 1).val := by
  refine (dats m 0 c).arrAt_eq_of_covers 9 _ (by decide +kernel) fun t hf y => ?_
  blk_simp [idx9 t, coord0 t]
  rw [after0_9]
  exact after9N m c t y

end Cert.Ffn.MidVal
-- ==== Proof.FfnMidClaims.lean ====
/- The claim about the value of the feed-forward call without the final norm. -/
module

public import proofs.«01_k».proof.Defs
public import proofs.«01_k».proof.Proof.FfnMidValue
public import proofs.«01_k».proof.Proof.FfnMidRef
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Ffn.MidClaims

open Idealize.ShloMosaic.TcCoe Idealize.SL.Sem Idealize.ShloMosaic Cert.Ffn Cert.Ffn.MidVal

section
open Cert.Kernel4Ideal

variable (m : (ℓ : Loc nD τ sig) → Buf (Elt Ideal) ℓ) (c : Dev nD)

/-- The reference's result is what the kernel's run leaves in its result. -/
theorem same : (Cert.Reference4Ideal.Read.val_main_v148 (F := Ideal) (a0 m c) (a1 m c) (a2 m c) (a3 m c) (a4 m c) (a5 m c) (a6 m c) (a7 m c)
      (a8 m c) : Vec Ideal S12288x1024 .f32)
    = (Cert.Kernel4Ideal.Gen.dats m 0 c).arrAt 9 Cert.Kernel4Ideal.cfg0.N := by
  refine Eq.trans ?_ (arr9 m c).symm
  funext i
  have h0 : (i 0).val < 12288 := (i 0).isLt
  have h1 : (i 1).val < 1024 := (i 1).isLt
  show _ = entryK m c (i 0).val (i 1).val
  rw [entryK, dif_pos ⟨h0, h1⟩]
  refine (congrArg _ (eq_ix2 i)).trans ?_
  exact Cert.Ffn.MidRef.result4 _ _ _ _ _ _ _ _ _ (i 0) (i 1)

end

section
open Cert.Reference4Ideal

/-- The reference's run, its result as a function of its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v148) = Read.val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) :=
  (θ_run _ _ _).mono (fun r h c => ⟨(h c).1.trans (Read.val_main_v148_eq _ _), (h c).2⟩)
    (Value.run (F := Ideal) m ρ)

end

/-- Every entry of that call's result agrees, whatever the inputs. -/
theorem value : Cert.algebraic_Kernel4Ideal_Reference4Ideal := by
  intro m g m' g' hpre hagree
  refine ⟨fun c => (Cert.Kernel4Ideal.Gen.dats m 0 c).arrAt 9 Cert.Kernel4Ideal.cfg0.N, ?_, ?_⟩
  · exact Cert.Kernel4Ideal.Value.run_blocks (F := Ideal) m g
  · refine (θ_run _ _ _).mono (fun r h c => ?_) (run_ref m' g')
    obtain ⟨e, k⟩ := h c
    obtain ⟨g0, g1, g2, g3, g4, g5, g6, g7, g8⟩ := hagree c
    rw [g0, g1, g2, g3, g4, g5, g6, g7, g8] at e
    exact ⟨e.trans (same m c), k⟩

end Cert.Ffn.MidClaims
-- ==== Proof.InprojBlock.lean ====
/- What one grid point of the input projection stores: its rows, normalised and modulated, times the columns of the
weights, a slice of the columns after the other. -/
module

public import proofs.«01_k».proof.Proof.Gen.Kernel5Ideal.Value
public import proofs.«01_k».proof.Proof.FfnMath
public import proofs.«01_k».proof.Proof.FfnBlock
public import Idealize.ShloMosaic.Lib.Pipeline.ValueKit.Tiles

@[expose] public section

set_option maxRecDepth 16384

noncomputable section

namespace Cert.Inproj

open Idealize.ShloMosaic Cert.Ffn
open Cert.Kernel5Ideal (S512x1024 S1x6x1024 S1x1024 S1024x512 S512x512)

/-- A row, normalised and modulated by the first two rows of its modulation. -/
def modIn (x gain : Fin 1024 → EReal) (mod : Fin 6 → Fin 1024 → EReal) (k : Fin 1024) : EReal :=
  normRow x gain k * (1 + mod 1 k) + mod 0 k

/-- Row `R` of all rows, normalised and modulated by row `M` of the modulation, times a column `w` of the weights. -/
def projRow (X : Fin 12288 → Fin 1024 → EReal) (mod : Fin 16 → Fin 6 → Fin 1024 → EReal) (gain w : Fin 1024 → EReal)
    (M : Fin 16) (R : Fin 12288) : EReal :=
  ∑ k, modIn (X R) gain (mod M) k * w k

/-- Column `j` of the weights in the order in which the call stores them: first, last, third group, then the fourth filled up
with zeros. -/
def colOf (W : Fin 1024 → Fin 3600 → EReal) (j : Fin 3712) (k : Fin 1024) : EReal :=
  if h : j.val < 1536 then W k ⟨j.val, by omega⟩
  else if h : j.val - 1536 < 1536 then W k ⟨2064 + (j.val - 1536), by omega⟩
  else if h : j.val - 1536 - 1536 < 512 then W k ⟨1536 + (j.val - 1536 - 1536), by omega⟩
  else if h : j.val - 1536 - 1536 - 512 < 16 then W k ⟨2048 + (j.val - 1536 - 1536 - 512), by omega⟩
  else 0

section columns
variable (W : Fin 1024 → Fin 3600 → EReal) (j : Fin 3712)

/-- The first group of columns. -/
theorem colOf_1 (h1 : j.val < 1536) : colOf W j = fun k => W k ⟨j.val, by omega⟩ := by
  funext k
  unfold colOf
  rw [dif_pos h1]

/-- The second group of columns. -/
theorem colOf_2 (h1 : ¬ j.val < 1536) (h2 : j.val - 1536 < 1536) : colOf W j = fun k => W k ⟨2064 + (j.val - 1536), by omega⟩ := by
  funext k
  unfold colOf
  rw [dif_neg h1, dif_pos h2]

/-- The third group of columns. -/
theorem colOf_3 (h1 : ¬ j.val < 1536) (h2 : ¬ j.val - 1536 < 1536) (h3 : j.val - 1536 - 1536 < 512) :
    colOf W j = fun k => W k ⟨1536 + (j.val - 1536 - 1536), by omega⟩ := by
  funext k
  unfold colOf
  rw [dif_neg h1, dif_neg h2, dif_pos h3]

/-- The fourth group of columns. -/
theorem colOf_4 (h1 : ¬ j.val < 1536) (h2 : ¬ j.val - 1536 < 1536) (h3 : ¬ j.val - 1536 - 1536 < 512)
    (h4 : j.val - 1536 - 1536 - 512 < 16) : colOf W j = fun k => W k ⟨2048 + (j.val - 1536 - 1536 - 512), by omega⟩ := by
  funext k
  unfold colOf
  rw [dif_neg h1, dif_neg h2, dif_neg h3, dif_pos h4]

/-- The columns after them are zero. -/
theorem colOf_5 (h1 : ¬ j.val < 1536) (h2 : ¬ j.val - 1536 < 1536) (h3 : ¬ j.val - 1536 - 1536 < 512)
    (h4 : ¬ j.val - 1536 - 1536 - 512 < 16) : colOf W j = fun _ => 0 := by
  funext k
  unfold colOf
  rw [dif_neg h1, dif_neg h2, dif_neg h3, dif_neg h4]

end columns

/-- The rows `H` times a column of the weights. -/
def rowsTimes {N : ℕ} (H : FVec Ideal S512x1024 .bf16) (W : Vec Ideal ⟨2, ![1024, N]⟩ .bf16) (y : (⟨2, ![512, N]⟩ : Shape).Idx) : EReal :=
  ∑ k : Fin 1024, H (ix2 (y 0) k) * W (ix2 k (y 1))

/-- The stored normalised and modulated rows. -/
theorem mod_at (M : Vec Ideal S1x6x1024 .f32) (X : Vec Ideal S512x1024 .f32) (G : Vec Ideal S1x1024 .f32) (r : Fin 512) (k : Fin 1024) :
    Cert.Kernel5Ideal.Gen.k0_pay3 (F := Ideal) M X G (ix2 r k)
      = modIn (fun k => X (ix2 r k)) (fun k => G (ix2 0 k)) (fun a k => M (ix3 0 a k)) k := by
  pointwise [Cert.Kernel5Ideal.Gen.k0_pay3]
  rfl

/-- A product with 512 columns. -/
theorem prod_at (H : FVec Ideal S512x1024 .bf16) (W : Vec Ideal S1024x512 .bf16) (r j : Fin 512) :
    Cert.Kernel5Ideal.Gen.k0_pay1 (F := Ideal) H W (ix2 r j) = ∑ k : Fin 1024, H (ix2 r k) * W (ix2 k j) := by
  pointwise [Cert.Kernel5Ideal.Gen.k0_pay1]

/-- A stored piece of 512 columns, the columns of the weights loaded from column `o`. -/
theorem piece {N : ℕ} (H : FVec Ideal S512x1024 .bf16) (W : Vec Ideal ⟨2, ![1024, N]⟩ .bf16) (o : ℕ) (inb inb') (x : S512x512.Idx) :
    Cert.Kernel5Ideal.Gen.k0_pay1 (F := Ideal) H
        (View.ld W (Rect.unit (s := ⟨2, ![1024, N]⟩) ![0, o] S1024x512.size inb)) x
      = rowsTimes H W ((Rect.unit (s := ⟨2, ![512, N]⟩) ![0, o] S512x512.size inb').emb x) := by
  refine (congrArg _ (eq_ix2 x)).trans ((prod_at _ _ (x 0) (x 1)).trans ?_)
  refine Finset.sum_congr rfl fun k _ => congrArg₂ (· * ·) (congrArg H ?_) ?_
  · funext a
    match a with
    | ⟨0, _⟩ => exact Fin.ext (by show (x 0).val = 0 + 1 * (x 0).val; omega)
    | ⟨1, _⟩ => rfl
  · refine View.ld_unit_apply_of _ _ _ _ _ _ fun a => ?_
    match a with
    | ⟨0, _⟩ => exact (Nat.zero_add _).symm
    | ⟨1, _⟩ => show o + 1 * (x 1).val = o + (x 1).val; omega

/-- A load of a whole block of rows is that block. -/
theorem wholeRows {F : FTy → Type} {e : EltTy} (inb) (X : Vec F S512x1024 e) :
    View.ld (Val := Elt F) X (Rect.unit ![0, 0] (no_index S512x1024.size) inb) = X :=
  View.ld_unit_lit' inb X (by intro a; fin_cases a <;> rfl)

section odd
open Cert.Kernel5Ideal Cert.Kernel5Ideal.Gen
variable (x0 : Vec Ideal S512x1024 .f32) (x1 : Vec Ideal S1x6x1024 .f32) (x2 : Vec Ideal S1x1024 .f32) (x3 : Vec Ideal S1024x2048 .bf16)

/-- The rows a grid point of the odd layers' call leaves. -/
theorem out_odd (y : S512x2048.Idx) : out0_4 (F := Ideal) x0 x1 x2 x3 y = rowsTimes (k0_pay3 x1 x0 x2) x3 y := by
  unfold out0_4 k0_pay6
  rw [show View.ld x1 r0_0 = x1 from Cert.Ffn.Blk.wholeMod _ _, show View.ld x0 r0_1 = x0 from wholeRows _ _,
    show View.ld x2 r0_2 = x2 from Cert.Ffn.Blk.wholeRow _ _]
  refine View.canon_apply_of_pieces (Val := Elt Ideal) (rowsTimes (k0_pay3 x1 x0 x2) x3) _ ?_ y (cover0_4 _ _ _ _ _)
  intro pc hpc
  simp only [List.mem_cons, List.not_mem_nil, or_false] at hpc
  rcases hpc with rfl | rfl | rfl | rfl <;> intro x
  · exact piece _ x3 1536 _ inb_S512x2048_S512x512_0_1536 x
  · exact piece _ x3 1024 _ inb_S512x2048_S512x512_0_1024 x
  · exact piece _ x3 512 _ inb_S512x2048_S512x512_0_512 x
  · exact piece _ x3 0 _ inb_S512x2048_S512x512_0_0 x

end odd

end Cert.Inproj
-- ==== Proof.InprojOddValue.lean ====
/- The result of the odd layers' input projection after the run, row by row. -/
module

public import proofs.«01_k».proof.Proof.InprojBlock
public import Idealize.ShloMosaic.Lib.Pipeline.ValueKit.Partial

@[expose] public section

set_option maxRecDepth 16384

noncomputable section

namespace Cert.Inproj.OddVal

open Idealize.ShloMosaic.TcCoe Idealize.SL.Sem Cert.Kernel5Ideal Cert.Kernel5Ideal.Gen Idealize.ShloMosaic Cert.Ffn Cert.Inproj

variable (m : (ℓ : Loc nD τ sig) → Buf (Elt Ideal) ℓ) (c : Dev nD)

/-- The four arguments. -/
abbrev a0 : Vec Ideal S12288x1024 .f32 := m ((c : Thread nD τ).loc main_arg0)
abbrev a1 : Vec Ideal S16x6x1024 .f32 := m ((c : Thread nD τ).loc main_arg1)
abbrev a2 : Vec Ideal S1024 .f32 := m ((c : Thread nD τ).loc main_arg2)
abbrev a3 : Vec Ideal S1024x2048 .f32 := m ((c : Thread nD τ).loc main_arg3)

/-- The row of the modulation that grid point `t` reads. -/
def modT (t : Nat) : Nat := if t < 8 then 0 else 1 + (t - 8) / 2

theorem idx0 : ∀ t : Fin cfg0.N, win0_0.index t = ![(grid0.coords t 0).val, 0] := (by decide +kernel : ∀ t : Fin grid0.N, _)
theorem idx1 : ∀ t : Fin cfg0.N, win0_1.index t = ![modT (grid0.coords t 0).val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] := (by decide +kernel : ∀ t : Fin grid0.N, _)
theorem coord0 : ∀ t : Fin cfg0.N, (grid0.coords t 0).val = t.val := (by decide +kernel : ∀ t : Fin grid0.N, _)

/-- The weights as the kernel is given them. -/
theorem host_v0 : (V m c main_v0 : Vec Ideal S1024x2048 .bf16) = truncf (F := Ideal) .bf16 (a3 m c) bitsLt_bf16_f32 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gains, as a row. -/
theorem host_v1 : (V m c main_v1 : Vec Ideal S1x1024 .f32) = shapeCast S1x1024 (a2 m c) shapeCasts_S1024_S1x1024 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The rows of a block. -/
theorem blk0 (t : Fin cfg0.N) (r : Fin 512) (k : Fin 1024) : iblk m c 0 t (ix2 r k) = a0 m c (ix2 ⟨t.val * 512 + r.val, by have h : t.val < 24 := t.isLt; omega⟩ k) := by
  have ht : t.val < 24 := t.isLt
  have h : iblk m c 0 t (ix2 r k) = (V m c main_arg0 : Vec Ideal S12288x1024 .f32) (ix2 ⟨t.val * 512 + r.val, by have h : t.val < 24 := t.isLt; omega⟩ k) := by
    blk_simp [iblk]
    refine congrArg _ ?_
    blk_ext [idx0 t, coord0 t]
  rw [h, V_main_arg0]

/-- The modulation of a block. -/
theorem blk1 (t : Fin cfg0.N) (a : Fin 6) (k : Fin 1024) : iblk m c 1 t (ix3 0 a k) = a1 m c (ix3 ⟨modT t.val, by have h : t.val < 24 := t.isLt; unfold modT; split <;> omega⟩ a k) := by
  have ht : t.val < 24 := t.isLt
  have h : iblk m c 1 t (ix3 0 a k) = (V m c main_arg1 : Vec Ideal S16x6x1024 .f32) (ix3 ⟨modT t.val, by have h : t.val < 24 := t.isLt; unfold modT; split <;> omega⟩ a k) := by
    blk_simp [iblk]
    refine congrArg _ ?_
    blk_ext [idx1 t, coord0 t]
  rw [h, V_main_arg1]

/-- The gains, in the block. -/
theorem blk2 (t : Fin cfg0.N) (k : Fin 1024) : iblk m c 2 t (ix2 0 k) = a2 m c (ix1 k) := by
  have ht : t.val < 24 := t.isLt
  have h : iblk m c 2 t (ix2 0 k) = (V m c main_v1 : Vec Ideal S1x1024 .f32) (ix2 0 k) := by
    blk_simp [iblk]
    refine congrArg _ ?_
    blk_ext [idx2 t, coord0 t]
  rw [h, host_v1]
  pointwise []

/-- The weights, in the block. -/
theorem blk3 (t : Fin cfg0.N) (k : Fin 1024) (j : Fin 2048) : iblk m c 3 t (ix2 k j) = a3 m c (ix2 k j) := by
  have ht : t.val < 24 := t.isLt
  have h : iblk m c 3 t (ix2 k j) = (V m c main_v0 : Vec Ideal S1024x2048 .bf16) (ix2 k j) := by
    blk_simp [iblk]
    refine congrArg _ ?_
    blk_ext [idx3 t, coord0 t]
  rw [h, host_v0]
  pointwise []

/-- Column `j` of row `R`, from the arguments. -/
def projK (M : Fin 16) (R : Fin 12288) (j : Fin 2048) : EReal :=
  projRow (fun R k => a0 m c (ix2 R k)) (fun M a k => a1 m c (ix3 M a k)) (fun k => a2 m c (ix1 k)) (fun k => a3 m c (ix2 k j)) M R

/-- The row that a grid point leaves. -/
theorem after4 (t : Fin cfg0.N) (r : Fin 512) (j : Fin 2048) :
    out0_4 (F := Ideal) (iblk m c 0 t) (iblk m c 1 t) (iblk m c 2 t) (iblk m c 3 t) (ix2 r j)
      = projK m c ⟨modT t.val, by have h : t.val < 24 := t.isLt; unfold modT; split <;> omega⟩ ⟨t.val * 512 + r.val, by have h : t.val < 24 := t.isLt; omega⟩ j := by
  refine (out_odd _ _ _ _ _).trans ?_
  unfold rowsTimes projK projRow
  refine Finset.sum_congr rfl fun k _ => ?_
  show k0_pay3 (F := Ideal) _ _ _ (ix2 r k) * iblk m c 3 t (ix2 k j) = _
  rw [mod_at]
  simp only [blk0, blk1, blk2, blk3]

/-- The same at any index of the block, in terms of the row of the whole array. -/
theorem after4' (t : Fin cfg0.N) (y : S512x2048.Idx) (R : Fin 12288) (hR : R.val = t.val * 512 + (y 0).val) :
    out0_4 (F := Ideal) (iblk m c 0 t) (iblk m c 1 t) (iblk m c 2 t) (iblk m c 3 t) y = projK m c (modOf R) R (y 1) := by
  have ht : t.val < 24 := t.isLt
  have hy : (y 0).val < 512 := (y 0).isLt
  have e1 : (⟨t.val * 512 + (y 0).val, by omega⟩ : Fin 12288) = R := Fin.ext hR.symm
  have e2 : (⟨modT t.val, by unfold modT; split <;> omega⟩ : Fin 16) = modOf R := by
    unfold modOf modT
    split <;> split <;> refine Fin.ext ?_ <;> simp only [Fin.val_zero] <;> omega
  refine (congrArg _ (eq_ix2 y)).trans ((after4 m c t (y 0) (y 1)).trans ?_)
  rw [e1, e2]

/-- Entry `j` of row `R` of the result. -/
def entryK (R j : ℕ) : EReal :=
  if h : R < 12288 ∧ j < 2048 then projK m c (modOf ⟨R, h.1⟩) ⟨R, h.1⟩ ⟨j, h.2⟩ else 0

/-- The same for the rows of a block. -/
theorem after4N (t : Fin cfg0.N) (y : S512x2048.Idx) :
    out0_4 (F := Ideal) (iblk m c 0 t) (iblk m c 1 t) (iblk m c 2 t) (iblk m c 3 t) y
      = entryK m c (t.val * 512 + (y 0).val) (y 1).val := by
  have ht : t.val < 24 := t.isLt
  have hy : (y 0).val < 512 := (y 0).isLt
  have hy1 : (y 1).val < 2048 := (y 1).isLt
  rw [entryK, dif_pos ⟨by omega, hy1⟩]
  exact after4' m c t y _ rfl

/-- The result array after the run. -/
theorem arr4 : ((dats m 0 c).arrAt 4 cfg0.N : Vec Ideal S12288x2048 .f32) = fun i => entryK m c (i 0).val (i 1).val := by
  refine (dats m 0 c).arrAt_eq_of_covers 4 _ (by decide +kernel) fun t hf y => ?_
  blk_simp [idx4 t, coord0 t]
  rw [after0_4]
  exact after4N m c t y

end Cert.Inproj.OddVal
-- ==== Proof.InprojRef.lean ====
/- The references of the input projections, read at an index. -/
module

public import proofs.«01_k».proof.Proof.Gen.Reference5Ideal.Read
public import proofs.«01_k».proof.Proof.Gen.Reference6Ideal.Read
public import proofs.«01_k».proof.Proof.FfnRef
public import proofs.«01_k».proof.Proof.InprojBlock

@[expose] public section

set_option maxRecDepth 16384

noncomputable section

namespace Cert.Inproj

open Idealize.ShloMosaic Cert.Ffn

section odd
open Cert.Reference5Ideal Cert.Reference5Ideal.Read

variable (x0 : Vec Ideal S12288x1024 .f32) (x1 : Vec Ideal S16x6x1024 .f32) (x2 : Vec Ideal S1024 .f32) (x3 : Vec Ideal S1024x2048 .f32)

/-- The context rows, normalised and modulated. -/
theorem mod27 (b : Fin 16) (l : Fin 256) (k : Fin 1024) :
    val_main_v27 (F := Ideal) x0 x1 x2 (ix3 b l k)
      = modIn (fun k => x0 (ix2 ⟨b.val * 256 + l.val, by omega⟩ k)) (fun k => x2 (ix1 k)) (fun a k => x1 (ix3 0 a k)) k := by
  pointwise [val_main_v27, val_main_v26, val_main_v25, val_main_v24, val_main_v23, val_main_v22, val_main_cst_2, val_main_v21,
    val_main_v20, val_main_v19, val_main_v18, val_main_v17, val_main_v16, val_main_v15, val_main_v14, val_main_cst_1, val_main_v13,
    val_main_v12, val_main_cst_0, val_main_v11, val_main_v10, val_main_cst, val_main_v9, val_main_v8, val_main_v7, val_main_v6,
    val_main_v5, val_main_v4, val_main_v3, val_main_v2, val_main_v1, val_main_v0]
  rfl

/-- The sample rows, normalised and modulated. -/
theorem mod56 (b : Fin 8) (l : Fin 1024) (k : Fin 1024) :
    val_main_v56 (F := Ideal) x0 x1 x2 (ix3 b l k)
      = modIn (fun k => x0 (ix2 ⟨4096 + (b.val * 1024 + l.val), by omega⟩ k)) (fun k => x2 (ix1 k))
          (fun a k => x1 (ix3 ⟨1 + b.val, by omega⟩ a k)) k := by
  pointwise [val_main_v56, val_main_v55, val_main_v54, val_main_v53, val_main_v52, val_main_v51, val_main_cst_6, val_main_v50,
    val_main_v49, val_main_v48, val_main_v47, val_main_v46, val_main_v45, val_main_v44, val_main_v43, val_main_cst_5, val_main_v42,
    val_main_v41, val_main_cst_4, val_main_v40, val_main_v39, val_main_cst_3, val_main_v38, val_main_v37, val_main_v36, val_main_v35,
    val_main_v34, val_main_v33, val_main_v32, val_main_v31, val_main_v30, val_main_v29]
  rfl

/-- The odd layers' result at row `R`. -/
theorem result5 (R : Fin 12288) (j : Fin 2048) :
    val_main_v60 (F := Ideal) x0 x1 x2 x3 (ix2 R j)
      = projRow (fun R k => x0 (ix2 R k)) (fun M a k => x1 (ix3 M a k)) (fun k => x2 (ix1 k)) (fun k => x3 (ix2 k j)) (modOf R) R := by
  unfold projRow
  pointwise [val_main_v60, val_main_v59, val_main_v58, val_main_v57, val_main_v28]
  by_cases hR : R.val < 4096
  · rw [dif_pos hR, show modOf R = 0 from dif_pos hR]
    simp only [mod27]
    rw [show (⟨R.val / 256 * 256 + R.val % 256, by omega⟩ : Fin 12288) = R from
      Fin.ext (by show R.val / 256 * 256 + R.val % 256 = R.val; omega)]
  · rw [dif_neg hR, show modOf R = ⟨1 + (R.val - 4096) / 1024, by omega⟩ from dif_neg hR]
    simp only [mod56]
    rw [show (⟨4096 + ((R.val - 4096) / 1024 * 1024 + (R.val - 4096) % 1024), by omega⟩ : Fin 12288) = R from
      Fin.ext (by show 4096 + ((R.val - 4096) / 1024 * 1024 + (R.val - 4096) % 1024) = R.val; omega)]

end odd

section even
open Cert.Reference6Ideal

variable (x0 : Vec Ideal S12288x1024 .f32) (x1 : Vec Ideal S16x6x1024 .f32) (x2 : Vec Ideal S1024 .f32) (x3 : Vec Ideal S1024x3600 .f32)

/-- The even layers' projection at row `R`, its columns in the weights' order. -/
theorem proj6 (R : Fin 12288) (j : Fin 3600) :
    Read.val_main_v60 (F := Ideal) x0 x1 x2 x3 (ix2 R j)
      = projRow (fun R k => x0 (ix2 R k)) (fun M a k => x1 (ix3 M a k)) (fun k => x2 (ix1 k)) (fun k => x3 (ix2 k j)) (modOf R) R := by
  have e27 : ∀ b l k, Read.val_main_v27 (F := Ideal) x0 x1 x2 (ix3 b l k) = _ := fun b l k =>
    (congrFun (show Read.val_main_v27 (F := Ideal) x0 x1 x2 = Cert.Reference5Ideal.Read.val_main_v27 (F := Ideal) x0 x1 x2 from rfl) _).trans
      (mod27 x0 x1 x2 b l k)
  have e56 : ∀ b l k, Read.val_main_v56 (F := Ideal) x0 x1 x2 (ix3 b l k) = _ := fun b l k =>
    (congrFun (show Read.val_main_v56 (F := Ideal) x0 x1 x2 = Cert.Reference5Ideal.Read.val_main_v56 (F := Ideal) x0 x1 x2 from rfl) _).trans
      (mod56 x0 x1 x2 b l k)
  unfold projRow
  pointwise [Read.val_main_v60, Read.val_main_v59, Read.val_main_v58, Read.val_main_v57, Read.val_main_v28]
  by_cases hR : R.val < 4096
  · rw [dif_pos hR, show modOf R = 0 from dif_pos hR]
    simp only [e27]
    rw [show (⟨R.val / 256 * 256 + R.val % 256, by omega⟩ : Fin 12288) = R from
      Fin.ext (by show R.val / 256 * 256 + R.val % 256 = R.val; omega)]
  · rw [dif_neg hR, show modOf R = ⟨1 + (R.val - 4096) / 1024, by omega⟩ from dif_neg hR]
    simp only [e56]
    rw [show (⟨4096 + ((R.val - 4096) / 1024 * 1024 + (R.val - 4096) % 1024), by omega⟩ : Fin 12288) = R from
      Fin.ext (by show 4096 + ((R.val - 4096) / 1024 * 1024 + (R.val - 4096) % 1024) = R.val; omega)]

/-- The even layers' result at row `R`. -/
theorem result6 (R : Fin 12288) (j : Fin 3712) :
    Read.val_main_v66 (F := Ideal) x0 x1 x2 x3 (ix2 R j)
      = projRow (fun R k => x0 (ix2 R k)) (fun M a k => x1 (ix3 M a k)) (fun k => x2 (ix1 k)) (colOf (fun k j => x3 (ix2 k j)) j)
          (modOf R) R := by
  pointwise [Read.val_main_v66, Read.val_main_v65, Read.val_main_call0_v0, Read.val_main_c, Read.val_main_v64, Read.val_main_v63,
    Read.val_main_v62, Read.val_main_v61]
  by_cases h1 : j.val < 1536
  · rw [dif_pos h1, proj6, colOf_1 (fun k j => x3 (ix2 k j)) j h1]
  rw [dif_neg h1]
  by_cases h2 : j.val - 1536 < 1536
  · rw [dif_pos h2, proj6, colOf_2 (fun k j => x3 (ix2 k j)) j h1 h2]
  rw [dif_neg h2]
  by_cases h3 : j.val - 1536 - 1536 < 512
  · rw [dif_pos h3, proj6, colOf_3 (fun k j => x3 (ix2 k j)) j h1 h2 h3]
  rw [dif_neg h3]
  by_cases h4 : j.val - 1536 - 1536 - 512 < 16
  · rw [dif_pos h4, proj6]
    exact congrArg (fun w => projRow _ _ _ w _ R) (colOf_4 (fun k j => x3 (ix2 k j)) j h1 h2 h3 h4).symm
  rw [dif_neg h4, Cert.Ffn.Ref.pad_zero, colOf_5 (fun k j => x3 (ix2 k j)) j h1 h2 h3 h4]
  unfold projRow
  simp only [mul_zero, Finset.sum_const_zero]

end even

end Cert.Inproj
-- ==== Proof.InprojOddClaims.lean ====
/- The claim about the value of the odd layers' input projection. -/
module

public import proofs.«01_k».proof.Defs
public import proofs.«01_k».proof.Proof.InprojOddValue
public import proofs.«01_k».proof.Proof.InprojRef
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace Cert.Inproj.OddClaims

open Idealize.ShloMosaic.TcCoe Idealize.SL.Sem Idealize.ShloMosaic Cert.Ffn Cert.Inproj Cert.Inproj.OddVal

section
open Cert.Kernel5Ideal

variable (m : (ℓ : Loc nD τ sig) → Buf (Elt Ideal) ℓ) (c : Dev nD)

/-- The reference's result is what the kernel's run leaves in its result. -/
theorem same : (Cert.Reference5Ideal.Read.val_main_v60 (F := Ideal) (a0 m c) (a1 m c) (a2 m c) (a3 m c) : Vec Ideal S12288x2048 .f32)
    = (Cert.Kernel5Ideal.Gen.dats m 0 c).arrAt 4 Cert.Kernel5Ideal.cfg0.N := by
  refine Eq.trans ?_ (arr4 m c).symm
  funext i
  have h0 : (i 0).val < 12288 := (i 0).isLt
  have h1 : (i 1).val < 2048 := (i 1).isLt
  show _ = entryK m c (i 0).val (i 1).val
  rw [entryK, dif_pos ⟨h0, h1⟩]
  refine (congrArg _ (eq_ix2 i)).trans ?_
  exact result5 _ _ _ _ (i 0) (i 1)

end

section
open Cert.Reference5Ideal

/-- The reference's run, its result as a function of its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = Read.val_main_v60 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run _ _ _).mono (fun r h c => ⟨(h c).1.trans (Read.val_main_v60_eq _ _), (h c).2⟩)
    (Value.run (F := Ideal) m ρ)

end

/-- Every entry of that call's result agrees, whatever the inputs. -/
theorem value : Cert.algebraic_Kernel5Ideal_Reference5Ideal := by
  intro m g m' g' hpre hagree
  refine ⟨fun c => (Cert.Kernel5Ideal.Gen.dats m 0 c).arrAt 4 Cert.Kernel5Ideal.cfg0.N, ?_, ?_⟩
  · exact Cert.Kernel5Ideal.Value.run_blocks (F := Ideal) m g
  · refine (θ_run _ _ _).mono (fun r h c => ?_) (run_ref m' g')
    obtain ⟨e, k⟩ := h c
    obtain ⟨g0, g1, g2, g3⟩ := hagree c
    rw [g0, g1, g2, g3] at e
    exact ⟨e.trans (same m c), k⟩

end Cert.Inproj.OddClaims
-- ==== Proof.InprojEvenBlock.lean ====
/- What one grid point of the even layers' input projection stores: its rows, normalised and modulated, times the columns
of the weights, seven slices of 512 columns and one of 128. -/
module

public import proofs.«01_k».proof.Proof.InprojBlock
public import proofs.«01_k».proof.Proof.Gen.Kernel6Ideal.Value

@[expose] public section

set_option maxRecDepth 16384

noncomputable section

namespace Cert.Inproj

open Idealize.ShloMosaic Idealize.ShloMosaic.TcCoe Idealize.SL.Sem Cert.Ffn Cert.Kernel6Ideal Cert.Kernel6Ideal.Gen

/-- A product with 128 columns. -/
theorem prod128_at (H : FVec Ideal S512x1024 .bf16) (W : Vec Ideal S1024x128 .bf16) (r : Fin 512) (j : Fin 128) :
    k0_pay6 (F := Ideal) H W (ix2 r j) = ∑ k : Fin 1024, H (ix2 r k) * W (ix2 k j) := by
  pointwise [k0_pay6]

/-- The stored piece of 128 columns, the columns of the weights loaded from column `o`. -/
theorem piece128 {N : ℕ} (H : FVec Ideal S512x1024 .bf16) (W : Vec Ideal ⟨2, ![1024, N]⟩ .bf16) (o : ℕ) (inb inb') (x : S512x128.Idx) :
    k0_pay6 (F := Ideal) H (View.ld W (Rect.unit (s := ⟨2, ![1024, N]⟩) ![0, o] S1024x128.size inb)) x
      = rowsTimes H W ((Rect.unit (s := ⟨2, ![512, N]⟩) ![0, o] S512x128.size inb').emb x) := by
  refine (congrArg _ (eq_ix2 x)).trans ((prod128_at _ _ (x 0) (x 1)).trans ?_)
  refine Finset.sum_congr rfl fun k _ => congrArg₂ (· * ·) (congrArg H ?_) ?_
  · funext a
    match a with
    | ⟨0, _⟩ => exact Fin.ext (by show (x 0).val = 0 + 1 * (x 0).val; omega)
    | ⟨1, _⟩ => rfl
  · refine View.ld_unit_apply_of _ _ _ _ _ _ fun a => ?_
    match a with
    | ⟨0, _⟩ => exact (Nat.zero_add _).symm
    | ⟨1, _⟩ => show o + 1 * (x 1).val = o + (x 1).val; omega

/-- The rows a grid point of the even layers' call leaves. -/
theorem out_even (c i) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x3712 .bf16) (harg4 : arg4.IsWhole) (arg5 : Memref sig .tc .vmem S512x3712 .f32) (harg5 : arg5.IsWhole)
    (x0 : Vec Ideal S512x1024 .f32) (x1 : Vec Ideal S1x6x1024 .f32) (x2 : Vec Ideal S1x1024 .f32) (x3 : Vec Ideal S1024x3712 .bf16) (y : S512x3712.Idx) :
    out0_A_4 (F := Ideal) c i arg1 harg1 arg2 harg2 arg3 harg3 arg4 harg4 arg5 harg5 x0 x1 x2 x3 y
      = rowsTimes (k0_pay7 (F := Ideal) x1 x0 x2) x3 y := by
  have hc := cover0_A_4 (F := Ideal) c i arg1 harg1 arg2 harg2 arg3 harg3 arg4 harg4 arg5 harg5 x0 x1 x2 x3
  refine (congrFun (View.read_writes_eq_canon _ _ _ hc) y).trans
    (View.canon_apply_of_pieces (Val := Elt Ideal) (rowsTimes (k0_pay7 (F := Ideal) x1 x0 x2) x3) _ ?_ y (hc y))
  unfold kernelRun0_A
  dsimp only
  simp only [kernelRun0_A.sl.r, Cert.Ffn.Blk.loadAt, Cert.Ffn.Blk.wholeMod, wholeRows, Cert.Ffn.Blk.wholeRow]
  intro pc hpc
  simp only [List.mem_cons, List.not_mem_nil, or_false] at hpc
  rcases hpc with rfl | rfl | rfl | rfl | rfl | rfl | rfl | rfl <;> intro x
  · exact piece128 _ x3 3584 _ inb_S512x3712_S512x128_0_3584 x
  · exact piece _ x3 3072 _ inb_S512x3712_S512x512_0_3072 x
  · exact piece _ x3 2560 _ inb_S512x3712_S512x512_0_2560 x
  · exact piece _ x3 2048 _ inb_S512x3712_S512x512_0_2048 x
  · exact piece _ x3 1536 _ inb_S512x3712_S512x512_0_1536 x
  · exact piece _ x3 1024 _ inb_S512x3712_S512x512_0_1024 x
  · exact piece _ x3 512 _ inb_S512x3712_S512x512_0_512 x
  · exact piece _ x3 0 _ inb_S512x3712_S512x512_0_0 x

end Cert.Inproj
-- ==== Proof.InprojEvenValue.lean ====
/- The result of the even layers' input projection after the run, row by row. -/
module

public import proofs.«01_k».proof.Proof.InprojEvenBlock
public import proofs.«01_k».proof.Proof.FfnRef
public import Idealize.ShloMosaic.Lib.Pipeline.ValueKit.Partial

@[expose] public section

set_option maxRecDepth 16384

noncomputable section

namespace Cert.Inproj.EvenVal

open Idealize.ShloMosaic.TcCoe Idealize.SL.Sem Cert.Kernel6Ideal Cert.Kernel6Ideal.Gen Idealize.ShloMosaic Cert.Ffn Cert.Inproj

variable (m : (ℓ : Loc nD τ sig) → Buf (Elt Ideal) ℓ) (c : Dev nD)

/-- The four arguments. -/
abbrev a0 : Vec Ideal S12288x1024 .f32 := m ((c : Thread nD τ).loc main_arg0)
abbrev a1 : Vec Ideal S16x6x1024 .f32 := m ((c : Thread nD τ).loc main_arg1)
abbrev a2 : Vec Ideal S1024 .f32 := m ((c : Thread nD τ).loc main_arg2)
abbrev a3 : Vec Ideal S1024x3600 .f32 := m ((c : Thread nD τ).loc main_arg3)

/-- The row of the modulation that grid point `t` reads. -/
def modT (t : Nat) : Nat := if t < 8 then 0 else 1 + (t - 8) / 2

theorem idx0 : ∀ t : Fin cfg0.N, win0_0.index t = ![(grid0.coords t 0).val, 0] := (by decide +kernel : ∀ t : Fin grid0.N, _)
theorem idx1 : ∀ t : Fin cfg0.N, win0_1.index t = ![modT (grid0.coords t 0).val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] := (by decide +kernel : ∀ t : Fin grid0.N, _)
theorem coord0 : ∀ t : Fin cfg0.N, (grid0.coords t 0).val = t.val := (by decide +kernel : ∀ t : Fin grid0.N, _)

/-- The three large groups of columns of the weights, side by side. -/
def bigCols (w : Vec Ideal S1024x3600 .f32) : Vec Ideal S1024x3584 .f32 :=
  concatenate S1024x3584 1 [⟨S1024x1536, extractStridedSlice S1024x1536 ![0, 0] w slices_S1024x3600_S1024x1536_0_0⟩,
    ⟨S1024x1536, extractStridedSlice S1024x1536 ![0, 2064] w slices_S1024x3600_S1024x1536_0_2064⟩,
    ⟨S1024x512, extractStridedSlice S1024x512 ![0, 1536] w slices_S1024x3600_S1024x512_0_1536⟩]
    concatenates_S1024x1536_S1024x1536_S1024x512_S1024x3584_d1

/-- The last sixteen columns, filled up with zeros. -/
def lastCols (w : Vec Ideal S1024x3600 .f32) : Vec Ideal S1024x128 .f32 :=
  pad S1024x128 ![0, 0] ![0, 112] ![0, 0] (extractStridedSlice S1024x16 ![0, 2048] w slices_S1024x3600_S1024x16_0_2048)
    (sitofp (F := Ideal) .f32 (constantI S_ 32 0#32)) pads_S1024x16_S1024x128_000_01120 h_S_

/-- The weights as the kernel is given them. -/
theorem host_v7 : (V m c main_v7 : Vec Ideal S1024x3712 .bf16)
    = truncf (F := Ideal) .bf16 (concatenate S1024x3712 1 [⟨S1024x3584, bigCols (a3 m c)⟩, ⟨S1024x128, lastCols (a3 m c)⟩]
        concatenates_S1024x3584_S1024x128_S1024x3712_d1) bitsLt_bf16_f32 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- Its columns in terms of the weights. -/
theorem cols_at (w : Vec Ideal S1024x3600 .f32) (k : Fin 1024) (j : Fin 3712) :
    truncf (F := Ideal) .bf16 (concatenate S1024x3712 1 [⟨S1024x3584, bigCols w⟩, ⟨S1024x128, lastCols w⟩]
        concatenates_S1024x3584_S1024x128_S1024x3712_d1) bitsLt_bf16_f32 (ix2 k j) = colOf (fun k j => w (ix2 k j)) j k := by
  pointwise [bigCols, lastCols]
  by_cases h1 : j.val < 1536
  · rw [dif_pos (show j.val < 3584 by omega), dif_pos h1]
    exact (congrFun (colOf_1 (fun k j => w (ix2 k j)) j h1) k).symm
  by_cases h2 : j.val - 1536 < 1536
  · rw [dif_pos (show j.val < 3584 by omega), dif_neg h1, dif_pos h2]
    exact (congrFun (colOf_2 (fun k j => w (ix2 k j)) j h1 h2) k).symm
  by_cases h3 : j.val - 1536 - 1536 < 512
  · rw [dif_pos (show j.val < 3584 by omega), dif_neg h1, dif_neg h2]
    exact (congrFun (colOf_3 (fun k j => w (ix2 k j)) j h1 h2 h3) k).symm
  have e : j.val - 3584 = j.val - 1536 - 1536 - 512 := by omega
  by_cases h4 : j.val - 1536 - 1536 - 512 < 16
  · rw [dif_neg (show ¬ j.val < 3584 by omega), dif_pos (show j.val - 3584 < 16 by omega)]
    simp only [e]
    exact (congrFun (colOf_4 (fun k j => w (ix2 k j)) j h1 h2 h3 h4) k).symm
  · rw [dif_neg (show ¬ j.val < 3584 by omega), dif_neg (show ¬ j.val - 3584 < 16 by omega), Cert.Ffn.Ref.pad_zero]
    exact (congrFun (colOf_5 (fun k j => w (ix2 k j)) j h1 h2 h3 h4) k).symm

/-- The gains, as a row. -/
theorem host_v8 : (V m c main_v8 : Vec Ideal S1x1024 .f32) = shapeCast S1x1024 (a2 m c) shapeCasts_S1024_S1x1024 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- The rows of a block. -/
theorem blk0 (t : Fin cfg0.N) (r : Fin 512) (k : Fin 1024) : iblk m c 0 t (ix2 r k) = a0 m c (ix2 ⟨t.val * 512 + r.val, by have h : t.val < 24 := t.isLt; omega⟩ k) := by
  have ht : t.val < 24 := t.isLt
  have h : iblk m c 0 t (ix2 r k) = (V m c main_arg0 : Vec Ideal S12288x1024 .f32) (ix2 ⟨t.val * 512 + r.val, by have h : t.val < 24 := t.isLt; omega⟩ k) := by
    blk_simp [iblk]
    refine congrArg _ ?_
    blk_ext [idx0 t, coord0 t]
  rw [h, V_main_arg0]

/-- The modulation of a block. -/
theorem blk1 (t : Fin cfg0.N) (a : Fin 6) (k : Fin 1024) : iblk m c 1 t (ix3 0 a k) = a1 m c (ix3 ⟨modT t.val, by have h : t.val < 24 := t.isLt; unfold modT; split <;> omega⟩ a k) := by
  have ht : t.val < 24 := t.isLt
  have h : iblk m c 1 t (ix3 0 a k) = (V m c main_arg1 : Vec Ideal S16x6x1024 .f32) (ix3 ⟨modT t.val, by have h : t.val < 24 := t.isLt; unfold modT; split <;> omega⟩ a k) := by
    blk_simp [iblk]
    refine congrArg _ ?_
    blk_ext [idx1 t, coord0 t]
  rw [h, V_main_arg1]

/-- The gains, in the block. -/
theorem blk2 (t : Fin cfg0.N) (k : Fin 1024) : iblk m c 2 t (ix2 0 k) = a2 m c (ix1 k) := by
  have ht : t.val < 24 := t.isLt
  have h : iblk m c 2 t (ix2 0 k) = (V m c main_v8 : Vec Ideal S1x1024 .f32) (ix2 0 k) := by
    blk_simp [iblk]
    refine congrArg _ ?_
    blk_ext [idx2 t, coord0 t]
  rw [h, host_v8]
  pointwise []

/-- The weights, in the block. -/
theorem blk3 (t : Fin cfg0.N) (k : Fin 1024) (j : Fin 3712) : iblk m c 3 t (ix2 k j) = colOf (fun k j => a3 m c (ix2 k j)) j k := by
  have ht : t.val < 24 := t.isLt
  have h : iblk m c 3 t (ix2 k j) = (V m c main_v7 : Vec Ideal S1024x3712 .bf16) (ix2 k j) := by
    blk_simp [iblk]
    refine congrArg _ ?_
    blk_ext [idx3 t, coord0 t]
  rw [h, host_v7]
  exact cols_at (a3 m c) k j

/-- The stored normalised and modulated rows: the same function as in the odd layers' call. -/
theorem mod6_at (M : Vec Ideal S1x6x1024 .f32) (X : Vec Ideal S512x1024 .f32) (G : Vec Ideal S1x1024 .f32) (r : Fin 512) (k : Fin 1024) :
    k0_pay7 (F := Ideal) M X G (ix2 r k)
      = modIn (fun k => X (ix2 r k)) (fun k => G (ix2 0 k)) (fun a k => M (ix3 0 a k)) k :=
  mod_at M X G r k

/-- Column `j` of row `R`, from the arguments. -/
def projK (M : Fin 16) (R : Fin 12288) (j : Fin 3712) : EReal :=
  projRow (fun R k => a0 m c (ix2 R k)) (fun M a k => a1 m c (ix3 M a k)) (fun k => a2 m c (ix1 k)) (colOf (fun k j => a3 m c (ix2 k j)) j) M R

/-- What grid point `t` leaves, from its blocks. -/
abbrev outAt (t : Fin cfg0.N) (x0 : Vec Ideal S512x1024 .f32) (x1 : Vec Ideal S1x6x1024 .f32) (x2 : Vec Ideal S1x1024 .f32)
    (x3 : Vec Ideal S1024x3712 .bf16) : Vec Ideal S512x3712 .f32 :=
  out0_A_4 (F := Ideal) c (grid0.coords t) (ms0_0 t) (hs0_0 t) (ms0_1 t) (hs0_1 t) (ms0_2 t) (hs0_2 t) (ms0_3 t) (hs0_3 t) (ms0_4 t)
    (hs0_4 t) x0 x1 x2 x3

/-- The row that a grid point leaves. -/
theorem after4 (t : Fin cfg0.N) (r : Fin 512) (j : Fin 3712) :
    outAt c t (iblk m c 0 t) (iblk m c 1 t) (iblk m c 2 t) (iblk m c 3 t) (ix2 r j)
      = projK m c ⟨modT t.val, by have h : t.val < 24 := t.isLt; unfold modT; split <;> omega⟩ ⟨t.val * 512 + r.val, by have h : t.val < 24 := t.isLt; omega⟩ j := by
  refine (out_even c (grid0.coords t) (ms0_0 t) (hs0_0 t) (ms0_1 t) (hs0_1 t) (ms0_2 t) (hs0_2 t) (ms0_3 t) (hs0_3 t) (ms0_4 t) (hs0_4 t) _ _ _ _ _).trans ?_
  unfold rowsTimes projK projRow
  refine Finset.sum_congr rfl fun k _ => ?_
  show k0_pay7 (F := Ideal) _ _ _ (ix2 r k) * iblk m c 3 t (ix2 k j) = _
  rw [mod6_at]
  simp only [blk0, blk1, blk2, blk3]

/-- The same at any index of the block, in terms of the row of the whole array. -/
theorem after4' (t : Fin cfg0.N) (y : S512x3712.Idx) (R : Fin 12288) (hR : R.val = t.val * 512 + (y 0).val) :
    outAt c t (iblk m c 0 t) (iblk m c 1 t) (iblk m c 2 t) (iblk m c 3 t) y = projK m c (modOf R) R (y 1) := by
  have ht : t.val < 24 := t.isLt
  have hy : (y 0).val < 512 := (y 0).isLt
  have e1 : (⟨t.val * 512 + (y 0).val, by omega⟩ : Fin 12288) = R := Fin.ext hR.symm
  have e2 : (⟨modT t.val, by unfold modT; split <;> omega⟩ : Fin 16) = modOf R := by
    unfold modOf modT
    split <;> split <;> refine Fin.ext ?_ <;> simp only [Fin.val_zero] <;> omega
  refine (congrArg _ (eq_ix2 y)).trans ((after4 m c t (y 0) (y 1)).trans ?_)
  rw [e1, e2]

/-- Entry `j` of row `R` of the result. -/
def entryK (R j : ℕ) : EReal :=
  if h : R < 12288 ∧ j < 3712 then projK m c (modOf ⟨R, h.1⟩) ⟨R, h.1⟩ ⟨j, h.2⟩ else 0

/-- The same for the rows of a block. -/
theorem after4N (t : Fin cfg0.N) (y : S512x3712.Idx) :
    outAt c t (iblk m c 0 t) (iblk m c 1 t) (iblk m c 2 t) (iblk m c 3 t) y
      = entryK m c (t.val * 512 + (y 0).val) (y 1).val := by
  have ht : t.val < 24 := t.isLt
  have hy : (y 0).val < 512 := (y 0).isLt
  have hy1 : (y 1).val < 3712 := (y 1).isLt
  rw [entryK, dif_pos ⟨by omega, hy1⟩]
  exact after4' m c t y _ rfl

/-- The result array after the run. -/
theorem arr4 : ((dats m 0 c).arrAt 4 cfg0.N : Vec Ideal S12288x3712 .f32) = fun i => entryK m c (i 0).val (i 1).val := by
  refine (dats m 0 c).arrAt_eq_of_covers 4 _ (by decide +kernel) fun t hf y => ?_
  blk_simp [idx4 t, coord0 t]
  rw [after0_4]
  exact after4N m c t y

end Cert.Inproj.EvenVal
-- ==== Proof.InprojEvenClaims.lean ====
/- The claim about the value of the even layers' input projection. -/
module

public import proofs.«01_k».proof.Defs
public import proofs.«01_k».proof.Proof.InprojEvenValue
public import proofs.«01_k».proof.Proof.InprojRef
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Inproj.EvenClaims

open Idealize.ShloMosaic.TcCoe Idealize.SL.Sem Idealize.ShloMosaic Cert.Ffn Cert.Inproj Cert.Inproj.EvenVal

section
open Cert.Kernel6Ideal

variable (m : (ℓ : Loc nD τ sig) → Buf (Elt Ideal) ℓ) (c : Dev nD)

/-- The reference's result is what the kernel's run leaves in its result. -/
theorem same : (Cert.Reference6Ideal.Read.val_main_v66 (F := Ideal) (a0 m c) (a1 m c) (a2 m c) (a3 m c) : Vec Ideal S12288x3712 .f32)
    = (Cert.Kernel6Ideal.Gen.dats m 0 c).arrAt 4 Cert.Kernel6Ideal.cfg0.N := by
  refine Eq.trans ?_ (arr4 m c).symm
  funext i
  have h0 : (i 0).val < 12288 := (i 0).isLt
  have h1 : (i 1).val < 3712 := (i 1).isLt
  show _ = entryK m c (i 0).val (i 1).val
  rw [entryK, dif_pos ⟨h0, h1⟩]
  refine (congrArg _ (eq_ix2 i)).trans ?_
  exact result6 _ _ _ _ (i 0) (i 1)

end

section
open Cert.Reference6Ideal

/-- The reference's run, its result as a function of its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = Read.val_main_v66 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run _ _ _).mono (fun r h c => ⟨(h c).1.trans (Read.val_main_v66_eq _ _), (h c).2⟩)
    (Value.run (F := Ideal) m ρ)

end

/-- Every entry of that call's result agrees, whatever the inputs. -/
theorem value : Cert.algebraic_Kernel6Ideal_Reference6Ideal := by
  intro m g m' g' hpre hagree
  refine ⟨fun c => (Cert.Kernel6Ideal.Gen.dats m 0 c).arrAt 4 Cert.Kernel6Ideal.cfg0.N, ?_, ?_⟩
  · exact Cert.Kernel6Ideal.Value.run_blocks (F := Ideal) m g
  · refine (θ_run _ _ _).mono (fun r h c => ?_) (run_ref m' g')
    obtain ⟨e, k⟩ := h c
    obtain ⟨g0, g1, g2, g3⟩ := hagree c
    rw [g0, g1, g2, g3] at e
    exact ⟨e.trans (same m c), k⟩

end Cert.Inproj.EvenClaims
-- ==== Proof.ModValue.lean ====
/- The modulation: what the call leaves, entry by entry, and the reference's entries. -/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit.Tiles
public import Idealize.ShloMosaic.Lib.Pipeline.ValueKit.Partial

@[expose] public section

set_option maxRecDepth 16384

noncomputable section

namespace Cert.Modn

open Idealize.ShloMosaic.TcCoe Idealize.SL.Sem Idealize.ShloMosaic

/-- A row of conditions, each entry times its logistic, times a column of the weights, with the bias added. -/
def modEntry (cv w : Fin 1024 → EReal) (b : EReal) : EReal :=
  (∑ k, cv k * Ideal.div 1 (1 + Ideal.exp (0 - cv k)) * w k) + b

/-- Row `M` of the conditions: the prompts' row, the eight samples' rows, then rows of zeros. -/
def condRow (samples : Fin 8 → Fin 1024 → EReal) (prompts : Fin 1024 → EReal) (M : Fin 16) : Fin 1024 → EReal :=
  if h : M.val < 1 then prompts else if h : M.val - 1 < 8 then samples ⟨M.val - 1, h⟩ else fun _ => 0

section ref
open Cert.Reference7Ideal

/-- An entry of the reference's result. -/
theorem result7 (x0 x1 x2 x3) (l : Fin 4) (M : Fin 16) (j : Fin 6144) :
    Read.val_main_v19 (F := Ideal) x0 x1 x2 x3 (ix3 l M j)
      = modEntry (condRow (fun s k => x0 (ix2 s k)) (fun k => x1 (ix1 k)) M) (fun k => x2 (ix3 l k j)) (x3 (ix2 l j)) := by
  pointwise [Read.val_main_v19, Read.val_main_v18, Read.val_main_v17, Read.val_main_v16, Read.val_main_v15, Read.val_main_v14,
    Read.val_main_v13, Read.val_main_v12, Read.val_main_v11, Read.val_main_v10, Read.val_main_v9, Read.val_main_v8,
    Read.val_main_v7, Read.val_main_v6, Read.val_main_v5, Read.val_main_v4, Read.val_main_v3, Read.val_main_v2,
    Read.val_main_v1, Read.val_main_v0, Read.val_main_cst,
    Read.val_main_call0_v5, Read.val_main_call0_v4, Read.val_main_call0_v3, Read.val_main_call0_v2, Read.val_main_call0_v1,
    Read.val_main_call0_v0, Read.val_main_call0_cst, Read.val_main_call0_cst_0,
    Read.val_main_call1_v5, Read.val_main_call1_v4, Read.val_main_call1_v3, Read.val_main_call1_v2, Read.val_main_call1_v1,
    Read.val_main_call1_v0, Read.val_main_call1_cst, Read.val_main_call1_cst_0,
    Read.val_main_call2_v5, Read.val_main_call2_v4, Read.val_main_call2_v3, Read.val_main_call2_v2, Read.val_main_call2_v1,
    Read.val_main_call2_v0, Read.val_main_call2_cst, Read.val_main_call2_cst_0]
  unfold modEntry condRow
  simp only [zero_sub]
  by_cases h1 : M.val < 1
  · simp only [dif_pos h1]
  by_cases h2 : M.val - 1 < 8
  · simp only [dif_neg h1, dif_pos h2]
  · simp only [dif_neg h1, dif_neg h2]

end ref

open Cert.Kernel7Ideal Cert.Kernel7Ideal.Gen

/-- What a grid point stores, from its blocks. -/
theorem block_at (X : Vec Ideal S16x1024 .f32) (W : Vec Ideal S1x1024x1536 .f32) (B : Vec Ideal S1x1x1536 .f32) (M : Fin 16) (j : Fin 1536) :
    k0_pay1 (F := Ideal) X W B (ix3 0 M j) = modEntry (fun k => X (ix2 M k)) (fun k => W (ix3 0 k j)) (B (ix3 0 0 j)) := by
  pointwise [k0_pay1]
  rfl

/-- The block is stored whole. -/
theorem out_mod (x0 : Vec Ideal S16x1024 .f32) (x1 : Vec Ideal S1x1024x1536 .f32) (x2 : Vec Ideal S1x1x1536 .f32) :
    out0_3 (F := Ideal) x0 x1 x2 = k0_pay1 (F := Ideal) x0 x1 x2 := by
  unfold out0_3
  rw [show View.ld x0 r0_0 = x0 from View.ld_unit_lit' _ x0 (by intro a; fin_cases a <;> rfl),
    show View.ld x1 r0_1 = x1 from View.ld_unit_lit' _ x1 (by intro a; fin_cases a <;> rfl),
    show View.ld x2 r0_2 = x2 from View.ld_unit_lit' _ x2 (by intro a; fin_cases a <;> rfl)]
  funext y
  refine View.canon_apply_of_pieces (Val := Elt Ideal) (k0_pay1 (F := Ideal) x0 x1 x2) _ ?_ y (cover0_3 _ _)
  intro pc hpc
  simp only [List.mem_cons, List.not_mem_nil, or_false] at hpc
  subst hpc
  intro x
  refine congrArg _ (funext fun a => ?_)
  match a with
  | ⟨0, _⟩ => exact Fin.ext (by show (x 0).val = 0 + 1 * (x 0).val; omega)
  | ⟨1, _⟩ => exact Fin.ext (by show (x 1).val = 0 + 1 * (x 1).val; omega)
  | ⟨2, _⟩ => exact Fin.ext (by show (x 2).val = 0 + 1 * (x 2).val; omega)

variable (m : (ℓ : Loc nD τ sig) → Buf (Elt Ideal) ℓ) (c : Dev nD)

/-- The four arguments. -/
abbrev a0 : Vec Ideal S8x1024 .f32 := m ((c : Thread nD τ).loc main_arg0)
abbrev a1 : Vec Ideal S1024 .f32 := m ((c : Thread nD τ).loc main_arg1)
abbrev a2 : Vec Ideal S4x1024x6144 .f32 := m ((c : Thread nD τ).loc main_arg2)
abbrev a3 : Vec Ideal S4x6144 .f32 := m ((c : Thread nD τ).loc main_arg3)

theorem idx0 : ∀ t : Fin cfg0.N, win0_0.index t = ![0, 0] := (by decide +kernel : ∀ t : Fin grid0.N, _)
theorem idx1 : ∀ t : Fin cfg0.N, win0_1.index t = ![(grid0.coords t 0).val, 0, (grid0.coords t 1).val] := (by decide +kernel : ∀ t : Fin grid0.N, _)
theorem idx2 : ∀ t : Fin cfg0.N, win0_2.index t = ![(grid0.coords t 0).val, 0, (grid0.coords t 1).val] := (by decide +kernel : ∀ t : Fin grid0.N, _)
theorem idx3 : ∀ t : Fin cfg0.N, win0_3.index t = ![(grid0.coords t 0).val, 0, (grid0.coords t 1).val] := (by decide +kernel : ∀ t : Fin grid0.N, _)
theorem coord0 : ∀ t : Fin cfg0.N, (grid0.coords t 0).val = t.val / 4 := (by decide +kernel : ∀ t : Fin grid0.N, _)
theorem coord1 : ∀ t : Fin cfg0.N, (grid0.coords t 1).val = t.val % 4 := (by decide +kernel : ∀ t : Fin grid0.N, _)

/-- The conditions as the kernel is given them. -/
def condRows (x0 : Vec Ideal S8x1024 .f32) (x1 : Vec Ideal S1024 .f32) : Vec Ideal S16x1024 .f32 :=
  concatenate S16x1024 0 [⟨S1x1024, broadcastInDim S1x1024 ![1] bcast_S1024_S1x1024_1 x1⟩, ⟨S8x1024, x0⟩,
    ⟨S7x1024, broadcastInDim S7x1024 ![] bcast_S_S7x1024 (constant (F := Ideal) S_ .f32 0x00000000#32)⟩]
    concatenates_S1x1024_S8x1024_S7x1024_S16x1024_d0

/-- Their rows. -/
theorem cond_at (x0 : Vec Ideal S8x1024 .f32) (x1 : Vec Ideal S1024 .f32) (M : Fin 16) (k : Fin 1024) :
    condRows x0 x1 (ix2 M k) = condRow (fun s k => x0 (ix2 s k)) (fun k => x1 (ix1 k)) M k := by
  pointwise [condRows]
  unfold condRow
  by_cases h1 : M.val < 1
  · simp only [dif_pos h1]
  by_cases h2 : M.val - 1 < 8
  · simp only [dif_neg h1, dif_pos h2]
  · simp only [dif_neg h1, dif_neg h2]

theorem host_v2 : (V m c main_v2 : Vec Ideal S16x1024 .f32) = condRows (a0 m c) (a1 m c) := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The biases as the kernel is given them. -/
theorem host_v3 : (V m c main_v3 : Vec Ideal S4x1x6144 .f32) = shapeCast S4x1x6144 (a3 m c) shapeCasts_S4x6144_S4x1x6144 := by
  simp only [V, hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The conditions, in the block. -/
theorem blk0 (t : Fin cfg0.N) (M : Fin 16) (k : Fin 1024) :
    iblk m c 0 t (ix2 M k) = condRow (fun s k => a0 m c (ix2 s k)) (fun k => a1 m c (ix1 k)) M k := by
  have ht : t.val < 16 := t.isLt
  have h : iblk m c 0 t (ix2 M k) = (V m c main_v2 : Vec Ideal S16x1024 .f32) (ix2 M k) := by
    blk_simp [iblk]
    refine congrArg _ ?_
    blk_ext [idx0 t, coord0 t]
  rw [h, host_v2]
  exact cond_at _ _ M k

/-- The weights of a block. -/
theorem blk1 (t : Fin cfg0.N) (k : Fin 1024) (j : Fin 1536) :
    iblk m c 1 t (ix3 0 k j) = a2 m c (ix3 ⟨t.val / 4, by have h : t.val < 16 := t.isLt; omega⟩ k ⟨t.val % 4 * 1536 + j.val, by omega⟩) := by
  have ht : t.val < 16 := t.isLt
  have h : iblk m c 1 t (ix3 0 k j)
      = (V m c main_arg2 : Vec Ideal S4x1024x6144 .f32) (ix3 ⟨t.val / 4, by omega⟩ k ⟨t.val % 4 * 1536 + j.val, by omega⟩) := by
    blk_simp [iblk]
    refine congrArg _ ?_
    blk_ext [idx1 t, coord0 t, coord1 t]
  rw [h, V_main_arg2]

/-- The biases of a block. -/
theorem blk2 (t : Fin cfg0.N) (j : Fin 1536) :
    iblk m c 2 t (ix3 0 0 j) = a3 m c (ix2 ⟨t.val / 4, by have h : t.val < 16 := t.isLt; omega⟩ ⟨t.val % 4 * 1536 + j.val, by omega⟩) := by
  have ht : t.val < 16 := t.isLt
  have h : iblk m c 2 t (ix3 0 0 j)
      = (V m c main_v3 : Vec Ideal S4x1x6144 .f32) (ix3 ⟨t.val / 4, by omega⟩ 0 ⟨t.val % 4 * 1536 + j.val, by omega⟩) := by
    blk_simp [iblk]
    refine congrArg _ ?_
    blk_ext [idx2 t, coord0 t, coord1 t]
  rw [h, host_v3]
  pointwise []

/-- An entry of the result, from the arguments. -/
def entryM (l : Fin 4) (M : Fin 16) (j : Fin 6144) : EReal :=
  modEntry (condRow (fun s k => a0 m c (ix2 s k)) (fun k => a1 m c (ix1 k)) M) (fun k => a2 m c (ix3 l k j)) (a3 m c (ix2 l j))

/-- The entry that a grid point leaves. -/
theorem after3 (t : Fin cfg0.N) (M : Fin 16) (j : Fin 1536) :
    out0_3 (F := Ideal) (iblk m c 0 t) (iblk m c 1 t) (iblk m c 2 t) (ix3 0 M j)
      = entryM m c ⟨t.val / 4, by have h : t.val < 16 := t.isLt; omega⟩ M ⟨t.val % 4 * 1536 + j.val, by omega⟩ := by
  refine (congrFun (out_mod _ _ _) _).trans ((block_at _ _ _ M j).trans ?_)
  unfold entryM
  simp only [blk0, blk1, blk2]

/-- The same by numbers. -/
def entryN (l M j : ℕ) : EReal :=
  if h : l < 4 ∧ M < 16 ∧ j < 6144 then entryM m c ⟨l, h.1⟩ ⟨M, h.2.1⟩ ⟨j, h.2.2⟩ else 0

/-- The same at any index of the block. -/
theorem after3N (t : Fin cfg0.N) (y : S1x16x1536.Idx) :
    out0_3 (F := Ideal) (iblk m c 0 t) (iblk m c 1 t) (iblk m c 2 t) y
      = entryN m c (t.val / 4) (y 1).val (t.val % 4 * 1536 + (y 2).val) := by
  have ht : t.val < 16 := t.isLt
  have hy1 : (y 1).val < 16 := (y 1).isLt
  have hy2 : (y 2).val < 1536 := (y 2).isLt
  rw [entryN, dif_pos ⟨by omega, hy1, by omega⟩]
  have e : y = ix3 0 (y 1) (y 2) := by
    refine (eq_ix3 y).trans ?_
    exact congrArg (fun z : Fin 1 => (ix3 z (y 1) (y 2) : S1x16x1536.Idx)) (Subsingleton.elim (α := Fin 1) (y 0) 0)
  exact (congrArg _ e).trans (after3 m c t (y 1) (y 2))

/-- The result array after the run. -/
theorem arr3 : ((dats m 0 c).arrAt 3 cfg0.N : Vec Ideal S4x16x6144 .f32) = fun i => entryN m c (i 0).val (i 1).val (i 2).val := by
  refine (dats m 0 c).arrAt_eq_of_covers 3 _ (by decide +kernel) fun t hf y => ?_
  blk_simp [idx3 t, coord0 t, coord1 t]
  rw [after0_3]
  exact after3N m c t y

end Cert.Modn
-- ==== Proof.ModClaims.lean ====
/- The claim about the value of the modulation. -/
module

public import proofs.«01_k».proof.Defs
public import proofs.«01_k».proof.Proof.ModValue
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Modn.Claims

open Idealize.ShloMosaic.TcCoe Idealize.SL.Sem Idealize.ShloMosaic Cert.Modn

section
open Cert.Kernel7Ideal

variable (m : (ℓ : Loc nD τ sig) → Buf (Elt Ideal) ℓ) (c : Dev nD)

/-- The reference's result is what the kernel's run leaves in its result. -/
theorem same : (Cert.Reference7Ideal.Read.val_main_v19 (F := Ideal) (a0 m c) (a1 m c) (a2 m c) (a3 m c) : Vec Ideal S4x16x6144 .f32)
    = (Cert.Kernel7Ideal.Gen.dats m 0 c).arrAt 3 Cert.Kernel7Ideal.cfg0.N := by
  refine Eq.trans ?_ (arr3 m c).symm
  funext i
  have h0 : (i 0).val < 4 := (i 0).isLt
  have h1 : (i 1).val < 16 := (i 1).isLt
  have h2 : (i 2).val < 6144 := (i 2).isLt
  show _ = entryN m c (i 0).val (i 1).val (i 2).val
  rw [entryN, dif_pos ⟨h0, h1, h2⟩]
  refine (congrArg _ (eq_ix3 i)).trans ?_
  exact result7 _ _ _ _ (i 0) (i 1) (i 2)

end

section
open Cert.Reference7Ideal

/-- The reference's run, its result as a function of its arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = Read.val_main_v19 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run _ _ _).mono (fun r h c => ⟨(h c).1.trans (Read.val_main_v19_eq _ _ _ _), (h c).2⟩)
    (Value.run (F := Ideal) m ρ)

end

/-- Every entry of that call's result agrees, whatever the inputs. -/
theorem value : Cert.algebraic_Kernel7Ideal_Reference7Ideal := by
  intro m g m' g' hpre hagree
  refine ⟨fun c => (Cert.Kernel7Ideal.Gen.dats m 0 c).arrAt 3 Cert.Kernel7Ideal.cfg0.N, ?_, ?_⟩
  · exact Cert.Kernel7Ideal.Value.run_blocks (F := Ideal) m g
  · refine (θ_run _ _ _).mono (fun r h c => ?_) (run_ref m' g')
    obtain ⟨e, k⟩ := h c
    obtain ⟨g0, g1, g2, g3⟩ := hagree c
    rw [g0, g1, g2, g3] at e
    exact ⟨e.trans (same m c), k⟩

end Cert.Modn.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal.Frame
public import proofs.«01_k».proof.Proof.Gen.Kernel5
public import proofs.«01_k».proof.Proof.Gen.Kernel5.Frame
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite_inputs
public import proofs.«01_k».proof.Proof.Gen.On_cache_entries
public import proofs.«01_k».proof.Proof.Gen.On_context_rows
public import proofs.«01_k».proof.Proof.CtxClaims
public import proofs.«01_k».proof.Proof.FfnClaims
public import proofs.«01_k».proof.Proof.FfnEvenClaims
public import proofs.«01_k».proof.Proof.FfnMidClaims
public import proofs.«01_k».proof.Proof.InprojOddClaims
public import proofs.«01_k».proof.Proof.InprojEvenClaims
public import proofs.«01_k».proof.Proof.ModClaims
public import Idealize.ShloMosaic.Adequacy
public import Idealize.ShloMosaic.Init

@[expose] public section

noncomputable section

namespace Cert.Proof

open Idealize.ShloMosaic Idealize.SL.Sem Cert.Kernel

/-- The context attention: every run ends, keeps its arguments and leaves every semaphore at zero. -/
theorem frame_ctx : Cert.quiescent_Kernel := fun m ρ _ => Cert.Kernel.Gen.frame m ρ

/-- The same, read at the ideal numbers. -/
theorem frame_ctx_ideal : Cert.quiescent_KernelIdeal := fun m ρ _ => Cert.KernelIdeal.Gen.frame m ρ

/-- The same from finite inputs. -/
theorem frame_ctx_finite : Cert.quiescent_KernelIdeal_pre_finite_inputs := fun m ρ _ => Cert.KernelIdeal.Gen.frame m ρ

/-- The reference of the context attention. -/
theorem frame_ctx_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.Attn.Claims.run_ref m ρ)

/-- The same from finite inputs. -/
theorem frame_ctx_ref_finite : Cert.quiescent_ReferenceIdeal_pre_finite_inputs := fun m ρ _ => frame_ctx_ref m ρ trivial

/-- The last feed-forward call: every run ends, keeps its arguments and leaves every semaphore at zero. -/
theorem frame_ffn : Cert.quiescent_Kernel2 := fun m ρ _ => Cert.Kernel2.Gen.frame m ρ

/-- The same, read at the ideal numbers. -/
theorem frame_ffn_ideal : Cert.quiescent_Kernel2Ideal := fun m ρ _ => Cert.Kernel2Ideal.Gen.frame m ρ

/-- The reference of the last feed-forward call. -/
theorem frame_ffn_ref : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The feed-forward call of the even layers: every run ends, keeps its arguments and leaves every semaphore at zero. -/
theorem frame_ffn_even : Cert.quiescent_Kernel3 := fun m ρ _ => Cert.Kernel3.Gen.frame m ρ

/-- The same, read at the ideal numbers. -/
theorem frame_ffn_even_ideal : Cert.quiescent_Kernel3Ideal := fun m ρ _ => Cert.Kernel3Ideal.Gen.frame m ρ

/-- Its reference. -/
theorem frame_ffn_even_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The feed-forward call of the second layer: every run ends, keeps its arguments and leaves every semaphore at zero. -/
theorem frame_ffn_mid : Cert.quiescent_Kernel4 := fun m ρ _ => Cert.Kernel4.Gen.frame m ρ

/-- The same, read at the ideal numbers. -/
theorem frame_ffn_mid_ideal : Cert.quiescent_Kernel4Ideal := fun m ρ _ => Cert.Kernel4Ideal.Gen.frame m ρ

/-- Its reference. -/
theorem frame_ffn_mid_ref : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The input projection of the odd layers: every run ends, keeps its arguments and leaves every semaphore at zero. -/
theorem frame_inproj_odd : Cert.quiescent_Kernel5 := fun m ρ _ => Cert.Kernel5.Gen.frame m ρ

/-- The same, read at the ideal numbers. -/
theorem frame_inproj_odd_ideal : Cert.quiescent_Kernel5Ideal := fun m ρ _ => Cert.Kernel5Ideal.Gen.frame m ρ

/-- Its reference. -/
theorem frame_inproj_odd_ref : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The input projection of the even layers: every run ends, keeps its arguments and leaves every semaphore at zero. -/
theorem frame_inproj_even : Cert.quiescent_Kernel6 := fun m ρ _ => Cert.Kernel6.Gen.frame m ρ

/-- The same, read at the ideal numbers. -/
theorem frame_inproj_even_ideal : Cert.quiescent_Kernel6Ideal := fun m ρ _ => Cert.Kernel6Ideal.Gen.frame m ρ

/-- Its reference. -/
theorem frame_inproj_even_ref : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The modulation: every run ends, keeps its arguments and leaves every semaphore at zero. -/
theorem frame_modulation : Cert.quiescent_Kernel7 := fun m ρ _ => Cert.Kernel7.Gen.frame m ρ

/-- The same, read at the ideal numbers. -/
theorem frame_modulation_ideal : Cert.quiescent_Kernel7Ideal := fun m ρ _ => Cert.Kernel7Ideal.Gen.frame m ρ

/-- Its reference. -/
theorem frame_modulation_ref : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Pre_finite_inputs.Gen.facts, Cert.On_cache_entries.Gen.facts, Cert.On_context_rows.Gen.facts,
  frame_ctx, frame_ctx_ideal, frame_ctx_finite, frame_ctx_ref, frame_ctx_ref_finite, frame_ffn, frame_ffn_ideal, frame_ffn_ref,
  frame_ffn_even, frame_ffn_even_ideal, frame_ffn_even_ref, frame_ffn_mid, frame_ffn_mid_ideal, frame_ffn_mid_ref, frame_inproj_odd, frame_inproj_odd_ideal, frame_inproj_odd_ref, frame_inproj_even, frame_inproj_even_ideal, frame_inproj_even_ref, frame_modulation, frame_modulation_ideal, frame_modulation_ref,
  trivial, Cert.Attn.Claims.caches, Cert.Attn.Claims.context, trivial, Cert.Ffn.Claims.value,
  trivial, Cert.Ffn.EvenClaims.value,
  trivial, Cert.Ffn.MidClaims.value,
  trivial, Cert.Inproj.OddClaims.value,
  trivial, Cert.Inproj.EvenClaims.value,
  trivial, Cert.Modn.Claims.value⟩

end Cert.Proof

end
